-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).1 = (fun _ => 1#1)
    ∧ (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.1 = (fun _ => 1#1)
    ∧ (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2 = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 = (fun _ => 1#1)

def Pre_KernelIdeal_indices_and_rates [hPre_indices_and_rates : Cert.Pre_indices_and_rates.Facts] (m : (ℓ : Loc Cert.KernelIdeal.nD Cert.KernelIdeal.τ Cert.KernelIdeal.sig) → Buf (Elt Ideal) ℓ) : Prop :=
  ∀ c : Dev Cert.KernelIdeal.nD,
    (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_indices_and_rates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_and_rates [hPre_indices_and_rates : Cert.Pre_indices_and_rates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_indices_and_rates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2 = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_indices_and_rates [hKernelIdeal : Cert.KernelIdeal.Facts] [hPre_indices_and_rates : Cert.Pre_indices_and_rates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_and_rates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_indices_and_rates [hReferenceIdeal : Cert.ReferenceIdeal.Facts] [hPre_indices_and_rates : Cert.Pre_indices_and_rates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_and_rates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_td" .f32 0x3C23D70A#32 ((100⁻¹ : ℝ) : EReal)

def algebraic_KernelIdeal_ReferenceIdeal_pre_indices_and_rates [hKernelIdeal : Cert.KernelIdeal.Facts] [hReferenceIdeal : Cert.ReferenceIdeal.Facts] [hPre_indices_and_rates : Cert.Pre_indices_and_rates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_and_rates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v18_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_19) = v0 c
          ∧ r.2.mem ((c.tc : Thread Cert.ReferenceIdeal.nD Cert.ReferenceIdeal.τ).loc Cert.ReferenceIdeal.main_v7_18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_indices_and_rates : Cert.Pre_indices_and_rates.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_indices_and_rates (hKernelIdeal := hKernelIdeal) (hPre_indices_and_rates := hPre_indices_and_rates)
    ∧ quiescent_ReferenceIdeal (hReferenceIdeal := hReferenceIdeal)
    ∧ quiescent_ReferenceIdeal_pre_indices_and_rates (hReferenceIdeal := hReferenceIdeal) (hPre_indices_and_rates := hPre_indices_and_rates)
    ∧ preserves_Kernel_KernelIdeal
    ∧ algebraic_KernelIdeal_ReferenceIdeal_pre_indices_and_rates (hKernelIdeal := hKernelIdeal) (hReferenceIdeal := hReferenceIdeal) (hPre_indices_and_rates := hPre_indices_and_rates)
-- ==== Pre_indices_and_rates.lean ====
abbrev S200 : Shape := ⟨1, ![200]⟩
abbrev S200x2x4 : Shape := ⟨3, ![200, 2, 4]⟩
abbrev S200x10000x1 : Shape := ⟨3, ![200, 10000, 1]⟩
abbrev S10000x256 : Shape := ⟨2, ![10000, 256]⟩
abbrev S2x1x512 : Shape := ⟨3, ![2, 1, 512]⟩
abbrev S2x1 : Shape := ⟨2, ![2, 1]⟩
abbrev S2 : Shape := ⟨1, ![2]⟩
abbrev S256x256 : Shape := ⟨2, ![256, 256]⟩
abbrev S256 : Shape := ⟨1, ![256]⟩
abbrev S256x4 : Shape := ⟨2, ![256, 4]⟩
abbrev S_ : Shape := ⟨0, ![]⟩

class Facts : Prop where
  bcast_S_S200 : S_.BroadcastsInDim S200 (![] : Fin 0 → Fin S200.rank)
  bcast_S_S2 : S_.BroadcastsInDim S2 (![] : Fin 0 → Fin S2.rank)

variable [Facts]

def fn_part1 {F : FTy → Type} [FloatOps F] (main_arg9 : FVec F S2 .f32) (main_arg10 : FVec F S2 .f32) (main_arg11 : FVec F S2 .f32) (main_v4 : IVec S200 1) (main_v9 : IVec S200 1) (main_v14 : IVec S200 1) (main_v15 : FVec F S200 .f32) (main_v16 : FVec F S200 .f32) : IVec S200 1 × IVec S200 1 × IVec S200 1 × IVec S200 1 × IVec S2 1 × IVec S2 1 × IVec S2 1 :=
  let main_v17 : IVec S200 1 := cmpf .olt main_v15 main_v16
  let main_v18 : FVec F S2 .f32 := Host.absf main_arg9
  let main_cst_5 : FVec F S_ .f32 := constant S_ .f32 0x7F800000#32
  let main_v19 : FVec F S2 .f32 := broadcastInDim S2 ![] bcast_S_S2 main_cst_5
  let main_v20 : IVec S2 1 := cmpf .olt main_v18 main_v19
  let main_cst_6 : FVec F S_ .f32 := constant S_ .f32 0x00000000#32
  let main_v21 : FVec F S2 .f32 := broadcastInDim S2 ![] bcast_S_S2 main_cst_6
  let main_v22 : IVec S2 1 := cmpf .oge main_arg10 main_v21
  let main_cst_7 : FVec F S_ .f32 := constant S_ .f32 0x33D6BF95#32
  let main_v23 : FVec F S2 .f32 := broadcastInDim S2 ![] bcast_S_S2 main_cst_7
  let main_v24 : FVec F S2 .f32 := addf main_arg11 main_v23
  let main_cst_8 : FVec F S_ .f32 := constant S_ .f32 0x00000000#32
  let main_v25 : FVec F S2 .f32 := broadcastInDim S2 ![] bcast_S_S2 main_cst_8
  let main_v26 : IVec S2 1 := cmpf .une main_v24 main_v25
  (main_v4, main_v9, main_v14, main_v17, main_v20, main_v22, main_v26)

def fn {F : FTy → Type} [FloatOps F] (main_arg0 : IVec S200 32) (main_arg1 : IVec S200 32) (main_arg2 : FVec F S200x2x4 .f32) (main_arg3 : IVec S200 32) (main_arg4 : FVec F S200x10000x1 .f32) (main_arg5 : FVec F S200 .f32) (main_arg6 : FVec F S10000x256 .f32) (main_arg7 : FVec F S2x1x512 .f32) (main_arg8 : FVec F S2x1 .f32) (main_arg9 : FVec F S2 .f32) (main_arg10 : FVec F S2 .f32) (main_arg11 : FVec F S2 .f32) (main_arg12 : FVec F S256x256 .f32) (main_arg13 : FVec F S256 .f32) (main_arg14 : FVec F S256x256 .f32) (main_arg15 : FVec F S256 .f32) (main_arg16 : FVec F S256x4 .f32) (main_arg17 : FVec F S256 .f32) : IVec S200 1 × IVec S200 1 × IVec S200 1 × IVec S200 1 × IVec S2 1 × IVec S2 1 × IVec S2 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 10000#32
  let main_v2 : IVec S200 32 := broadcastInDim S200 ![] bcast_S_S200 main_c_0
  let main_v3 : IVec S200 1 := cmpi .slt main_arg0 main_v2
  let main_v4 : IVec S200 1 := andi main_v1 main_v3
  let main_c_1 : IVec S_ 32 := constantI S_ 32 0#32
  let main_v5 : IVec S200 32 := broadcastInDim S200 ![] bcast_S_S200 main_c_1
  let main_v6 : IVec S200 1 := cmpi .sge main_arg1 main_v5
  let main_c_2 : IVec S_ 32 := constantI S_ 32 10000#32
  let main_v7 : IVec S200 32 := broadcastInDim S200 ![] bcast_S_S200 main_c_2
  let main_v8 : IVec S200 1 := cmpi .slt main_arg1 main_v7
  let main_v9 : IVec S200 1 := andi main_v6 main_v8
  let main_c_3 : IVec S_ 32 := constantI S_ 32 0#32
  let main_v10 : IVec S200 32 := broadcastInDim S200 ![] bcast_S_S200 main_c_3
  let main_v11 : IVec S200 1 := cmpi .sge main_arg3 main_v10
  let main_c_4 : IVec S_ 32 := constantI S_ 32 2#32
  let main_v12 : IVec S200 32 := broadcastInDim S200 ![] bcast_S_S200 main_c_4
  let main_v13 : IVec S200 1 := cmpi .slt main_arg3 main_v12
  let main_v14 : IVec S200 1 := andi main_v11 main_v13
  let main_v15 : FVec F S200 .f32 := Host.absf main_arg5
  let main_cst : FVec F S_ .f32 := constant S_ .f32 0x7F800000#32
  let main_v16 : FVec F S200 .f32 := broadcastInDim S200 ![] bcast_S_S200 main_cst
  fn_part1 (F := F) main_arg9 main_arg10 main_arg11 main_v4 main_v9 main_v14 main_v15 main_v16
-- ==== Pre_indices_in_range.lean ====
abbrev S200 : Shape := ⟨1, ![200]⟩
abbrev S200x2x4 : Shape := ⟨3, ![200, 2, 4]⟩
abbrev S200x10000x1 : Shape := ⟨3, ![200, 10000, 1]⟩
abbrev S10000x256 : Shape := ⟨2, ![10000, 256]⟩
abbrev S2x1x512 : Shape := ⟨3, ![2, 1, 512]⟩
abbrev S2x1 : Shape := ⟨2, ![2, 1]⟩
abbrev S2 : Shape := ⟨1, ![2]⟩
abbrev S256x256 : Shape := ⟨2, ![256, 256]⟩
abbrev S256 : Shape := ⟨1, ![256]⟩
abbrev S256x4 : Shape := ⟨2, ![256, 4]⟩
abbrev S_ : Shape := ⟨0, ![]⟩

class Facts : Prop where
  bcast_S_S200 : S_.BroadcastsInDim S200 (![] : Fin 0 → Fin S200.rank)

variable [Facts]

def fn {F : FTy → Type} [FloatOps F] (main_arg0 : IVec S200 32) (main_arg1 : IVec S200 32) (main_arg2 : FVec F S200x2x4 .f32) (main_arg3 : IVec S200 32) (main_arg4 : FVec F S200x10000x1 .f32) (main_arg5 : FVec F S200 .f32) (main_arg6 : FVec F S10000x256 .f32) (main_arg7 : FVec F S2x1x512 .f32) (main_arg8 : FVec F S2x1 .f32) (main_arg9 : FVec F S2 .f32) (main_arg10 : FVec F S2 .f32) (main_arg11 : FVec F S2 .f32) (main_arg12 : FVec F S256x256 .f32) (main_arg13 : FVec F S256 .f32) (main_arg14 : FVec F S256x256 .f32) (main_arg15 : FVec F S256 .f32) (main_arg16 : FVec F S256x4 .f32) (main_arg17 : FVec F S256 .f32) : IVec S200 1 × IVec S200 1 × IVec S200 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 10000#32
  let main_v2 : IVec S200 32 := broadcastInDim S200 ![] bcast_S_S200 main_c_0
  let main_v3 : IVec S200 1 := cmpi .slt main_arg0 main_v2
  let main_v4 : IVec S200 1 := andi main_v1 main_v3
  let main_c_1 : IVec S_ 32 := constantI S_ 32 0#32
  let main_v5 : IVec S200 32 := broadcastInDim S200 ![] bcast_S_S200 main_c_1
  let main_v6 : IVec S200 1 := cmpi .sge main_arg1 main_v5
  let main_c_2 : IVec S_ 32 := constantI S_ 32 10000#32
  let main_v7 : IVec S200 32 := broadcastInDim S200 ![] bcast_S_S200 main_c_2
  let main_v8 : IVec S200 1 := cmpi .slt main_arg1 main_v7
  let main_v9 : IVec S200 1 := andi main_v6 main_v8
  let main_c_3 : IVec S_ 32 := constantI S_ 32 0#32
  let main_v10 : IVec S200 32 := broadcastInDim S200 ![] bcast_S_S200 main_c_3
  let main_v11 : IVec S200 1 := cmpi .sge main_arg3 main_v10
  let main_c_4 : IVec S_ 32 := constantI S_ 32 2#32
  let main_v12 : IVec S200 32 := broadcastInDim S200 ![] bcast_S_S200 main_c_4
  let main_v13 : IVec S200 1 := cmpi .slt main_arg3 main_v12
  let main_v14 : IVec S200 1 := andi main_v11 main_v13
  (main_v4, main_v9, main_v14)
-- ==== Kernel.lean ====
abbrev S200 : Shape := ⟨1, ![200]⟩
abbrev S200x2x4 : Shape := ⟨3, ![200, 2, 4]⟩
abbrev S200x10000x1 : Shape := ⟨3, ![200, 10000, 1]⟩
abbrev S10000x256 : Shape := ⟨2, ![10000, 256]⟩
abbrev S2x1x512 : Shape := ⟨3, ![2, 1, 512]⟩
abbrev S2x1 : Shape := ⟨2, ![2, 1]⟩
abbrev S2 : Shape := ⟨1, ![2]⟩
abbrev S256x256 : Shape := ⟨2, ![256, 256]⟩
abbrev S256 : Shape := ⟨1, ![256]⟩
abbrev S256x4 : Shape := ⟨2, ![256, 4]⟩
abbrev S4 : Shape := ⟨1, ![4]⟩
abbrev S200x8 : Shape := ⟨2, ![200, 8]⟩
abbrev S2x1x256 : Shape := ⟨3, ![2, 1, 256]⟩
abbrev S2x256 : Shape := ⟨2, ![2, 256]⟩
abbrev S1x256 : Shape := ⟨2, ![1, 256]⟩
abbrev S4x256 : Shape := ⟨2, ![4, 256]⟩
abbrev S4x1 : Shape := ⟨2, ![4, 1]⟩
abbrev S200x10000 : Shape := ⟨2, ![200, 10000]⟩
abbrev S200x2 : Shape := ⟨2, ![200, 2]⟩
abbrev S8x10000 : Shape := ⟨2, ![8, 10000]⟩
abbrev S8x2 : Shape := ⟨2, ![8, 2]⟩
abbrev S2x10240 : Shape := ⟨2, ![2, 10240]⟩
abbrev S2x10000 : Shape := ⟨2, ![2, 10000]⟩
abbrev S2x240 : Shape := ⟨2, ![2, 240]⟩
abbrev S1 : Shape := ⟨1, ![1]⟩
abbrev S1x10000 : Shape := ⟨2, ![1, 10000]⟩
abbrev S1x1 : Shape := ⟨2, ![1, 1]⟩
abbrev S1x2 : Shape := ⟨2, ![1, 2]⟩
abbrev S1x8 : Shape := ⟨2, ![1, 8]⟩
abbrev S1x4 : Shape := ⟨2, ![1, 4]⟩
abbrev S2x4 : Shape := ⟨2, ![2, 4]⟩
abbrev S1x128 : Shape := ⟨2, ![1, 128]⟩
abbrev S2x128 : Shape := ⟨2, ![2, 128]⟩
abbrev S200x1 : Shape := ⟨2, ![200, 1]⟩
abbrev S200x1x10000 : Shape := ⟨3, ![200, 1, 10000]⟩
abbrev S200x20000 : Shape := ⟨2, ![200, 20000]⟩
abbrev S8x1 : Shape := ⟨2, ![8, 1]⟩
abbrev S8x1x10000 : Shape := ⟨3, ![8, 1, 10000]⟩
abbrev S8x20000 : Shape := ⟨2, ![8, 20000]⟩
abbrev S8 : Shape := ⟨1, ![8]⟩

abbrev nBuf : Space → Nat
  | .hbm => 47
  | .vmem => 28
  | .smem => 7
  | _ => 0

abbrev bufTy : (tb : Table) → Fin (tcTables nBuf tb) → BufTy
  | .hbm, ⟨0, _⟩ => ⟨S200, .i32⟩
  | .hbm, ⟨1, _⟩ => ⟨S200, .i32⟩
  | .hbm, ⟨2, _⟩ => ⟨S200x2x4, .f32⟩
  | .hbm, ⟨3, _⟩ => ⟨S200, .i32⟩
  | .hbm, ⟨4, _⟩ => ⟨S200x10000x1, .f32⟩
  | .hbm, ⟨5, _⟩ => ⟨S200, .f32⟩
  | .hbm, ⟨6, _⟩ => ⟨S10000x256, .f32⟩
  | .hbm, ⟨7, _⟩ => ⟨S2x1x512, .f32⟩
  | .hbm, ⟨8, _⟩ => ⟨S2x1, .f32⟩
  | .hbm, ⟨9, _⟩ => ⟨S2, .f32⟩
  | .hbm, ⟨10, _⟩ => ⟨S2, .f32⟩
  | .hbm, ⟨11, _⟩ => ⟨S2, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x4, .f32⟩
  | .hbm, ⟨17, _⟩ => ⟨S256, .f32⟩
  | .hbm, ⟨18, _⟩ => ⟨S4, .f32⟩
  | .hbm, ⟨19, _⟩ => ⟨S200x8, .f32⟩
  | .hbm, ⟨20, _⟩ => ⟨S2x1x256, .f32⟩
  | .hbm, ⟨21, _⟩ => ⟨S2x256, .f32⟩
  | .hbm, ⟨22, _⟩ => ⟨S2x1x256, .f32⟩
  | .hbm, ⟨23, _⟩ => ⟨S2x256, .f32⟩
  | .hbm, ⟨24, _⟩ => ⟨S2, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S4x256, .f32⟩
  | .hbm, ⟨29, _⟩ => ⟨S4x1, .f32⟩
  | .hbm, ⟨30, _⟩ => ⟨S4x256, .f32⟩
  | .hbm, ⟨31, _⟩ => ⟨S4x256, .f32⟩
  | .hbm, ⟨32, _⟩ => ⟨S256x256, .f32⟩
  | .hbm, ⟨33, _⟩ => ⟨S256x256, .bf16⟩
  | .hbm, ⟨34, _⟩ => ⟨S256x256, .f32⟩
  | .hbm, ⟨35, _⟩ => ⟨S256x256, .bf16⟩
  | .hbm, ⟨36, _⟩ => ⟨S4x256, .bf16⟩
  | .hbm, ⟨37, _⟩ => ⟨S200x10000, .f32⟩
  | .hbm, ⟨38, _⟩ => ⟨S200x2, .f32⟩
  | .hbm, ⟨39, _⟩ => ⟨S10000x256, .f32⟩
  | .hbm, ⟨40, _⟩ => ⟨S200x1, .i32⟩
  | .hbm, ⟨41, _⟩ => ⟨S200x1, .i32⟩
  | .hbm, ⟨42, _⟩ => ⟨S200x2, .i32⟩
  | .hbm, ⟨43, _⟩ => ⟨S200x1, .i32⟩
  | .hbm, ⟨44, _⟩ => ⟨S200x1, .f32⟩
  | .hbm, ⟨45, _⟩ => ⟨S200x1x10000, .f32⟩
  | .hbm, ⟨46, _⟩ => ⟨S200x20000, .f32⟩
  | .local _ .vmem, ⟨0, _⟩ => ⟨S200x8, .f32⟩
  | .local _ .vmem, ⟨1, _⟩ => ⟨S10000x256, .f32⟩
  | .local _ .vmem, ⟨2, _⟩ => ⟨S2x256, .f32⟩
  | .local _ .vmem, ⟨3, _⟩ => ⟨S2x256, .f32⟩
  | .local _ .vmem, ⟨4, _⟩ => ⟨S256x256, .bf16⟩
  | .local _ .vmem, ⟨5, _⟩ => ⟨S256x256, .bf16⟩
  | .local _ .vmem, ⟨6, _⟩ => ⟨S4x256, .bf16⟩
  | .local _ .vmem, ⟨7, _⟩ => ⟨S1x256, .f32⟩
  | .local _ .vmem, ⟨8, _⟩ => ⟨S8x10000, .f32⟩
  | .local _ .vmem, ⟨9, _⟩ => ⟨S8x10000, .f32⟩
  | .local _ .vmem, ⟨10, _⟩ => ⟨S8x2, .f32⟩
  | .local _ .vmem, ⟨11, _⟩ => ⟨S8x2, .f32⟩
  | .local _ .vmem, ⟨12, _⟩ => ⟨S10000x256, .f32⟩
  | .local _ .vmem, ⟨13, _⟩ => ⟨S2x10240, .f32⟩
  | .local _ .vmem, ⟨14, _⟩ => ⟨S8x2, .i32⟩
  | .local _ .vmem, ⟨15, _⟩ => ⟨S8x2, .i32⟩
  | .local _ .vmem, ⟨16, _⟩ => ⟨S8x1, .i32⟩
  | .local _ .vmem, ⟨17, _⟩ => ⟨S8x1, .i32⟩
  | .local _ .vmem, ⟨18, _⟩ => ⟨S8x1, .f32⟩
  | .local _ .vmem, ⟨19, _⟩ => ⟨S8x1, .f32⟩
  | .local _ .vmem, ⟨20, _⟩ => ⟨S8x1x10000, .f32⟩
  | .local _ .vmem, ⟨21, _⟩ => ⟨S8x1x10000, .f32⟩
  | .local _ .vmem, ⟨22, _⟩ => ⟨S8x10000, .f32⟩
  | .local _ .vmem, ⟨23, _⟩ => ⟨S8x10000, .f32⟩
  | .local _ .vmem, ⟨24, _⟩ => ⟨S8x2, .f32⟩
  | .local _ .vmem, ⟨25, _⟩ => ⟨S8x2, .f32⟩
  | .local _ .vmem, ⟨26, _⟩ => ⟨S8x20000, .f32⟩
  | .local _ .vmem, ⟨27, _⟩ => ⟨S8x20000, .f32⟩
  | .local _ .smem, ⟨0, _⟩ => ⟨S200, .i32⟩
  | .local _ .smem, ⟨1, _⟩ => ⟨S200, .i32⟩
  | .local _ .smem, ⟨2, _⟩ => ⟨S200, .i32⟩
  | .local _ .smem, ⟨3, _⟩ => ⟨S2, .f32⟩
  | .local _ .smem, ⟨4, _⟩ => ⟨S2, .f32⟩
  | .local _ .smem, ⟨5, _⟩ => ⟨S2, .f32⟩
  | .local _ .smem, ⟨6, _⟩ => ⟨S2, .f32⟩
  | _, _ => ⟨S200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg11_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_scratch0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc1_stg0_0 : Ref sig .tc := ⟨.smem, 3, rfl⟩
abbrev cc1_stg1_0 : Ref sig .tc := ⟨.smem, 4, rfl⟩
abbrev cc1_stg2_0 : Ref sig .tc := ⟨.smem, 5, rfl⟩
abbrev cc1_stg3_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![25], ![false]⟩

def k0_off1 (i : grid0.Coords) : Fin 1 → Nat :=
  let c8_i32 : BitVec 32 := 8#32
  let arg0 : BitVec 32 := BitVec.ofNat 32 (i 0).val
  let v3 : BitVec 32 := Scalar.muli c8_i32 arg0
  let c0_i32_1 : BitVec 32 := 0#32
  let v4 : BitVec 32 := Scalar.addi v3 c0_i32_1
  let v5 : Index := Scalar.indexCast v4
  ![v5.toNat]
def k0_off2 (v6 : BitVec 32) : Fin 2 → Nat :=
  let v11 : Index := Scalar.indexCast v6
  let c0 : Index := 0#32
  ![v11.toNat, 0]

def k0_off3 (v8 : BitVec 32) : Fin 2 → Nat :=
  let v14 : Index := Scalar.indexCast v8
  let c0_2 : Index := 0#32
  ![v14.toNat, 0]

def k0_off4 (v10 : BitVec 32) : Fin 2 → Nat :=
  let v17 : Index := Scalar.indexCast v10
  let c0_3 : Index := 0#32
  ![v17.toNat, 0]

def k0_off5 (v10 : BitVec 32) : Fin 2 → Nat :=
  let v20 : Index := Scalar.indexCast v10
  let c0_6 : Index := 0#32
  ![v20.toNat, 0]

def k0_chk3 (v10 : BitVec 32) : Prop :=
  (∀ a, (k0_off4 v10) a + S1x10000.size a ≤ S2x10240.size a) ∧
  (∀ a, (k0_off5 v10) a + S1x256.size a ≤ S2x256.size a)
theorem k0_off4_inb : ∀ (v10 : BitVec 32) (k0_hw3 : k0_chk3 v10), ∀ a, (k0_off4 v10) a + S1x10000.size a ≤ S2x10240.size a := fun v10 k0_hw3 => k0_hw3.1
theorem k0_off5_inb : ∀ (v10 : BitVec 32) (k0_hw3 : k0_chk3 v10), ∀ a, (k0_off5 v10) a + S1x256.size a ≤ S2x256.size a := fun v10 k0_hw3 => k0_hw3.2

def k0_off6 (i : grid0.Coords) : Fin 2 → Nat :=
  let c8_i32 : BitVec 32 := 8#32
  let arg0 : BitVec 32 := BitVec.ofNat 32 (i 0).val
  let v3 : BitVec 32 := Scalar.muli c8_i32 arg0
  let c0_i32_1 : BitVec 32 := 0#32
  let v4 : BitVec 32 := Scalar.addi v3 c0_i32_1
  let v31 : Index := Scalar.indexCast v4
  let c0_10 : Index := 0#32
  ![v31.toNat, 0]
def k0_off7 (v6 : BitVec 32) : Fin 2 → Nat :=
  let v60 : Index := Scalar.indexCast v6
  let c0_22 : Index := 0#32
  ![v60.toNat, 0]
def k0_off8 (v8 : BitVec 32) : Fin 2 → Nat :=
  let v62 : Index := Scalar.indexCast v8
  let c0_23 : Index := 0#32
  ![v62.toNat, 0]
def k0_mult1 (v6 : BitVec 32) : BitVec 32 :=
  let c0_i32_30 : BitVec 32 := 0#32
  let v78 : BitVec 1 := Scalar.cmpi .sgt v6 c0_i32_30
  let v79 : BitVec 32 := Scalar.extui v78
  let c0_i32_31 : BitVec 32 := 0#32
  let v80 : BitVec 1 := Scalar.cmpi .slt v6 c0_i32_31
  let v81 : BitVec 32 := Scalar.extui v80
  let v82 : BitVec 32 := Scalar.subi v79 v81
  let c128_i32 : BitVec 32 := 128#32
  let c0_i32_32 : BitVec 32 := 0#32
  let v83 : BitVec 1 := Scalar.cmpi .sgt c128_i32 c0_i32_32
  let v84 : BitVec 32 := Scalar.extui v83
  let c0_i32_33 : BitVec 32 := 0#32
  let v85 : BitVec 1 := Scalar.cmpi .slt c128_i32 c0_i32_33
  let v86 : BitVec 32 := Scalar.extui v85
  let v87 : BitVec 32 := Scalar.subi v84 v86
  let v88 : BitVec 1 := Scalar.cmpi .ne v82 v87
  let v89 : BitVec 32 := Scalar.remsi v6 c128_i32
  let c0_i32_34 : BitVec 32 := 0#32
  let v90 : BitVec 1 := Scalar.cmpi .ne v89 c0_i32_34
  let v91 : BitVec 1 := Scalar.andi v88 v90
  let v77 : BitVec 32 := Scalar.divsi v6 c128_i32
  let c1_i32 : BitVec 32 := 1#32
  let v92 : BitVec 32 := Scalar.subi v77 c1_i32
  let v93 : BitVec 32 := Scalar.select v91 v92 v77
  let c128_i32_35 : BitVec 32 := 128#32
  let v94 : BitVec 32 := Scalar.muli v93 c128_i32_35
  v94
def k0_off9 (v6 : BitVec 32) : Fin 2 → Nat :=
  let c0_36 : Index := 0#32
  let c0_i32_30 : BitVec 32 := 0#32
  let v78 : BitVec 1 := Scalar.cmpi .sgt v6 c0_i32_30
  let v79 : BitVec 32 := Scalar.extui v78
  let c0_i32_31 : BitVec 32 := 0#32
  let v80 : BitVec 1 := Scalar.cmpi .slt v6 c0_i32_31
  let v81 : BitVec 32 := Scalar.extui v80
  let v82 : BitVec 32 := Scalar.subi v79 v81
  let c128_i32 : BitVec 32 := 128#32
  let c0_i32_32 : BitVec 32 := 0#32
  let v83 : BitVec 1 := Scalar.cmpi .sgt c128_i32 c0_i32_32
  let v84 : BitVec 32 := Scalar.extui v83
  let c0_i32_33 : BitVec 32 := 0#32
  let v85 : BitVec 1 := Scalar.cmpi .slt c128_i32 c0_i32_33
  let v86 : BitVec 32 := Scalar.extui v85
  let v87 : BitVec 32 := Scalar.subi v84 v86
  let v88 : BitVec 1 := Scalar.cmpi .ne v82 v87
  let v89 : BitVec 32 := Scalar.remsi v6 c128_i32
  let c0_i32_34 : BitVec 32 := 0#32
  let v90 : BitVec 1 := Scalar.cmpi .ne v89 c0_i32_34
  let v91 : BitVec 1 := Scalar.andi v88 v90
  let v77 : BitVec 32 := Scalar.divsi v6 c128_i32
  let c1_i32 : BitVec 32 := 1#32
  let v92 : BitVec 32 := Scalar.subi v77 c1_i32
  let v93 : BitVec 32 := Scalar.select v91 v92 v77
  let c128_i32_35 : BitVec 32 := 128#32
  let v94 : BitVec 32 := Scalar.muli v93 c128_i32_35
  let v95 : BitVec 32 := v94
  let v96 : Index := Scalar.indexCast v95
  ![0, v96.toNat]

def k0_chk1 (v6 : BitVec 32) : Prop :=
  (∀ a, (k0_off2 v6) a + S1x256.size a ≤ S10000x256.size a) ∧
  (∀ a, (k0_off7 v6) a + S1x256.size a ≤ S10000x256.size a) ∧
  (128 ∣ (k0_mult1 v6).toNat) ∧
  (∀ a, (k0_off9 v6) a + S2x128.size a ≤ S2x10240.size a)
theorem k0_off2_inb : ∀ (v6 : BitVec 32) (k0_hw1 : k0_chk1 v6), ∀ a, (k0_off2 v6) a + S1x256.size a ≤ S10000x256.size a := fun v6 k0_hw1 => k0_hw1.1
theorem k0_off7_inb : ∀ (v6 : BitVec 32) (k0_hw1 : k0_chk1 v6), ∀ a, (k0_off7 v6) a + S1x256.size a ≤ S10000x256.size a := fun v6 k0_hw1 => k0_hw1.2.1
theorem k0_mult1_dvd : ∀ (v6 : BitVec 32) (k0_hw1 : k0_chk1 v6), 128 ∣ (k0_mult1 v6).toNat := fun v6 k0_hw1 => k0_hw1.2.2.1
theorem k0_off9_inb : ∀ (v6 : BitVec 32) (k0_hw1 : k0_chk1 v6), ∀ a, (k0_off9 v6) a + S2x128.size a ≤ S2x10240.size a := fun v6 k0_hw1 => k0_hw1.2.2.2

def k0_mult2 (v8 : BitVec 32) : BitVec 32 :=
  let c0_i32_45 : BitVec 32 := 0#32
  let v120 : BitVec 1 := Scalar.cmpi .sgt v8 c0_i32_45
  let v121 : BitVec 32 := Scalar.extui v120
  let c0_i32_46 : BitVec 32 := 0#32
  let v122 : BitVec 1 := Scalar.cmpi .slt v8 c0_i32_46
  let v123 : BitVec 32 := Scalar.extui v122
  let v124 : BitVec 32 := Scalar.subi v121 v123
  let c128_i32_44 : BitVec 32 := 128#32
  let c0_i32_47 : BitVec 32 := 0#32
  let v125 : BitVec 1 := Scalar.cmpi .sgt c128_i32_44 c0_i32_47
  let v126 : BitVec 32 := Scalar.extui v125
  let c0_i32_48 : BitVec 32 := 0#32
  let v127 : BitVec 1 := Scalar.cmpi .slt c128_i32_44 c0_i32_48
  let v128 : BitVec 32 := Scalar.extui v127
  let v129 : BitVec 32 := Scalar.subi v126 v128
  let v130 : BitVec 1 := Scalar.cmpi .ne v124 v129
  let v131 : BitVec 32 := Scalar.remsi v8 c128_i32_44
  let c0_i32_49 : BitVec 32 := 0#32
  let v132 : BitVec 1 := Scalar.cmpi .ne v131 c0_i32_49
  let v133 : BitVec 1 := Scalar.andi v130 v132
  let v119 : BitVec 32 := Scalar.divsi v8 c128_i32_44
  let c1_i32_50 : BitVec 32 := 1#32
  let v134 : BitVec 32 := Scalar.subi v119 c1_i32_50
  let v135 : BitVec 32 := Scalar.select v133 v134 v119
  let c128_i32_51 : BitVec 32 := 128#32
  let v136 : BitVec 32 := Scalar.muli v135 c128_i32_51
  v136
def k0_off10 (v8 : BitVec 32) : Fin 2 → Nat :=
  let c0_52 : Index := 0#32
  let c0_i32_45 : BitVec 32 := 0#32
  let v120 : BitVec 1 := Scalar.cmpi .sgt v8 c0_i32_45
  let v121 : BitVec 32 := Scalar.extui v120
  let c0_i32_46 : BitVec 32 := 0#32
  let v122 : BitVec 1 := Scalar.cmpi .slt v8 c0_i32_46
  let v123 : BitVec 32 := Scalar.extui v122
  let v124 : BitVec 32 := Scalar.subi v121 v123
  let c128_i32_44 : BitVec 32 := 128#32
  let c0_i32_47 : BitVec 32 := 0#32
  let v125 : BitVec 1 := Scalar.cmpi .sgt c128_i32_44 c0_i32_47
  let v126 : BitVec 32 := Scalar.extui v125
  let c0_i32_48 : BitVec 32 := 0#32
  let v127 : BitVec 1 := Scalar.cmpi .slt c128_i32_44 c0_i32_48
  let v128 : BitVec 32 := Scalar.extui v127
  let v129 : BitVec 32 := Scalar.subi v126 v128
  let v130 : BitVec 1 := Scalar.cmpi .ne v124 v129
  let v131 : BitVec 32 := Scalar.remsi v8 c128_i32_44
  let c0_i32_49 : BitVec 32 := 0#32
  let v132 : BitVec 1 := Scalar.cmpi .ne v131 c0_i32_49
  let v133 : BitVec 1 := Scalar.andi v130 v132
  let v119 : BitVec 32 := Scalar.divsi v8 c128_i32_44
  let c1_i32_50 : BitVec 32 := 1#32
  let v134 : BitVec 32 := Scalar.subi v119 c1_i32_50
  let v135 : BitVec 32 := Scalar.select v133 v134 v119
  let c128_i32_51 : BitVec 32 := 128#32
  let v136 : BitVec 32 := Scalar.muli v135 c128_i32_51
  let v137 : BitVec 32 := v136
  let v138 : Index := Scalar.indexCast v137
  ![0, v138.toNat]

def k0_chk2 (v8 : BitVec 32) : Prop :=
  (∀ a, (k0_off3 v8) a + S1x256.size a ≤ S10000x256.size a) ∧
  (∀ a, (k0_off8 v8) a + S1x256.size a ≤ S10000x256.size a) ∧
  (128 ∣ (k0_mult2 v8).toNat) ∧
  (∀ a, (k0_off10 v8) a + S2x128.size a ≤ S2x10240.size a)
theorem k0_off3_inb : ∀ (v8 : BitVec 32) (k0_hw2 : k0_chk2 v8), ∀ a, (k0_off3 v8) a + S1x256.size a ≤ S10000x256.size a := fun v8 k0_hw2 => k0_hw2.1
theorem k0_off8_inb : ∀ (v8 : BitVec 32) (k0_hw2 : k0_chk2 v8), ∀ a, (k0_off8 v8) a + S1x256.size a ≤ S10000x256.size a := fun v8 k0_hw2 => k0_hw2.2.1
theorem k0_mult2_dvd : ∀ (v8 : BitVec 32) (k0_hw2 : k0_chk2 v8), 128 ∣ (k0_mult2 v8).toNat := fun v8 k0_hw2 => k0_hw2.2.2.1
theorem k0_off10_inb : ∀ (v8 : BitVec 32) (k0_hw2 : k0_chk2 v8), ∀ a, (k0_off10 v8) a + S2x128.size a ≤ S2x10240.size a := fun v8 k0_hw2 => k0_hw2.2.2.2

def k0_off11 (i : grid0.Coords) : Fin 1 → Nat :=
  let c8_i32 : BitVec 32 := 8#32
  let arg0 : BitVec 32 := BitVec.ofNat 32 (i 0).val
  let v3 : BitVec 32 := Scalar.muli c8_i32 arg0
  let c1_i32_60 : BitVec 32 := 1#32
  let v161 : BitVec 32 := Scalar.addi v3 c1_i32_60
  let v162 : Index := Scalar.indexCast v161
  ![v162.toNat]
def k0_off12 (v163 : BitVec 32) : Fin 2 → Nat :=
  let v168 : Index := Scalar.indexCast v163
  let c0_61 : Index := 0#32
  ![v168.toNat, 0]

def k0_off13 (v165 : BitVec 32) : Fin 2 → Nat :=
  let v171 : Index := Scalar.indexCast v165
  let c0_62 : Index := 0#32
  ![v171.toNat, 0]

def k0_off14 (v167 : BitVec 32) : Fin 2 → Nat :=
  let v174 : Index := Scalar.indexCast v167
  let c0_63 : Index := 0#32
  ![v174.toNat, 0]

def k0_off15 (v167 : BitVec 32) : Fin 2 → Nat :=
  let v177 : Index := Scalar.indexCast v167
  let c0_65 : Index := 0#32
  ![v177.toNat, 0]

def k0_chk6 (v167 : BitVec 32) : Prop :=
  (∀ a, (k0_off14 v167) a + S1x10000.size a ≤ S2x10240.size a) ∧
  (∀ a, (k0_off15 v167) a + S1x256.size a ≤ S2x256.size a)
theorem k0_off14_inb : ∀ (v167 : BitVec 32) (k0_hw6 : k0_chk6 v167), ∀ a, (k0_off14 v167) a + S1x10000.size a ≤ S2x10240.size a := fun v167 k0_hw6 => k0_hw6.1
theorem k0_off15_inb : ∀ (v167 : BitVec 32) (k0_hw6 : k0_chk6 v167), ∀ a, (k0_off15 v167) a + S1x256.size a ≤ S2x256.size a := fun v167 k0_hw6 => k0_hw6.2

def k0_off16 (i : grid0.Coords) : Fin 2 → Nat :=
  let c8_i32 : BitVec 32 := 8#32
  let arg0 : BitVec 32 := BitVec.ofNat 32 (i 0).val
  let v3 : BitVec 32 := Scalar.muli c8_i32 arg0
  let c1_i32_60 : BitVec 32 := 1#32
  let v161 : BitVec 32 := Scalar.addi v3 c1_i32_60
  let v188 : Index := Scalar.indexCast v161
  let c0_70 : Index := 0#32
  ![v188.toNat, 0]
def k0_off17 (v163 : BitVec 32) : Fin 2 → Nat :=
  let v217 : Index := Scalar.indexCast v163
  let c0_82 : Index := 0#32
  ![v217.toNat, 0]
def k0_off18 (v165 : BitVec 32) : Fin 2 → Nat :=
  let v219 : Index := Scalar.indexCast v165
  let c0_83 : Index := 0#32
  ![v219.toNat, 0]
def k0_mult3 (v163 : BitVec 32) : BitVec 32 :=
  let c0_i32_91 : BitVec 32 := 0#32
  let v235 : BitVec 1 := Scalar.cmpi .sgt v163 c0_i32_91
  let v236 : BitVec 32 := Scalar.extui v235
  let c0_i32_92 : BitVec 32 := 0#32
  let v237 : BitVec 1 := Scalar.cmpi .slt v163 c0_i32_92
  let v238 : BitVec 32 := Scalar.extui v237
  let v239 : BitVec 32 := Scalar.subi v236 v238
  let c128_i32_90 : BitVec 32 := 128#32
  let c0_i32_93 : BitVec 32 := 0#32
  let v240 : BitVec 1 := Scalar.cmpi .sgt c128_i32_90 c0_i32_93
  let v241 : BitVec 32 := Scalar.extui v240
  let c0_i32_94 : BitVec 32 := 0#32
  let v242 : BitVec 1 := Scalar.cmpi .slt c128_i32_90 c0_i32_94
  let v243 : BitVec 32 := Scalar.extui v242
  let v244 : BitVec 32 := Scalar.subi v241 v243
  let v245 : BitVec 1 := Scalar.cmpi .ne v239 v244
  let v246 : BitVec 32 := Scalar.remsi v163 c128_i32_90
  let c0_i32_95 : BitVec 32 := 0#32
  let v247 : BitVec 1 := Scalar.cmpi .ne v246 c0_i32_95
  let v248 : BitVec 1 := Scalar.andi v245 v247
  let v234 : BitVec 32 := Scalar.divsi v163 c128_i32_90
  let c1_i32_96 : BitVec 32 := 1#32
  let v249 : BitVec 32 := Scalar.subi v234 c1_i32_96
  let v250 : BitVec 32 := Scalar.select v248 v249 v234
  let c128_i32_97 : BitVec 32 := 128#32
  let v251 : BitVec 32 := Scalar.muli v250 c128_i32_97
  v251
def k0_off19 (v163 : BitVec 32) : Fin 2 → Nat :=
  let c0_98 : Index := 0#32
  let c0_i32_91 : BitVec 32 := 0#32
  let v235 : BitVec 1 := Scalar.cmpi .sgt v163 c0_i32_91
  let v236 : BitVec 32 := Scalar.extui v235
  let c0_i32_92 : BitVec 32 := 0#32
  let v237 : BitVec 1 := Scalar.cmpi .slt v163 c0_i32_92
  let v238 : BitVec 32 := Scalar.extui v237
  let v239 : BitVec 32 := Scalar.subi v236 v238
  let c128_i32_90 : BitVec 32 := 128#32
  let c0_i32_93 : BitVec 32 := 0#32
  let v240 : BitVec 1 := Scalar.cmpi .sgt c128_i32_90 c0_i32_93
  let v241 : BitVec 32 := Scalar.extui v240
  let c0_i32_94 : BitVec 32 := 0#32
  let v242 : BitVec 1 := Scalar.cmpi .slt c128_i32_90 c0_i32_94
  let v243 : BitVec 32 := Scalar.extui v242
  let v244 : BitVec 32 := Scalar.subi v241 v243
  let v245 : BitVec 1 := Scalar.cmpi .ne v239 v244
  let v246 : BitVec 32 := Scalar.remsi v163 c128_i32_90
  let c0_i32_95 : BitVec 32 := 0#32
  let v247 : BitVec 1 := Scalar.cmpi .ne v246 c0_i32_95
  let v248 : BitVec 1 := Scalar.andi v245 v247
  let v234 : BitVec 32 := Scalar.divsi v163 c128_i32_90
  let c1_i32_96 : BitVec 32 := 1#32
  let v249 : BitVec 32 := Scalar.subi v234 c1_i32_96
  let v250 : BitVec 32 := Scalar.select v248 v249 v234
  let c128_i32_97 : BitVec 32 := 128#32
  let v251 : BitVec 32 := Scalar.muli v250 c128_i32_97
  let v252 : BitVec 32 := v251
  let v253 : Index := Scalar.indexCast v252
  ![0, v253.toNat]

def k0_chk4 (v163 : BitVec 32) : Prop :=
  (∀ a, (k0_off12 v163) a + S1x256.size a ≤ S10000x256.size a) ∧
  (∀ a, (k0_off17 v163) a + S1x256.size a ≤ S10000x256.size a) ∧
  (128 ∣ (k0_mult3 v163).toNat) ∧
  (∀ a, (k0_off19 v163) a + S2x128.size a ≤ S2x10240.size a)
theorem k0_off12_inb : ∀ (v163 : BitVec 32) (k0_hw4 : k0_chk4 v163), ∀ a, (k0_off12 v163) a + S1x256.size a ≤ S10000x256.size a := fun v163 k0_hw4 => k0_hw4.1
theorem k0_off17_inb : ∀ (v163 : BitVec 32) (k0_hw4 : k0_chk4 v163), ∀ a, (k0_off17 v163) a + S1x256.size a ≤ S10000x256.size a := fun v163 k0_hw4 => k0_hw4.2.1
theorem k0_mult3_dvd : ∀ (v163 : BitVec 32) (k0_hw4 : k0_chk4 v163), 128 ∣ (k0_mult3 v163).toNat := fun v163 k0_hw4 => k0_hw4.2.2.1
theorem k0_off19_inb : ∀ (v163 : BitVec 32) (k0_hw4 : k0_chk4 v163), ∀ a, (k0_off19 v163) a + S2x128.size a ≤ S2x10240.size a := fun v163 k0_hw4 => k0_hw4.2.2.2

def k0_mult4 (v165 : BitVec 32) : BitVec 32 :=
  let c0_i32_107 : BitVec 32 := 0#32
  let v277 : BitVec 1 := Scalar.cmpi .sgt v165 c0_i32_107
  let v278 : BitVec 32 := Scalar.extui v277
  let c0_i32_108 : BitVec 32 := 0#32
  let v279 : BitVec 1 := Scalar.cmpi .slt v165 c0_i32_108
  let v280 : BitVec 32 := Scalar.extui v279
  let v281 : BitVec 32 := Scalar.subi v278 v280
  let c128_i32_106 : BitVec 32 := 128#32
  let c0_i32_109 : BitVec 32 := 0#32
  let v282 : BitVec 1 := Scalar.cmpi .sgt c128_i32_106 c0_i32_109
  let v283 : BitVec 32 := Scalar.extui v282
  let c0_i32_110 : BitVec 32 := 0#32
  let v284 : BitVec 1 := Scalar.cmpi .slt c128_i32_106 c0_i32_110
  let v285 : BitVec 32 := Scalar.extui v284
  let v286 : BitVec 32 := Scalar.subi v283 v285
  let v287 : BitVec 1 := Scalar.cmpi .ne v281 v286
  let v288 : BitVec 32 := Scalar.remsi v165 c128_i32_106
  let c0_i32_111 : BitVec 32 := 0#32
  let v289 : BitVec 1 := Scalar.cmpi .ne v288 c0_i32_111
  let v290 : BitVec 1 := Scalar.andi v287 v289
  let v276 : BitVec 32 := Scalar.divsi v165 c128_i32_106
  let c1_i32_112 : BitVec 32 := 1#32
  let v291 : BitVec 32 := Scalar.subi v276 c1_i32_112
  let v292 : BitVec 32 := Scalar.select v290 v291 v276
  let c128_i32_113 : BitVec 32 := 128#32
  let v293 : BitVec 32 := Scalar.muli v292 c128_i32_113
  v293
def k0_off20 (v165 : BitVec 32) : Fin 2 → Nat :=
  let c0_114 : Index := 0#32
  let c0_i32_107 : BitVec 32 := 0#32
  let v277 : BitVec 1 := Scalar.cmpi .sgt v165 c0_i32_107
  let v278 : BitVec 32 := Scalar.extui v277
  let c0_i32_108 : BitVec 32 := 0#32
  let v279 : BitVec 1 := Scalar.cmpi .slt v165 c0_i32_108
  let v280 : BitVec 32 := Scalar.extui v279
  let v281 : BitVec 32 := Scalar.subi v278 v280
  let c128_i32_106 : BitVec 32 := 128#32
  let c0_i32_109 : BitVec 32 := 0#32
  let v282 : BitVec 1 := Scalar.cmpi .sgt c128_i32_106 c0_i32_109
  let v283 : BitVec 32 := Scalar.extui v282
  let c0_i32_110 : BitVec 32 := 0#32
  let v284 : BitVec 1 := Scalar.cmpi .slt c128_i32_106 c0_i32_110
  let v285 : BitVec 32 := Scalar.extui v284
  let v286 : BitVec 32 := Scalar.subi v283 v285
  let v287 : BitVec 1 := Scalar.cmpi .ne v281 v286
  let v288 : BitVec 32 := Scalar.remsi v165 c128_i32_106
  let c0_i32_111 : BitVec 32 := 0#32
  let v289 : BitVec 1 := Scalar.cmpi .ne v288 c0_i32_111
  let v290 : BitVec 1 := Scalar.andi v287 v289
  let v276 : BitVec 32 := Scalar.divsi v165 c128_i32_106
  let c1_i32_112 : BitVec 32 := 1#32
  let v291 : BitVec 32 := Scalar.subi v276 c1_i32_112
  let v292 : BitVec 32 := Scalar.select v290 v291 v276
  let c128_i32_113 : BitVec 32 := 128#32
  let v293 : BitVec 32 := Scalar.muli v292 c128_i32_113
  let v294 : BitVec 32 := v293
  let v295 : Index := Scalar.indexCast v294
  ![0, v295.toNat]

def k0_chk5 (v165 : BitVec 32) : Prop :=
  (∀ a, (k0_off13 v165) a + S1x256.size a ≤ S10000x256.size a) ∧
  (∀ a, (k0_off18 v165) a + S1x256.size a ≤ S10000x256.size a) ∧
  (128 ∣ (k0_mult4 v165).toNat) ∧
  (∀ a, (k0_off20 v165) a + S2x128.size a ≤ S2x10240.size a)
theorem k0_off13_inb : ∀ (v165 : BitVec 32) (k0_hw5 : k0_chk5 v165), ∀ a, (k0_off13 v165) a + S1x256.size a ≤ S10000x256.size a := fun v165 k0_hw5 => k0_hw5.1
theorem k0_off18_inb : ∀ (v165 : BitVec 32) (k0_hw5 : k0_chk5 v165), ∀ a, (k0_off18 v165) a + S1x256.size a ≤ S10000x256.size a := fun v165 k0_hw5 => k0_hw5.2.1
theorem k0_mult4_dvd : ∀ (v165 : BitVec 32) (k0_hw5 : k0_chk5 v165), 128 ∣ (k0_mult4 v165).toNat := fun v165 k0_hw5 => k0_hw5.2.2.1
theorem k0_off20_inb : ∀ (v165 : BitVec 32) (k0_hw5 : k0_chk5 v165), ∀ a, (k0_off20 v165) a + S2x128.size a ≤ S2x10240.size a := fun v165 k0_hw5 => k0_hw5.2.2.2

def k0_off21 (i : grid0.Coords) : Fin 1 → Nat :=
  let c8_i32 : BitVec 32 := 8#32
  let arg0 : BitVec 32 := BitVec.ofNat 32 (i 0).val
  let v3 : BitVec 32 := Scalar.muli c8_i32 arg0
  let c2_i32 : BitVec 32 := 2#32
  let v318 : BitVec 32 := Scalar.addi v3 c2_i32
  let v319 : Index := Scalar.indexCast v318
  ![v319.toNat]
def k0_off22 (v320 : BitVec 32) : Fin 2 → Nat :=
  let v325 : Index := Scalar.indexCast v320
  let c0_122 : Index := 0#32
  ![v325.toNat, 0]

def k0_off23 (v322 : BitVec 32) : Fin 2 → Nat :=
  let v328 : Index := Scalar.indexCast v322
  let c0_123 : Index := 0#32
  ![v328.toNat, 0]

def k0_off24 (v324 : BitVec 32) : Fin 2 → Nat :=
  let v331 : Index := Scalar.indexCast v324
  let c0_124 : Index := 0#32
  ![v331.toNat, 0]

def k0_off25 (v324 : BitVec 32) : Fin 2 → Nat :=
  let v334 : Index := Scalar.indexCast v324
  let c0_126 : Index := 0#32
  ![v334.toNat, 0]

def k0_chk9 (v324 : BitVec 32) : Prop :=
  (∀ a, (k0_off24 v324) a + S1x10000.size a ≤ S2x10240.size a) ∧
  (∀ a, (k0_off25 v324) a + S1x256.size a ≤ S2x256.size a)
theorem k0_off24_inb : ∀ (v324 : BitVec 32) (k0_hw9 : k0_chk9 v324), ∀ a, (k0_off24 v324) a + S1x10000.size a ≤ S2x10240.size a := fun v324 k0_hw9 => k0_hw9.1
theorem k0_off25_inb : ∀ (v324 : BitVec 32) (k0_hw9 : k0_chk9 v324), ∀ a, (k0_off25 v324) a + S1x256.size a ≤ S2x256.size a := fun v324 k0_hw9 => k0_hw9.2

def k0_off26 (i : grid0.Coords) : Fin 2 → Nat :=
  let c8_i32 : BitVec 32 := 8#32
  let arg0 : BitVec 32 := BitVec.ofNat 32 (i 0).val
  let v3 : BitVec 32 := Scalar.muli c8_i32 arg0
  let c2_i32 : BitVec 32 := 2#32
  let v318 : BitVec 32 := Scalar.addi v3 c2_i32
  let v345 : Index := Scalar.indexCast v318
  let c0_131 : Index := 0#32
  ![v345.toNat, 0]
def k0_off27 (v320 : BitVec 32) : Fin 2 → Nat :=
  let v374 : Index := Scalar.indexCast v320
  let c0_143 : Index := 0#32
  ![v374.toNat, 0]
def k0_off28 (v322 : BitVec 32) : Fin 2 → Nat :=
  let v376 : Index := Scalar.indexCast v322
  let c0_144 : Index := 0#32
  ![v376.toNat, 0]
def k0_mult5 (v320 : BitVec 32) : BitVec 32 :=
  let c0_i32_152 : BitVec 32 := 0#32
  let v392 : BitVec 1 := Scalar.cmpi .sgt v320 c0_i32_152
  let v393 : BitVec 32 := Scalar.extui v392
  let c0_i32_153 : BitVec 32 := 0#32
  let v394 : BitVec 1 := Scalar.cmpi .slt v320 c0_i32_153
  let v395 : BitVec 32 := Scalar.extui v394
  let v396 : BitVec 32 := Scalar.subi v393 v395
  let c128_i32_151 : BitVec 32 := 128#32
  let c0_i32_154 : BitVec 32 := 0#32
  let v397 : BitVec 1 := Scalar.cmpi .sgt c128_i32_151 c0_i32_154
  let v398 : BitVec 32 := Scalar.extui v397
  let c0_i32_155 : BitVec 32 := 0#32
  let v399 : BitVec 1 := Scalar.cmpi .slt c128_i32_151 c0_i32_155
  let v400 : BitVec 32 := Scalar.extui v399
  let v401 : BitVec 32 := Scalar.subi v398 v400
  let v402 : BitVec 1 := Scalar.cmpi .ne v396 v401
  let v403 : BitVec 32 := Scalar.remsi v320 c128_i32_151
  let c0_i32_156 : BitVec 32 := 0#32
  let v404 : BitVec 1 := Scalar.cmpi .ne v403 c0_i32_156
  let v405 : BitVec 1 := Scalar.andi v402 v404
  let v391 : BitVec 32 := Scalar.divsi v320 c128_i32_151
  let c1_i32_157 : BitVec 32 := 1#32
  let v406 : BitVec 32 := Scalar.subi v391 c1_i32_157
  let v407 : BitVec 32 := Scalar.select v405 v406 v391
  let c128_i32_158 : BitVec 32 := 128#32
  let v408 : BitVec 32 := Scalar.muli v407 c128_i32_158
  v408
def k0_off29 (v320 : BitVec 32) : Fin 2 → Nat :=
  let c0_159 : Index := 0#32
  let c0_i32_152 : BitVec 32 := 0#32
  let v392 : BitVec 1 := Scalar.cmpi .sgt v320 c0_i32_152
  let v393 : BitVec 32 := Scalar.extui v392
  let c0_i32_153 : BitVec 32 := 0#32
  let v394 : BitVec 1 := Scalar.cmpi .slt v320 c0_i32_153
  let v395 : BitVec 32 := Scalar.extui v394
  let v396 : BitVec 32 := Scalar.subi v393 v395
  let c128_i32_151 : BitVec 32 := 128#32
  let c0_i32_154 : BitVec 32 := 0#32
  let v397 : BitVec 1 := Scalar.cmpi .sgt c128_i32_151 c0_i32_154
  let v398 : BitVec 32 := Scalar.extui v397
  let c0_i32_155 : BitVec 32 := 0#32
  let v399 : BitVec 1 := Scalar.cmpi .slt c128_i32_151 c0_i32_155
  let v400 : BitVec 32 := Scalar.extui v399
  let v401 : BitVec 32 := Scalar.subi v398 v400
  let v402 : BitVec 1 := Scalar.cmpi .ne v396 v401
  let v403 : BitVec 32 := Scalar.remsi v320 c128_i32_151
  let c0_i32_156 : BitVec 32 := 0#32
  let v404 : BitVec 1 := Scalar.cmpi .ne v403 c0_i32_156
  let v405 : BitVec 1 := Scalar.andi v402 v404
  let v391 : BitVec 32 := Scalar.divsi v320 c128_i32_151
  let c1_i32_157 : BitVec 32 := 1#32
  let v406 : BitVec 32 := Scalar.subi v391 c1_i32_157
  let v407 : BitVec 32 := Scalar.select v405 v406 v391
  let c128_i32_158 : BitVec 32 := 128#32
  let v408 : BitVec 32 := Scalar.muli v407 c128_i32_158
  let v409 : BitVec 32 := v408
  let v410 : Index := Scalar.indexCast v409
  ![0, v410.toNat]

def k0_chk7 (v320 : BitVec 32) : Prop :=
  (∀ a, (k0_off22 v320) a + S1x256.size a ≤ S10000x256.size a) ∧
  (∀ a, (k0_off27 v320) a + S1x256.size a ≤ S10000x256.size a) ∧
  (128 ∣ (k0_mult5 v320).toNat) ∧
  (∀ a, (k0_off29 v320) a + S2x128.size a ≤ S2x10240.size a)
theorem k0_off22_inb : ∀ (v320 : BitVec 32) (k0_hw7 : k0_chk7 v320), ∀ a, (k0_off22 v320) a + S1x256.size a ≤ S10000x256.size a := fun v320 k0_hw7 => k0_hw7.1
theorem k0_off27_inb : ∀ (v320 : BitVec 32) (k0_hw7 : k0_chk7 v320), ∀ a, (k0_off27 v320) a + S1x256.size a ≤ S10000x256.size a := fun v320 k0_hw7 => k0_hw7.2.1
theorem k0_mult5_dvd : ∀ (v320 : BitVec 32) (k0_hw7 : k0_chk7 v320), 128 ∣ (k0_mult5 v320).toNat := fun v320 k0_hw7 => k0_hw7.2.2.1
theorem k0_off29_inb : ∀ (v320 : BitVec 32) (k0_hw7 : k0_chk7 v320), ∀ a, (k0_off29 v320) a + S2x128.size a ≤ S2x10240.size a := fun v320 k0_hw7 => k0_hw7.2.2.2

def k0_mult6 (v322 : BitVec 32) : BitVec 32 :=
  let c0_i32_168 : BitVec 32 := 0#32
  let v434 : BitVec 1 := Scalar.cmpi .sgt v322 c0_i32_168
  let v435 : BitVec 32 := Scalar.extui v434
  let c0_i32_169 : BitVec 32 := 0#32
  let v436 : BitVec 1 := Scalar.cmpi .slt v322 c0_i32_169
  let v437 : BitVec 32 := Scalar.extui v436
  let v438 : BitVec 32 := Scalar.subi v435 v437
  let c128_i32_167 : BitVec 32 := 128#32
  let c0_i32_170 : BitVec 32 := 0#32
  let v439 : BitVec 1 := Scalar.cmpi .sgt c128_i32_167 c0_i32_170
  let v440 : BitVec 32 := Scalar.extui v439
  let c0_i32_171 : BitVec 32 := 0#32
  let v441 : BitVec 1 := Scalar.cmpi .slt c128_i32_167 c0_i32_171
  let v442 : BitVec 32 := Scalar.extui v441
  let v443 : BitVec 32 := Scalar.subi v440 v442
  let v444 : BitVec 1 := Scalar.cmpi .ne v438 v443
  let v445 : BitVec 32 := Scalar.remsi v322 c128_i32_167
  let c0_i32_172 : BitVec 32 := 0#32
  let v446 : BitVec 1 := Scalar.cmpi .ne v445 c0_i32_172
  let v447 : BitVec 1 := Scalar.andi v444 v446
  let v433 : BitVec 32 := Scalar.divsi v322 c128_i32_167
  let c1_i32_173 : BitVec 32 := 1#32
  let v448 : BitVec 32 := Scalar.subi v433 c1_i32_173
  let v449 : BitVec 32 := Scalar.select v447 v448 v433
  let c128_i32_174 : BitVec 32 := 128#32
  let v450 : BitVec 32 := Scalar.muli v449 c128_i32_174
  v450
def k0_off30 (v322 : BitVec 32) : Fin 2 → Nat :=
  let c0_175 : Index := 0#32
  let c0_i32_168 : BitVec 32 := 0#32
  let v434 : BitVec 1 := Scalar.cmpi .sgt v322 c0_i32_168
  let v435 : BitVec 32 := Scalar.extui v434
  let c0_i32_169 : BitVec 32 := 0#32
  let v436 : BitVec 1 := Scalar.cmpi .slt v322 c0_i32_169
  let v437 : BitVec 32 := Scalar.extui v436
  let v438 : BitVec 32 := Scalar.subi v435 v437
  let c128_i32_167 : BitVec 32 := 128#32
  let c0_i32_170 : BitVec 32 := 0#32
  let v439 : BitVec 1 := Scalar.cmpi .sgt c128_i32_167 c0_i32_170
  let v440 : BitVec 32 := Scalar.extui v439
  let c0_i32_171 : BitVec 32 := 0#32
  let v441 : BitVec 1 := Scalar.cmpi .slt c128_i32_167 c0_i32_171
  let v442 : BitVec 32 := Scalar.extui v441
  let v443 : BitVec 32 := Scalar.subi v440 v442
  let v444 : BitVec 1 := Scalar.cmpi .ne v438 v443
  let v445 : BitVec 32 := Scalar.remsi v322 c128_i32_167
  let c0_i32_172 : BitVec 32 := 0#32
  let v446 : BitVec 1 := Scalar.cmpi .ne v445 c0_i32_172
  let v447 : BitVec 1 := Scalar.andi v444 v446
  let v433 : BitVec 32 := Scalar.divsi v322 c128_i32_167
  let c1_i32_173 : BitVec 32 := 1#32
  let v448 : BitVec 32 := Scalar.subi v433 c1_i32_173
  let v449 : BitVec 32 := Scalar.select v447 v448 v433
  let c128_i32_174 : BitVec 32 := 128#32
  let v450 : BitVec 32 := Scalar.muli v449 c128_i32_174
  let v451 : BitVec 32 := v450
  let v452 : Index := Scalar.indexCast v451
  ![0, v452.toNat]

def k0_chk8 (v322 : BitVec 32) : Prop :=
  (∀ a, (k0_off23 v322) a + S1x256.size a ≤ S10000x256.size a) ∧
  (∀ a, (k0_off28 v322) a + S1x256.size a ≤ S10000x256.size a) ∧
  (128 ∣ (k0_mult6 v322).toNat) ∧
  (∀ a, (k0_off30 v322) a + S2x128.size a ≤ S2x10240.size a)
theorem k0_off23_inb : ∀ (v322 : BitVec 32) (k0_hw8 : k0_chk8 v322), ∀ a, (k0_off23 v322) a + S1x256.size a ≤ S10000x256.size a := fun v322 k0_hw8 => k0_hw8.1
theorem k0_off28_inb : ∀ (v322 : BitVec 32) (k0_hw8 : k0_chk8 v322), ∀ a, (k0_off28 v322) a + S1x256.size a ≤ S10000x256.size a := fun v322 k0_hw8 => k0_hw8.2.1
theorem k0_mult6_dvd : ∀ (v322 : BitVec 32) (k0_hw8 : k0_chk8 v322), 128 ∣ (k0_mult6 v322).toNat := fun v322 k0_hw8 => k0_hw8.2.2.1
theorem k0_off30_inb : ∀ (v322 : BitVec 32) (k0_hw8 : k0_chk8 v322), ∀ a, (k0_off30 v322) a + S2x128.size a ≤ S2x10240.size a := fun v322 k0_hw8 => k0_hw8.2.2.2

def k0_off31 (i : grid0.Coords) : Fin 1 → Nat :=
  let c8_i32 : BitVec 32 := 8#32
  let arg0 : BitVec 32 := BitVec.ofNat 32 (i 0).val
  let v3 : BitVec 32 := Scalar.muli c8_i32 arg0
  let c3_i32 : BitVec 32 := 3#32
  let v475 : BitVec 32 := Scalar.addi v3 c3_i32
  let v476 : Index := Scalar.indexCast v475
  ![v476.toNat]
def k0_off32 (v477 : BitVec 32) : Fin 2 → Nat :=
  let v482 : Index := Scalar.indexCast v477
  let c0_183 : Index := 0#32
  ![v482.toNat, 0]

def k0_off33 (v479 : BitVec 32) : Fin 2 → Nat :=
  let v485 : Index := Scalar.indexCast v479
  let c0_184 : Index := 0#32
  ![v485.toNat, 0]

def k0_off34 (v481 : BitVec 32) : Fin 2 → Nat :=
  let v488 : Index := Scalar.indexCast v481
  let c0_185 : Index := 0#32
  ![v488.toNat, 0]

def k0_off35 (v481 : BitVec 32) : Fin 2 → Nat :=
  let v491 : Index := Scalar.indexCast v481
  let c0_187 : Index := 0#32
  ![v491.toNat, 0]

def k0_chk12 (v481 : BitVec 32) : Prop :=
  (∀ a, (k0_off34 v481) a + S1x10000.size a ≤ S2x10240.size a) ∧
  (∀ a, (k0_off35 v481) a + S1x256.size a ≤ S2x256.size a)
theorem k0_off34_inb : ∀ (v481 : BitVec 32) (k0_hw12 : k0_chk12 v481), ∀ a, (k0_off34 v481) a + S1x10000.size a ≤ S2x10240.size a := fun v481 k0_hw12 => k0_hw12.1
theorem k0_off35_inb : ∀ (v481 : BitVec 32) (k0_hw12 : k0_chk12 v481), ∀ a, (k0_off35 v481) a + S1x256.size a ≤ S2x256.size a := fun v481 k0_hw12 => k0_hw12.2

def k0_off36 (i : grid0.Coords) : Fin 2 → Nat :=
  let c8_i32 : BitVec 32 := 8#32
  let arg0 : BitVec 32 := BitVec.ofNat 32 (i 0).val
  let v3 : BitVec 32 := Scalar.muli c8_i32 arg0
  let c3_i32 : BitVec 32 := 3#32
  let v475 : BitVec 32 := Scalar.addi v3 c3_i32
  let v502 : Index := Scalar.indexCast v475
  let c0_192 : Index := 0#32
  ![v502.toNat, 0]
def k0_off37 (v477 : BitVec 32) : Fin 2 → Nat :=
  let v531 : Index := Scalar.indexCast v477
  let c0_204 : Index := 0#32
  ![v531.toNat, 0]
def k0_off38 (v479 : BitVec 32) : Fin 2 → Nat :=
  let v533 : Index := Scalar.indexCast v479
  let c0_205 : Index := 0#32
  ![v533.toNat, 0]
def k0_mult7 (v477 : BitVec 32) : BitVec 32 :=
  let c0_i32_213 : BitVec 32 := 0#32
  let v549 : BitVec 1 := Scalar.cmpi .sgt v477 c0_i32_213
  let v550 : BitVec 32 := Scalar.extui v549
  let c0_i32_214 : BitVec 32 := 0#32
  let v551 : BitVec 1 := Scalar.cmpi .slt v477 c0_i32_214
  let v552 : BitVec 32 := Scalar.extui v551
  let v553 : BitVec 32 := Scalar.subi v550 v552
  let c128_i32_212 : BitVec 32 := 128#32
  let c0_i32_215 : BitVec 32 := 0#32
  let v554 : BitVec 1 := Scalar.cmpi .sgt c128_i32_212 c0_i32_215
  let v555 : BitVec 32 := Scalar.extui v554
  let c0_i32_216 : BitVec 32 := 0#32
  let v556 : BitVec 1 := Scalar.cmpi .slt c128_i32_212 c0_i32_216
  let v557 : BitVec 32 := Scalar.extui v556
  let v558 : BitVec 32 := Scalar.subi v555 v557
  let v559 : BitVec 1 := Scalar.cmpi .ne v553 v558
  let v560 : BitVec 32 := Scalar.remsi v477 c128_i32_212
  let c0_i32_217 : BitVec 32 := 0#32
  let v561 : BitVec 1 := Scalar.cmpi .ne v560 c0_i32_217
  let v562 : BitVec 1 := Scalar.andi v559 v561
  let v548 : BitVec 32 := Scalar.divsi v477 c128_i32_212
  let c1_i32_218 : BitVec 32 := 1#32
  let v563 : BitVec 32 := Scalar.subi v548 c1_i32_218
  let v564 : BitVec 32 := Scalar.select v562 v563 v548
  let c128_i32_219 : BitVec 32 := 128#32
  let v565 : BitVec 32 := Scalar.muli v564 c128_i32_219
  v565
def k0_off39 (v477 : BitVec 32) : Fin 2 → Nat :=
  let c0_220 : Index := 0#32
  let c0_i32_213 : BitVec 32 := 0#32
  let v549 : BitVec 1 := Scalar.cmpi .sgt v477 c0_i32_213
  let v550 : BitVec 32 := Scalar.extui v549
  let c0_i32_214 : BitVec 32 := 0#32
  let v551 : BitVec 1 := Scalar.cmpi .slt v477 c0_i32_214
  let v552 : BitVec 32 := Scalar.extui v551
  let v553 : BitVec 32 := Scalar.subi v550 v552
  let c128_i32_212 : BitVec 32 := 128#32
  let c0_i32_215 : BitVec 32 := 0#32
  let v554 : BitVec 1 := Scalar.cmpi .sgt c128_i32_212 c0_i32_215
  let v555 : BitVec 32 := Scalar.extui v554
  let c0_i32_216 : BitVec 32 := 0#32
  let v556 : BitVec 1 := Scalar.cmpi .slt c128_i32_212 c0_i32_216
  let v557 : BitVec 32 := Scalar.extui v556
  let v558 : BitVec 32 := Scalar.subi v555 v557
  let v559 : BitVec 1 := Scalar.cmpi .ne v553 v558
  let v560 : BitVec 32 := Scalar.remsi v477 c128_i32_212
  let c0_i32_217 : BitVec 32 := 0#32
  let v561 : BitVec 1 := Scalar.cmpi .ne v560 c0_i32_217
  let v562 : BitVec 1 := Scalar.andi v559 v561
  let v548 : BitVec 32 := Scalar.divsi v477 c128_i32_212
  let c1_i32_218 : BitVec 32 := 1#32
  let v563 : BitVec 32 := Scalar.subi v548 c1_i32_218
  let v564 : BitVec 32 := Scalar.select v562 v563 v548
  let c128_i32_219 : BitVec 32 := 128#32
  let v565 : BitVec 32 := Scalar.muli v564 c128_i32_219
  let v566 : BitVec 32 := v565
  let v567 : Index := Scalar.indexCast v566
  ![0, v567.toNat]

def k0_chk10 (v477 : BitVec 32) : Prop :=
  (∀ a, (k0_off32 v477) a + S1x256.size a ≤ S10000x256.size a) ∧
  (∀ a, (k0_off37 v477) a + S1x256.size a ≤ S10000x256.size a) ∧
  (128 ∣ (k0_mult7 v477).toNat) ∧
  (∀ a, (k0_off39 v477) a + S2x128.size a ≤ S2x10240.size a)
theorem k0_off32_inb : ∀ (v477 : BitVec 32) (k0_hw10 : k0_chk10 v477), ∀ a, (k0_off32 v477) a + S1x256.size a ≤ S10000x256.size a := fun v477 k0_hw10 => k0_hw10.1
theorem k0_off37_inb : ∀ (v477 : BitVec 32) (k0_hw10 : k0_chk10 v477), ∀ a, (k0_off37 v477) a + S1x256.size a ≤ S10000x256.size a := fun v477 k0_hw10 => k0_hw10.2.1
theorem k0_mult7_dvd : ∀ (v477 : BitVec 32) (k0_hw10 : k0_chk10 v477), 128 ∣ (k0_mult7 v477).toNat := fun v477 k0_hw10 => k0_hw10.2.2.1
theorem k0_off39_inb : ∀ (v477 : BitVec 32) (k0_hw10 : k0_chk10 v477), ∀ a, (k0_off39 v477) a + S2x128.size a ≤ S2x10240.size a := fun v477 k0_hw10 => k0_hw10.2.2.2

def k0_mult8 (v479 : BitVec 32) : BitVec 32 :=
  let c0_i32_229 : BitVec 32 := 0#32
  let v591 : BitVec 1 := Scalar.cmpi .sgt v479 c0_i32_229
  let v592 : BitVec 32 := Scalar.extui v591
  let c0_i32_230 : BitVec 32 := 0#32
  let v593 : BitVec 1 := Scalar.cmpi .slt v479 c0_i32_230
  let v594 : BitVec 32 := Scalar.extui v593
  let v595 : BitVec 32 := Scalar.subi v592 v594
  let c128_i32_228 : BitVec 32 := 128#32
  let c0_i32_231 : BitVec 32 := 0#32
  let v596 : BitVec 1 := Scalar.cmpi .sgt c128_i32_228 c0_i32_231
  let v597 : BitVec 32 := Scalar.extui v596
  let c0_i32_232 : BitVec 32 := 0#32
  let v598 : BitVec 1 := Scalar.cmpi .slt c128_i32_228 c0_i32_232
  let v599 : BitVec 32 := Scalar.extui v598
  let v600 : BitVec 32 := Scalar.subi v597 v599
  let v601 : BitVec 1 := Scalar.cmpi .ne v595 v600
  let v602 : BitVec 32 := Scalar.remsi v479 c128_i32_228
  let c0_i32_233 : BitVec 32 := 0#32
  let v603 : BitVec 1 := Scalar.cmpi .ne v602 c0_i32_233
  let v604 : BitVec 1 := Scalar.andi v601 v603
  let v590 : BitVec 32 := Scalar.divsi v479 c128_i32_228
  let c1_i32_234 : BitVec 32 := 1#32
  let v605 : BitVec 32 := Scalar.subi v590 c1_i32_234
  let v606 : BitVec 32 := Scalar.select v604 v605 v590
  let c128_i32_235 : BitVec 32 := 128#32
  let v607 : BitVec 32 := Scalar.muli v606 c128_i32_235
  v607
def k0_off40 (v479 : BitVec 32) : Fin 2 → Nat :=
  let c0_236 : Index := 0#32
  let c0_i32_229 : BitVec 32 := 0#32
  let v591 : BitVec 1 := Scalar.cmpi .sgt v479 c0_i32_229
  let v592 : BitVec 32 := Scalar.extui v591
  let c0_i32_230 : BitVec 32 := 0#32
  let v593 : BitVec 1 := Scalar.cmpi .slt v479 c0_i32_230
  let v594 : BitVec 32 := Scalar.extui v593
  let v595 : BitVec 32 := Scalar.subi v592 v594
  let c128_i32_228 : BitVec 32 := 128#32
  let c0_i32_231 : BitVec 32 := 0#32
  let v596 : BitVec 1 := Scalar.cmpi .sgt c128_i32_228 c0_i32_231
  let v597 : BitVec 32 := Scalar.extui v596
  let c0_i32_232 : BitVec 32 := 0#32
  let v598 : BitVec 1 := Scalar.cmpi .slt c128_i32_228 c0_i32_232
  let v599 : BitVec 32 := Scalar.extui v598
  let v600 : BitVec 32 := Scalar.subi v597 v599
  let v601 : BitVec 1 := Scalar.cmpi .ne v595 v600
  let v602 : BitVec 32 := Scalar.remsi v479 c128_i32_228
  let c0_i32_233 : BitVec 32 := 0#32
  let v603 : BitVec 1 := Scalar.cmpi .ne v602 c0_i32_233
  let v604 : BitVec 1 := Scalar.andi v601 v603
  let v590 : BitVec 32 := Scalar.divsi v479 c128_i32_228
  let c1_i32_234 : BitVec 32 := 1#32
  let v605 : BitVec 32 := Scalar.subi v590 c1_i32_234
  let v606 : BitVec 32 := Scalar.select v604 v605 v590
  let c128_i32_235 : BitVec 32 := 128#32
  let v607 : BitVec 32 := Scalar.muli v606 c128_i32_235
  let v608 : BitVec 32 := v607
  let v609 : Index := Scalar.indexCast v608
  ![0, v609.toNat]

def k0_chk11 (v479 : BitVec 32) : Prop :=
  (∀ a, (k0_off33 v479) a + S1x256.size a ≤ S10000x256.size a) ∧
  (∀ a, (k0_off38 v479) a + S1x256.size a ≤ S10000x256.size a) ∧
  (128 ∣ (k0_mult8 v479).toNat) ∧
  (∀ a, (k0_off40 v479) a + S2x128.size a ≤ S2x10240.size a)
theorem k0_off33_inb : ∀ (v479 : BitVec 32) (k0_hw11 : k0_chk11 v479), ∀ a, (k0_off33 v479) a + S1x256.size a ≤ S10000x256.size a := fun v479 k0_hw11 => k0_hw11.1
theorem k0_off38_inb : ∀ (v479 : BitVec 32) (k0_hw11 : k0_chk11 v479), ∀ a, (k0_off38 v479) a + S1x256.size a ≤ S10000x256.size a := fun v479 k0_hw11 => k0_hw11.2.1
theorem k0_mult8_dvd : ∀ (v479 : BitVec 32) (k0_hw11 : k0_chk11 v479), 128 ∣ (k0_mult8 v479).toNat := fun v479 k0_hw11 => k0_hw11.2.2.1
theorem k0_off40_inb : ∀ (v479 : BitVec 32) (k0_hw11 : k0_chk11 v479), ∀ a, (k0_off40 v479) a + S2x128.size a ≤ S2x10240.size a := fun v479 k0_hw11 => k0_hw11.2.2.2

def k0_off41 (i : grid0.Coords) : Fin 1 → Nat :=
  let c8_i32 : BitVec 32 := 8#32
  let arg0 : BitVec 32 := BitVec.ofNat 32 (i 0).val
  let v3 : BitVec 32 := Scalar.muli c8_i32 arg0
  let c4_i32 : BitVec 32 := 4#32
  let v632 : BitVec 32 := Scalar.addi v3 c4_i32
  let v633 : Index := Scalar.indexCast v632
  ![v633.toNat]
def k0_off42 (v634 : BitVec 32) : Fin 2 → Nat :=
  let v639 : Index := Scalar.indexCast v634
  let c0_244 : Index := 0#32
  ![v639.toNat, 0]

def k0_off43 (v636 : BitVec 32) : Fin 2 → Nat :=
  let v642 : Index := Scalar.indexCast v636
  let c0_245 : Index := 0#32
  ![v642.toNat, 0]

def k0_off44 (v638 : BitVec 32) : Fin 2 → Nat :=
  let v645 : Index := Scalar.indexCast v638
  let c0_246 : Index := 0#32
  ![v645.toNat, 0]

def k0_off45 (v638 : BitVec 32) : Fin 2 → Nat :=
  let v648 : Index := Scalar.indexCast v638
  let c0_248 : Index := 0#32
  ![v648.toNat, 0]

def k0_chk15 (v638 : BitVec 32) : Prop :=
  (∀ a, (k0_off44 v638) a + S1x10000.size a ≤ S2x10240.size a) ∧
  (∀ a, (k0_off45 v638) a + S1x256.size a ≤ S2x256.size a)
theorem k0_off44_inb : ∀ (v638 : BitVec 32) (k0_hw15 : k0_chk15 v638), ∀ a, (k0_off44 v638) a + S1x10000.size a ≤ S2x10240.size a := fun v638 k0_hw15 => k0_hw15.1
theorem k0_off45_inb : ∀ (v638 : BitVec 32) (k0_hw15 : k0_chk15 v638), ∀ a, (k0_off45 v638) a + S1x256.size a ≤ S2x256.size a := fun v638 k0_hw15 => k0_hw15.2

def k0_off46 (i : grid0.Coords) : Fin 2 → Nat :=
  let c8_i32 : BitVec 32 := 8#32
  let arg0 : BitVec 32 := BitVec.ofNat 32 (i 0).val
  let v3 : BitVec 32 := Scalar.muli c8_i32 arg0
  let c4_i32 : BitVec 32 := 4#32
  let v632 : BitVec 32 := Scalar.addi v3 c4_i32
  let v659 : Index := Scalar.indexCast v632
  let c0_253 : Index := 0#32
  ![v659.toNat, 0]
def k0_off47 (v634 : BitVec 32) : Fin 2 → Nat :=
  let v688 : Index := Scalar.indexCast v634
  let c0_265 : Index := 0#32
  ![v688.toNat, 0]
def k0_off48 (v636 : BitVec 32) : Fin 2 → Nat :=
  let v690 : Index := Scalar.indexCast v636
  let c0_266 : Index := 0#32
  ![v690.toNat, 0]
def k0_mult9 (v634 : BitVec 32) : BitVec 32 :=
  let c0_i32_274 : BitVec 32 := 0#32
  let v706 : BitVec 1 := Scalar.cmpi .sgt v634 c0_i32_274
  let v707 : BitVec 32 := Scalar.extui v706
  let c0_i32_275 : BitVec 32 := 0#32
  let v708 : BitVec 1 := Scalar.cmpi .slt v634 c0_i32_275
  let v709 : BitVec 32 := Scalar.extui v708
  let v710 : BitVec 32 := Scalar.subi v707 v709
  let c128_i32_273 : BitVec 32 := 128#32
  let c0_i32_276 : BitVec 32 := 0#32
  let v711 : BitVec 1 := Scalar.cmpi .sgt c128_i32_273 c0_i32_276
  let v712 : BitVec 32 := Scalar.extui v711
  let c0_i32_277 : BitVec 32 := 0#32
  let v713 : BitVec 1 := Scalar.cmpi .slt c128_i32_273 c0_i32_277
  let v714 : BitVec 32 := Scalar.extui v713
  let v715 : BitVec 32 := Scalar.subi v712 v714
  let v716 : BitVec 1 := Scalar.cmpi .ne v710 v715
  let v717 : BitVec 32 := Scalar.remsi v634 c128_i32_273
  let c0_i32_278 : BitVec 32 := 0#32
  let v718 : BitVec 1 := Scalar.cmpi .ne v717 c0_i32_278
  let v719 : BitVec 1 := Scalar.andi v716 v718
  let v705 : BitVec 32 := Scalar.divsi v634 c128_i32_273
  let c1_i32_279 : BitVec 32 := 1#32
  let v720 : BitVec 32 := Scalar.subi v705 c1_i32_279
  let v721 : BitVec 32 := Scalar.select v719 v720 v705
  let c128_i32_280 : BitVec 32 := 128#32
  let v722 : BitVec 32 := Scalar.muli v721 c128_i32_280
  v722
def k0_off49 (v634 : BitVec 32) : Fin 2 → Nat :=
  let c0_281 : Index := 0#32
  let c0_i32_274 : BitVec 32 := 0#32
  let v706 : BitVec 1 := Scalar.cmpi .sgt v634 c0_i32_274
  let v707 : BitVec 32 := Scalar.extui v706
  let c0_i32_275 : BitVec 32 := 0#32
  let v708 : BitVec 1 := Scalar.cmpi .slt v634 c0_i32_275
  let v709 : BitVec 32 := Scalar.extui v708
  let v710 : BitVec 32 := Scalar.subi v707 v709
  let c128_i32_273 : BitVec 32 := 128#32
  let c0_i32_276 : BitVec 32 := 0#32
  let v711 : BitVec 1 := Scalar.cmpi .sgt c128_i32_273 c0_i32_276
  let v712 : BitVec 32 := Scalar.extui v711
  let c0_i32_277 : BitVec 32 := 0#32
  let v713 : BitVec 1 := Scalar.cmpi .slt c128_i32_273 c0_i32_277
  let v714 : BitVec 32 := Scalar.extui v713
  let v715 : BitVec 32 := Scalar.subi v712 v714
  let v716 : BitVec 1 := Scalar.cmpi .ne v710 v715
  let v717 : BitVec 32 := Scalar.remsi v634 c128_i32_273
  let c0_i32_278 : BitVec 32 := 0#32
  let v718 : BitVec 1 := Scalar.cmpi .ne v717 c0_i32_278
  let v719 : BitVec 1 := Scalar.andi v716 v718
  let v705 : BitVec 32 := Scalar.divsi v634 c128_i32_273
  let c1_i32_279 : BitVec 32 := 1#32
  let v720 : BitVec 32 := Scalar.subi v705 c1_i32_279
  let v721 : BitVec 32 := Scalar.select v719 v720 v705
  let c128_i32_280 : BitVec 32 := 128#32
  let v722 : BitVec 32 := Scalar.muli v721 c128_i32_280
  let v723 : BitVec 32 := v722
  let v724 : Index := Scalar.indexCast v723
  ![0, v724.toNat]

def k0_chk13 (v634 : BitVec 32) : Prop :=
  (∀ a, (k0_off42 v634) a + S1x256.size a ≤ S10000x256.size a) ∧
  (∀ a, (k0_off47 v634) a + S1x256.size a ≤ S10000x256.size a) ∧
  (128 ∣ (k0_mult9 v634).toNat) ∧
  (∀ a, (k0_off49 v634) a + S2x128.size a ≤ S2x10240.size a)
theorem k0_off42_inb : ∀ (v634 : BitVec 32) (k0_hw13 : k0_chk13 v634), ∀ a, (k0_off42 v634) a + S1x256.size a ≤ S10000x256.size a := fun v634 k0_hw13 => k0_hw13.1
theorem k0_off47_inb : ∀ (v634 : BitVec 32) (k0_hw13 : k0_chk13 v634), ∀ a, (k0_off47 v634) a + S1x256.size a ≤ S10000x256.size a := fun v634 k0_hw13 => k0_hw13.2.1
theorem k0_mult9_dvd : ∀ (v634 : BitVec 32) (k0_hw13 : k0_chk13 v634), 128 ∣ (k0_mult9 v634).toNat := fun v634 k0_hw13 => k0_hw13.2.2.1
theorem k0_off49_inb : ∀ (v634 : BitVec 32) (k0_hw13 : k0_chk13 v634), ∀ a, (k0_off49 v634) a + S2x128.size a ≤ S2x10240.size a := fun v634 k0_hw13 => k0_hw13.2.2.2

def k0_mult10 (v636 : BitVec 32) : BitVec 32 :=
  let c0_i32_290 : BitVec 32 := 0#32
  let v748 : BitVec 1 := Scalar.cmpi .sgt v636 c0_i32_290
  let v749 : BitVec 32 := Scalar.extui v748
  let c0_i32_291 : BitVec 32 := 0#32
  let v750 : BitVec 1 := Scalar.cmpi .slt v636 c0_i32_291
  let v751 : BitVec 32 := Scalar.extui v750
  let v752 : BitVec 32 := Scalar.subi v749 v751
  let c128_i32_289 : BitVec 32 := 128#32
  let c0_i32_292 : BitVec 32 := 0#32
  let v753 : BitVec 1 := Scalar.cmpi .sgt c128_i32_289 c0_i32_292
  let v754 : BitVec 32 := Scalar.extui v753
  let c0_i32_293 : BitVec 32 := 0#32
  let v755 : BitVec 1 := Scalar.cmpi .slt c128_i32_289 c0_i32_293
  let v756 : BitVec 32 := Scalar.extui v755
  let v757 : BitVec 32 := Scalar.subi v754 v756
  let v758 : BitVec 1 := Scalar.cmpi .ne v752 v757
  let v759 : BitVec 32 := Scalar.remsi v636 c128_i32_289
  let c0_i32_294 : BitVec 32 := 0#32
  let v760 : BitVec 1 := Scalar.cmpi .ne v759 c0_i32_294
  let v761 : BitVec 1 := Scalar.andi v758 v760
  let v747 : BitVec 32 := Scalar.divsi v636 c128_i32_289
  let c1_i32_295 : BitVec 32 := 1#32
  let v762 : BitVec 32 := Scalar.subi v747 c1_i32_295
  let v763 : BitVec 32 := Scalar.select v761 v762 v747
  let c128_i32_296 : BitVec 32 := 128#32
  let v764 : BitVec 32 := Scalar.muli v763 c128_i32_296
  v764
def k0_off50 (v636 : BitVec 32) : Fin 2 → Nat :=
  let c0_297 : Index := 0#32
  let c0_i32_290 : BitVec 32 := 0#32
  let v748 : BitVec 1 := Scalar.cmpi .sgt v636 c0_i32_290
  let v749 : BitVec 32 := Scalar.extui v748
  let c0_i32_291 : BitVec 32 := 0#32
  let v750 : BitVec 1 := Scalar.cmpi .slt v636 c0_i32_291
  let v751 : BitVec 32 := Scalar.extui v750
  let v752 : BitVec 32 := Scalar.subi v749 v751
  let c128_i32_289 : BitVec 32 := 128#32
  let c0_i32_292 : BitVec 32 := 0#32
  let v753 : BitVec 1 := Scalar.cmpi .sgt c128_i32_289 c0_i32_292
  let v754 : BitVec 32 := Scalar.extui v753
  let c0_i32_293 : BitVec 32 := 0#32
  let v755 : BitVec 1 := Scalar.cmpi .slt c128_i32_289 c0_i32_293
  let v756 : BitVec 32 := Scalar.extui v755
  let v757 : BitVec 32 := Scalar.subi v754 v756
  let v758 : BitVec 1 := Scalar.cmpi .ne v752 v757
  let v759 : BitVec 32 := Scalar.remsi v636 c128_i32_289
  let c0_i32_294 : BitVec 32 := 0#32
  let v760 : BitVec 1 := Scalar.cmpi .ne v759 c0_i32_294
  let v761 : BitVec 1 := Scalar.andi v758 v760
  let v747 : BitVec 32 := Scalar.divsi v636 c128_i32_289
  let c1_i32_295 : BitVec 32 := 1#32
  let v762 : BitVec 32 := Scalar.subi v747 c1_i32_295
  let v763 : BitVec 32 := Scalar.select v761 v762 v747
  let c128_i32_296 : BitVec 32 := 128#32
  let v764 : BitVec 32 := Scalar.muli v763 c128_i32_296
  let v765 : BitVec 32 := v764
  let v766 : Index := Scalar.indexCast v765
  ![0, v766.toNat]

def k0_chk14 (v636 : BitVec 32) : Prop :=
  (∀ a, (k0_off43 v636) a + S1x256.size a ≤ S10000x256.size a) ∧
  (∀ a, (k0_off48 v636) a + S1x256.size a ≤ S10000x256.size a) ∧
  (128 ∣ (k0_mult10 v636).toNat) ∧
  (∀ a, (k0_off50 v636) a + S2x128.size a ≤ S2x10240.size a)
theorem k0_off43_inb : ∀ (v636 : BitVec 32) (k0_hw14 : k0_chk14 v636), ∀ a, (k0_off43 v636) a + S1x256.size a ≤ S10000x256.size a := fun v636 k0_hw14 => k0_hw14.1
theorem k0_off48_inb : ∀ (v636 : BitVec 32) (k0_hw14 : k0_chk14 v636), ∀ a, (k0_off48 v636) a + S1x256.size a ≤ S10000x256.size a := fun v636 k0_hw14 => k0_hw14.2.1
theorem k0_mult10_dvd : ∀ (v636 : BitVec 32) (k0_hw14 : k0_chk14 v636), 128 ∣ (k0_mult10 v636).toNat := fun v636 k0_hw14 => k0_hw14.2.2.1
theorem k0_off50_inb : ∀ (v636 : BitVec 32) (k0_hw14 : k0_chk14 v636), ∀ a, (k0_off50 v636) a + S2x128.size a ≤ S2x10240.size a := fun v636 k0_hw14 => k0_hw14.2.2.2

def k0_off51 (i : grid0.Coords) : Fin 1 → Nat :=
  let c8_i32 : BitVec 32 := 8#32
  let arg0 : BitVec 32 := BitVec.ofNat 32 (i 0).val
  let v3 : BitVec 32 := Scalar.muli c8_i32 arg0
  let c5_i32 : BitVec 32 := 5#32
  let v789 : BitVec 32 := Scalar.addi v3 c5_i32
  let v790 : Index := Scalar.indexCast v789
  ![v790.toNat]
def k0_off52 (v791 : BitVec 32) : Fin 2 → Nat :=
  let v796 : Index := Scalar.indexCast v791
  let c0_305 : Index := 0#32
  ![v796.toNat, 0]

def k0_off53 (v793 : BitVec 32) : Fin 2 → Nat :=
  let v799 : Index := Scalar.indexCast v793
  let c0_306 : Index := 0#32
  ![v799.toNat, 0]

def k0_off54 (v795 : BitVec 32) : Fin 2 → Nat :=
  let v802 : Index := Scalar.indexCast v795
  let c0_307 : Index := 0#32
  ![v802.toNat, 0]

def k0_off55 (v795 : BitVec 32) : Fin 2 → Nat :=
  let v805 : Index := Scalar.indexCast v795
  let c0_309 : Index := 0#32
  ![v805.toNat, 0]

def k0_chk18 (v795 : BitVec 32) : Prop :=
  (∀ a, (k0_off54 v795) a + S1x10000.size a ≤ S2x10240.size a) ∧
  (∀ a, (k0_off55 v795) a + S1x256.size a ≤ S2x256.size a)
theorem k0_off54_inb : ∀ (v795 : BitVec 32) (k0_hw18 : k0_chk18 v795), ∀ a, (k0_off54 v795) a + S1x10000.size a ≤ S2x10240.size a := fun v795 k0_hw18 => k0_hw18.1
theorem k0_off55_inb : ∀ (v795 : BitVec 32) (k0_hw18 : k0_chk18 v795), ∀ a, (k0_off55 v795) a + S1x256.size a ≤ S2x256.size a := fun v795 k0_hw18 => k0_hw18.2

def k0_off56 (i : grid0.Coords) : Fin 2 → Nat :=
  let c8_i32 : BitVec 32 := 8#32
  let arg0 : BitVec 32 := BitVec.ofNat 32 (i 0).val
  let v3 : BitVec 32 := Scalar.muli c8_i32 arg0
  let c5_i32 : BitVec 32 := 5#32
  let v789 : BitVec 32 := Scalar.addi v3 c5_i32
  let v816 : Index := Scalar.indexCast v789
  let c0_314 : Index := 0#32
  ![v816.toNat, 0]
def k0_off57 (v791 : BitVec 32) : Fin 2 → Nat :=
  let v845 : Index := Scalar.indexCast v791
  let c0_326 : Index := 0#32
  ![v845.toNat, 0]
def k0_off58 (v793 : BitVec 32) : Fin 2 → Nat :=
  let v847 : Index := Scalar.indexCast v793
  let c0_327 : Index := 0#32
  ![v847.toNat, 0]
def k0_mult11 (v791 : BitVec 32) : BitVec 32 :=
  let c0_i32_335 : BitVec 32 := 0#32
  let v863 : BitVec 1 := Scalar.cmpi .sgt v791 c0_i32_335
  let v864 : BitVec 32 := Scalar.extui v863
  let c0_i32_336 : BitVec 32 := 0#32
  let v865 : BitVec 1 := Scalar.cmpi .slt v791 c0_i32_336
  let v866 : BitVec 32 := Scalar.extui v865
  let v867 : BitVec 32 := Scalar.subi v864 v866
  let c128_i32_334 : BitVec 32 := 128#32
  let c0_i32_337 : BitVec 32 := 0#32
  let v868 : BitVec 1 := Scalar.cmpi .sgt c128_i32_334 c0_i32_337
  let v869 : BitVec 32 := Scalar.extui v868
  let c0_i32_338 : BitVec 32 := 0#32
  let v870 : BitVec 1 := Scalar.cmpi .slt c128_i32_334 c0_i32_338
  let v871 : BitVec 32 := Scalar.extui v870
  let v872 : BitVec 32 := Scalar.subi v869 v871
  let v873 : BitVec 1 := Scalar.cmpi .ne v867 v872
  let v874 : BitVec 32 := Scalar.remsi v791 c128_i32_334
  let c0_i32_339 : BitVec 32 := 0#32
  let v875 : BitVec 1 := Scalar.cmpi .ne v874 c0_i32_339
  let v876 : BitVec 1 := Scalar.andi v873 v875
  let v862 : BitVec 32 := Scalar.divsi v791 c128_i32_334
  let c1_i32_340 : BitVec 32 := 1#32
  let v877 : BitVec 32 := Scalar.subi v862 c1_i32_340
  let v878 : BitVec 32 := Scalar.select v876 v877 v862
  let c128_i32_341 : BitVec 32 := 128#32
  let v879 : BitVec 32 := Scalar.muli v878 c128_i32_341
  v879
def k0_off59 (v791 : BitVec 32) : Fin 2 → Nat :=
  let c0_342 : Index := 0#32
  let c0_i32_335 : BitVec 32 := 0#32
  let v863 : BitVec 1 := Scalar.cmpi .sgt v791 c0_i32_335
  let v864 : BitVec 32 := Scalar.extui v863
  let c0_i32_336 : BitVec 32 := 0#32
  let v865 : BitVec 1 := Scalar.cmpi .slt v791 c0_i32_336
  let v866 : BitVec 32 := Scalar.extui v865
  let v867 : BitVec 32 := Scalar.subi v864 v866
  let c128_i32_334 : BitVec 32 := 128#32
  let c0_i32_337 : BitVec 32 := 0#32
  let v868 : BitVec 1 := Scalar.cmpi .sgt c128_i32_334 c0_i32_337
  let v869 : BitVec 32 := Scalar.extui v868
  let c0_i32_338 : BitVec 32 := 0#32
  let v870 : BitVec 1 := Scalar.cmpi .slt c128_i32_334 c0_i32_338
  let v871 : BitVec 32 := Scalar.extui v870
  let v872 : BitVec 32 := Scalar.subi v869 v871
  let v873 : BitVec 1 := Scalar.cmpi .ne v867 v872
  let v874 : BitVec 32 := Scalar.remsi v791 c128_i32_334
  let c0_i32_339 : BitVec 32 := 0#32
  let v875 : BitVec 1 := Scalar.cmpi .ne v874 c0_i32_339
  let v876 : BitVec 1 := Scalar.andi v873 v875
  let v862 : BitVec 32 := Scalar.divsi v791 c128_i32_334
  let c1_i32_340 : BitVec 32 := 1#32
  let v877 : BitVec 32 := Scalar.subi v862 c1_i32_340
  let v878 : BitVec 32 := Scalar.select v876 v877 v862
  let c128_i32_341 : BitVec 32 := 128#32
  let v879 : BitVec 32 := Scalar.muli v878 c128_i32_341
  let v880 : BitVec 32 := v879
  let v881 : Index := Scalar.indexCast v880
  ![0, v881.toNat]

def k0_chk16 (v791 : BitVec 32) : Prop :=
  (∀ a, (k0_off52 v791) a + S1x256.size a ≤ S10000x256.size a) ∧
  (∀ a, (k0_off57 v791) a + S1x256.size a ≤ S10000x256.size a) ∧
  (128 ∣ (k0_mult11 v791).toNat) ∧
  (∀ a, (k0_off59 v791) a + S2x128.size a ≤ S2x10240.size a)
theorem k0_off52_inb : ∀ (v791 : BitVec 32) (k0_hw16 : k0_chk16 v791), ∀ a, (k0_off52 v791) a + S1x256.size a ≤ S10000x256.size a := fun v791 k0_hw16 => k0_hw16.1
theorem k0_off57_inb : ∀ (v791 : BitVec 32) (k0_hw16 : k0_chk16 v791), ∀ a, (k0_off57 v791) a + S1x256.size a ≤ S10000x256.size a := fun v791 k0_hw16 => k0_hw16.2.1
theorem k0_mult11_dvd : ∀ (v791 : BitVec 32) (k0_hw16 : k0_chk16 v791), 128 ∣ (k0_mult11 v791).toNat := fun v791 k0_hw16 => k0_hw16.2.2.1
theorem k0_off59_inb : ∀ (v791 : BitVec 32) (k0_hw16 : k0_chk16 v791), ∀ a, (k0_off59 v791) a + S2x128.size a ≤ S2x10240.size a := fun v791 k0_hw16 => k0_hw16.2.2.2

def k0_mult12 (v793 : BitVec 32) : BitVec 32 :=
  let c0_i32_351 : BitVec 32 := 0#32
  let v905 : BitVec 1 := Scalar.cmpi .sgt v793 c0_i32_351
  let v906 : BitVec 32 := Scalar.extui v905
  let c0_i32_352 : BitVec 32 := 0#32
  let v907 : BitVec 1 := Scalar.cmpi .slt v793 c0_i32_352
  let v908 : BitVec 32 := Scalar.extui v907
  let v909 : BitVec 32 := Scalar.subi v906 v908
  let c128_i32_350 : BitVec 32 := 128#32
  let c0_i32_353 : BitVec 32 := 0#32
  let v910 : BitVec 1 := Scalar.cmpi .sgt c128_i32_350 c0_i32_353
  let v911 : BitVec 32 := Scalar.extui v910
  let c0_i32_354 : BitVec 32 := 0#32
  let v912 : BitVec 1 := Scalar.cmpi .slt c128_i32_350 c0_i32_354
  let v913 : BitVec 32 := Scalar.extui v912
  let v914 : BitVec 32 := Scalar.subi v911 v913
  let v915 : BitVec 1 := Scalar.cmpi .ne v909 v914
  let v916 : BitVec 32 := Scalar.remsi v793 c128_i32_350
  let c0_i32_355 : BitVec 32 := 0#32
  let v917 : BitVec 1 := Scalar.cmpi .ne v916 c0_i32_355
  let v918 : BitVec 1 := Scalar.andi v915 v917
  let v904 : BitVec 32 := Scalar.divsi v793 c128_i32_350
  let c1_i32_356 : BitVec 32 := 1#32
  let v919 : BitVec 32 := Scalar.subi v904 c1_i32_356
  let v920 : BitVec 32 := Scalar.select v918 v919 v904
  let c128_i32_357 : BitVec 32 := 128#32
  let v921 : BitVec 32 := Scalar.muli v920 c128_i32_357
  v921
def k0_off60 (v793 : BitVec 32) : Fin 2 → Nat :=
  let c0_358 : Index := 0#32
  let c0_i32_351 : BitVec 32 := 0#32
  let v905 : BitVec 1 := Scalar.cmpi .sgt v793 c0_i32_351
  let v906 : BitVec 32 := Scalar.extui v905
  let c0_i32_352 : BitVec 32 := 0#32
  let v907 : BitVec 1 := Scalar.cmpi .slt v793 c0_i32_352
  let v908 : BitVec 32 := Scalar.extui v907
  let v909 : BitVec 32 := Scalar.subi v906 v908
  let c128_i32_350 : BitVec 32 := 128#32
  let c0_i32_353 : BitVec 32 := 0#32
  let v910 : BitVec 1 := Scalar.cmpi .sgt c128_i32_350 c0_i32_353
  let v911 : BitVec 32 := Scalar.extui v910
  let c0_i32_354 : BitVec 32 := 0#32
  let v912 : BitVec 1 := Scalar.cmpi .slt c128_i32_350 c0_i32_354
  let v913 : BitVec 32 := Scalar.extui v912
  let v914 : BitVec 32 := Scalar.subi v911 v913
  let v915 : BitVec 1 := Scalar.cmpi .ne v909 v914
  let v916 : BitVec 32 := Scalar.remsi v793 c128_i32_350
  let c0_i32_355 : BitVec 32 := 0#32
  let v917 : BitVec 1 := Scalar.cmpi .ne v916 c0_i32_355
  let v918 : BitVec 1 := Scalar.andi v915 v917
  let v904 : BitVec 32 := Scalar.divsi v793 c128_i32_350
  let c1_i32_356 : BitVec 32 := 1#32
  let v919 : BitVec 32 := Scalar.subi v904 c1_i32_356
  let v920 : BitVec 32 := Scalar.select v918 v919 v904
  let c128_i32_357 : BitVec 32 := 128#32
  let v921 : BitVec 32 := Scalar.muli v920 c128_i32_357
  let v922 : BitVec 32 := v921
  let v923 : Index := Scalar.indexCast v922
  ![0, v923.toNat]

def k0_chk17 (v793 : BitVec 32) : Prop :=
  (∀ a, (k0_off53 v793) a + S1x256.size a ≤ S10000x256.size a) ∧
  (∀ a, (k0_off58 v793) a + S1x256.size a ≤ S10000x256.size a) ∧
  (128 ∣ (k0_mult12 v793).toNat) ∧
  (∀ a, (k0_off60 v793) a + S2x128.size a ≤ S2x10240.size a)
theorem k0_off53_inb : ∀ (v793 : BitVec 32) (k0_hw17 : k0_chk17 v793), ∀ a, (k0_off53 v793) a + S1x256.size a ≤ S10000x256.size a := fun v793 k0_hw17 => k0_hw17.1
theorem k0_off58_inb : ∀ (v793 : BitVec 32) (k0_hw17 : k0_chk17 v793), ∀ a, (k0_off58 v793) a + S1x256.size a ≤ S10000x256.size a := fun v793 k0_hw17 => k0_hw17.2.1
theorem k0_mult12_dvd : ∀ (v793 : BitVec 32) (k0_hw17 : k0_chk17 v793), 128 ∣ (k0_mult12 v793).toNat := fun v793 k0_hw17 => k0_hw17.2.2.1
theorem k0_off60_inb : ∀ (v793 : BitVec 32) (k0_hw17 : k0_chk17 v793), ∀ a, (k0_off60 v793) a + S2x128.size a ≤ S2x10240.size a := fun v793 k0_hw17 => k0_hw17.2.2.2

def k0_off61 (i : grid0.Coords) : Fin 1 → Nat :=
  let c8_i32 : BitVec 32 := 8#32
  let arg0 : BitVec 32 := BitVec.ofNat 32 (i 0).val
  let v3 : BitVec 32 := Scalar.muli c8_i32 arg0
  let c6_i32 : BitVec 32 := 6#32
  let v946 : BitVec 32 := Scalar.addi v3 c6_i32
  let v947 : Index := Scalar.indexCast v946
  ![v947.toNat]
def k0_off62 (v948 : BitVec 32) : Fin 2 → Nat :=
  let v953 : Index := Scalar.indexCast v948
  let c0_366 : Index := 0#32
  ![v953.toNat, 0]

def k0_off63 (v950 : BitVec 32) : Fin 2 → Nat :=
  let v956 : Index := Scalar.indexCast v950
  let c0_367 : Index := 0#32
  ![v956.toNat, 0]

def k0_off64 (v952 : BitVec 32) : Fin 2 → Nat :=
  let v959 : Index := Scalar.indexCast v952
  let c0_368 : Index := 0#32
  ![v959.toNat, 0]

def k0_off65 (v952 : BitVec 32) : Fin 2 → Nat :=
  let v962 : Index := Scalar.indexCast v952
  let c0_370 : Index := 0#32
  ![v962.toNat, 0]

def k0_chk21 (v952 : BitVec 32) : Prop :=
  (∀ a, (k0_off64 v952) a + S1x10000.size a ≤ S2x10240.size a) ∧
  (∀ a, (k0_off65 v952) a + S1x256.size a ≤ S2x256.size a)
theorem k0_off64_inb : ∀ (v952 : BitVec 32) (k0_hw21 : k0_chk21 v952), ∀ a, (k0_off64 v952) a + S1x10000.size a ≤ S2x10240.size a := fun v952 k0_hw21 => k0_hw21.1
theorem k0_off65_inb : ∀ (v952 : BitVec 32) (k0_hw21 : k0_chk21 v952), ∀ a, (k0_off65 v952) a + S1x256.size a ≤ S2x256.size a := fun v952 k0_hw21 => k0_hw21.2

def k0_off66 (i : grid0.Coords) : Fin 2 → Nat :=
  let c8_i32 : BitVec 32 := 8#32
  let arg0 : BitVec 32 := BitVec.ofNat 32 (i 0).val
  let v3 : BitVec 32 := Scalar.muli c8_i32 arg0
  let c6_i32 : BitVec 32 := 6#32
  let v946 : BitVec 32 := Scalar.addi v3 c6_i32
  let v973 : Index := Scalar.indexCast v946
  let c0_375 : Index := 0#32
  ![v973.toNat, 0]
def k0_off67 (v948 : BitVec 32) : Fin 2 → Nat :=
  let v1002 : Index := Scalar.indexCast v948
  let c0_387 : Index := 0#32
  ![v1002.toNat, 0]
def k0_off68 (v950 : BitVec 32) : Fin 2 → Nat :=
  let v1004 : Index := Scalar.indexCast v950
  let c0_388 : Index := 0#32
  ![v1004.toNat, 0]
def k0_mult13 (v948 : BitVec 32) : BitVec 32 :=
  let c0_i32_396 : BitVec 32 := 0#32
  let v1020 : BitVec 1 := Scalar.cmpi .sgt v948 c0_i32_396
  let v1021 : BitVec 32 := Scalar.extui v1020
  let c0_i32_397 : BitVec 32 := 0#32
  let v1022 : BitVec 1 := Scalar.cmpi .slt v948 c0_i32_397
  let v1023 : BitVec 32 := Scalar.extui v1022
  let v1024 : BitVec 32 := Scalar.subi v1021 v1023
  let c128_i32_395 : BitVec 32 := 128#32
  let c0_i32_398 : BitVec 32 := 0#32
  let v1025 : BitVec 1 := Scalar.cmpi .sgt c128_i32_395 c0_i32_398
  let v1026 : BitVec 32 := Scalar.extui v1025
  let c0_i32_399 : BitVec 32 := 0#32
  let v1027 : BitVec 1 := Scalar.cmpi .slt c128_i32_395 c0_i32_399
  let v1028 : BitVec 32 := Scalar.extui v1027
  let v1029 : BitVec 32 := Scalar.subi v1026 v1028
  let v1030 : BitVec 1 := Scalar.cmpi .ne v1024 v1029
  let v1031 : BitVec 32 := Scalar.remsi v948 c128_i32_395
  let c0_i32_400 : BitVec 32 := 0#32
  let v1032 : BitVec 1 := Scalar.cmpi .ne v1031 c0_i32_400
  let v1033 : BitVec 1 := Scalar.andi v1030 v1032
  let v1019 : BitVec 32 := Scalar.divsi v948 c128_i32_395
  let c1_i32_401 : BitVec 32 := 1#32
  let v1034 : BitVec 32 := Scalar.subi v1019 c1_i32_401
  let v1035 : BitVec 32 := Scalar.select v1033 v1034 v1019
  let c128_i32_402 : BitVec 32 := 128#32
  let v1036 : BitVec 32 := Scalar.muli v1035 c128_i32_402
  v1036
def k0_off69 (v948 : BitVec 32) : Fin 2 → Nat :=
  let c0_403 : Index := 0#32
  let c0_i32_396 : BitVec 32 := 0#32
  let v1020 : BitVec 1 := Scalar.cmpi .sgt v948 c0_i32_396
  let v1021 : BitVec 32 := Scalar.extui v1020
  let c0_i32_397 : BitVec 32 := 0#32
  let v1022 : BitVec 1 := Scalar.cmpi .slt v948 c0_i32_397
  let v1023 : BitVec 32 := Scalar.extui v1022
  let v1024 : BitVec 32 := Scalar.subi v1021 v1023
  let c128_i32_395 : BitVec 32 := 128#32
  let c0_i32_398 : BitVec 32 := 0#32
  let v1025 : BitVec 1 := Scalar.cmpi .sgt c128_i32_395 c0_i32_398
  let v1026 : BitVec 32 := Scalar.extui v1025
  let c0_i32_399 : BitVec 32 := 0#32
  let v1027 : BitVec 1 := Scalar.cmpi .slt c128_i32_395 c0_i32_399
  let v1028 : BitVec 32 := Scalar.extui v1027
  let v1029 : BitVec 32 := Scalar.subi v1026 v1028
  let v1030 : BitVec 1 := Scalar.cmpi .ne v1024 v1029
  let v1031 : BitVec 32 := Scalar.remsi v948 c128_i32_395
  let c0_i32_400 : BitVec 32 := 0#32
  let v1032 : BitVec 1 := Scalar.cmpi .ne v1031 c0_i32_400
  let v1033 : BitVec 1 := Scalar.andi v1030 v1032
  let v1019 : BitVec 32 := Scalar.divsi v948 c128_i32_395
  let c1_i32_401 : BitVec 32 := 1#32
  let v1034 : BitVec 32 := Scalar.subi v1019 c1_i32_401
  let v1035 : BitVec 32 := Scalar.select v1033 v1034 v1019
  let c128_i32_402 : BitVec 32 := 128#32
  let v1036 : BitVec 32 := Scalar.muli v1035 c128_i32_402
  let v1037 : BitVec 32 := v1036
  let v1038 : Index := Scalar.indexCast v1037
  ![0, v1038.toNat]

def k0_chk19 (v948 : BitVec 32) : Prop :=
  (∀ a, (k0_off62 v948) a + S1x256.size a ≤ S10000x256.size a) ∧
  (∀ a, (k0_off67 v948) a + S1x256.size a ≤ S10000x256.size a) ∧
  (128 ∣ (k0_mult13 v948).toNat) ∧
  (∀ a, (k0_off69 v948) a + S2x128.size a ≤ S2x10240.size a)
theorem k0_off62_inb : ∀ (v948 : BitVec 32) (k0_hw19 : k0_chk19 v948), ∀ a, (k0_off62 v948) a + S1x256.size a ≤ S10000x256.size a := fun v948 k0_hw19 => k0_hw19.1
theorem k0_off67_inb : ∀ (v948 : BitVec 32) (k0_hw19 : k0_chk19 v948), ∀ a, (k0_off67 v948) a + S1x256.size a ≤ S10000x256.size a := fun v948 k0_hw19 => k0_hw19.2.1
theorem k0_mult13_dvd : ∀ (v948 : BitVec 32) (k0_hw19 : k0_chk19 v948), 128 ∣ (k0_mult13 v948).toNat := fun v948 k0_hw19 => k0_hw19.2.2.1
theorem k0_off69_inb : ∀ (v948 : BitVec 32) (k0_hw19 : k0_chk19 v948), ∀ a, (k0_off69 v948) a + S2x128.size a ≤ S2x10240.size a := fun v948 k0_hw19 => k0_hw19.2.2.2

def k0_mult14 (v950 : BitVec 32) : BitVec 32 :=
  let c0_i32_412 : BitVec 32 := 0#32
  let v1062 : BitVec 1 := Scalar.cmpi .sgt v950 c0_i32_412
  let v1063 : BitVec 32 := Scalar.extui v1062
  let c0_i32_413 : BitVec 32 := 0#32
  let v1064 : BitVec 1 := Scalar.cmpi .slt v950 c0_i32_413
  let v1065 : BitVec 32 := Scalar.extui v1064
  let v1066 : BitVec 32 := Scalar.subi v1063 v1065
  let c128_i32_411 : BitVec 32 := 128#32
  let c0_i32_414 : BitVec 32 := 0#32
  let v1067 : BitVec 1 := Scalar.cmpi .sgt c128_i32_411 c0_i32_414
  let v1068 : BitVec 32 := Scalar.extui v1067
  let c0_i32_415 : BitVec 32 := 0#32
  let v1069 : BitVec 1 := Scalar.cmpi .slt c128_i32_411 c0_i32_415
  let v1070 : BitVec 32 := Scalar.extui v1069
  let v1071 : BitVec 32 := Scalar.subi v1068 v1070
  let v1072 : BitVec 1 := Scalar.cmpi .ne v1066 v1071
  let v1073 : BitVec 32 := Scalar.remsi v950 c128_i32_411
  let c0_i32_416 : BitVec 32 := 0#32
  let v1074 : BitVec 1 := Scalar.cmpi .ne v1073 c0_i32_416
  let v1075 : BitVec 1 := Scalar.andi v1072 v1074
  let v1061 : BitVec 32 := Scalar.divsi v950 c128_i32_411
  let c1_i32_417 : BitVec 32 := 1#32
  let v1076 : BitVec 32 := Scalar.subi v1061 c1_i32_417
  let v1077 : BitVec 32 := Scalar.select v1075 v1076 v1061
  let c128_i32_418 : BitVec 32 := 128#32
  let v1078 : BitVec 32 := Scalar.muli v1077 c128_i32_418
  v1078
def k0_off70 (v950 : BitVec 32) : Fin 2 → Nat :=
  let c0_419 : Index := 0#32
  let c0_i32_412 : BitVec 32 := 0#32
  let v1062 : BitVec 1 := Scalar.cmpi .sgt v950 c0_i32_412
  let v1063 : BitVec 32 := Scalar.extui v1062
  let c0_i32_413 : BitVec 32 := 0#32
  let v1064 : BitVec 1 := Scalar.cmpi .slt v950 c0_i32_413
  let v1065 : BitVec 32 := Scalar.extui v1064
  let v1066 : BitVec 32 := Scalar.subi v1063 v1065
  let c128_i32_411 : BitVec 32 := 128#32
  let c0_i32_414 : BitVec 32 := 0#32
  let v1067 : BitVec 1 := Scalar.cmpi .sgt c128_i32_411 c0_i32_414
  let v1068 : BitVec 32 := Scalar.extui v1067
  let c0_i32_415 : BitVec 32 := 0#32
  let v1069 : BitVec 1 := Scalar.cmpi .slt c128_i32_411 c0_i32_415
  let v1070 : BitVec 32 := Scalar.extui v1069
  let v1071 : BitVec 32 := Scalar.subi v1068 v1070
  let v1072 : BitVec 1 := Scalar.cmpi .ne v1066 v1071
  let v1073 : BitVec 32 := Scalar.remsi v950 c128_i32_411
  let c0_i32_416 : BitVec 32 := 0#32
  let v1074 : BitVec 1 := Scalar.cmpi .ne v1073 c0_i32_416
  let v1075 : BitVec 1 := Scalar.andi v1072 v1074
  let v1061 : BitVec 32 := Scalar.divsi v950 c128_i32_411
  let c1_i32_417 : BitVec 32 := 1#32
  let v1076 : BitVec 32 := Scalar.subi v1061 c1_i32_417
  let v1077 : BitVec 32 := Scalar.select v1075 v1076 v1061
  let c128_i32_418 : BitVec 32 := 128#32
  let v1078 : BitVec 32 := Scalar.muli v1077 c128_i32_418
  let v1079 : BitVec 32 := v1078
  let v1080 : Index := Scalar.indexCast v1079
  ![0, v1080.toNat]

def k0_chk20 (v950 : BitVec 32) : Prop :=
  (∀ a, (k0_off63 v950) a + S1x256.size a ≤ S10000x256.size a) ∧
  (∀ a, (k0_off68 v950) a + S1x256.size a ≤ S10000x256.size a) ∧
  (128 ∣ (k0_mult14 v950).toNat) ∧
  (∀ a, (k0_off70 v950) a + S2x128.size a ≤ S2x10240.size a)
theorem k0_off63_inb : ∀ (v950 : BitVec 32) (k0_hw20 : k0_chk20 v950), ∀ a, (k0_off63 v950) a + S1x256.size a ≤ S10000x256.size a := fun v950 k0_hw20 => k0_hw20.1
theorem k0_off68_inb : ∀ (v950 : BitVec 32) (k0_hw20 : k0_chk20 v950), ∀ a, (k0_off68 v950) a + S1x256.size a ≤ S10000x256.size a := fun v950 k0_hw20 => k0_hw20.2.1
theorem k0_mult14_dvd : ∀ (v950 : BitVec 32) (k0_hw20 : k0_chk20 v950), 128 ∣ (k0_mult14 v950).toNat := fun v950 k0_hw20 => k0_hw20.2.2.1
theorem k0_off70_inb : ∀ (v950 : BitVec 32) (k0_hw20 : k0_chk20 v950), ∀ a, (k0_off70 v950) a + S2x128.size a ≤ S2x10240.size a := fun v950 k0_hw20 => k0_hw20.2.2.2

def k0_off71 (i : grid0.Coords) : Fin 1 → Nat :=
  let c8_i32 : BitVec 32 := 8#32
  let arg0 : BitVec 32 := BitVec.ofNat 32 (i 0).val
  let v3 : BitVec 32 := Scalar.muli c8_i32 arg0
  let c7_i32 : BitVec 32 := 7#32
  let v1103 : BitVec 32 := Scalar.addi v3 c7_i32
  let v1104 : Index := Scalar.indexCast v1103
  ![v1104.toNat]
def k0_off72 (v1105 : BitVec 32) : Fin 2 → Nat :=
  let v1110 : Index := Scalar.indexCast v1105
  let c0_427 : Index := 0#32
  ![v1110.toNat, 0]

def k0_off73 (v1107 : BitVec 32) : Fin 2 → Nat :=
  let v1113 : Index := Scalar.indexCast v1107
  let c0_428 : Index := 0#32
  ![v1113.toNat, 0]

def k0_off74 (v1109 : BitVec 32) : Fin 2 → Nat :=
  let v1116 : Index := Scalar.indexCast v1109
  let c0_429 : Index := 0#32
  ![v1116.toNat, 0]

def k0_off75 (v1109 : BitVec 32) : Fin 2 → Nat :=
  let v1119 : Index := Scalar.indexCast v1109
  let c0_431 : Index := 0#32
  ![v1119.toNat, 0]

def k0_chk24 (v1109 : BitVec 32) : Prop :=
  (∀ a, (k0_off74 v1109) a + S1x10000.size a ≤ S2x10240.size a) ∧
  (∀ a, (k0_off75 v1109) a + S1x256.size a ≤ S2x256.size a)
theorem k0_off74_inb : ∀ (v1109 : BitVec 32) (k0_hw24 : k0_chk24 v1109), ∀ a, (k0_off74 v1109) a + S1x10000.size a ≤ S2x10240.size a := fun v1109 k0_hw24 => k0_hw24.1
theorem k0_off75_inb : ∀ (v1109 : BitVec 32) (k0_hw24 : k0_chk24 v1109), ∀ a, (k0_off75 v1109) a + S1x256.size a ≤ S2x256.size a := fun v1109 k0_hw24 => k0_hw24.2

def k0_off76 (i : grid0.Coords) : Fin 2 → Nat :=
  let c8_i32 : BitVec 32 := 8#32
  let arg0 : BitVec 32 := BitVec.ofNat 32 (i 0).val
  let v3 : BitVec 32 := Scalar.muli c8_i32 arg0
  let c7_i32 : BitVec 32 := 7#32
  let v1103 : BitVec 32 := Scalar.addi v3 c7_i32
  let v1130 : Index := Scalar.indexCast v1103
  let c0_436 : Index := 0#32
  ![v1130.toNat, 0]
def k0_off77 (v1105 : BitVec 32) : Fin 2 → Nat :=
  let v1159 : Index := Scalar.indexCast v1105
  let c0_448 : Index := 0#32
  ![v1159.toNat, 0]
def k0_off78 (v1107 : BitVec 32) : Fin 2 → Nat :=
  let v1161 : Index := Scalar.indexCast v1107
  let c0_449 : Index := 0#32
  ![v1161.toNat, 0]
def k0_mult15 (v1105 : BitVec 32) : BitVec 32 :=
  let c0_i32_457 : BitVec 32 := 0#32
  let v1177 : BitVec 1 := Scalar.cmpi .sgt v1105 c0_i32_457
  let v1178 : BitVec 32 := Scalar.extui v1177
  let c0_i32_458 : BitVec 32 := 0#32
  let v1179 : BitVec 1 := Scalar.cmpi .slt v1105 c0_i32_458
  let v1180 : BitVec 32 := Scalar.extui v1179
  let v1181 : BitVec 32 := Scalar.subi v1178 v1180
  let c128_i32_456 : BitVec 32 := 128#32
  let c0_i32_459 : BitVec 32 := 0#32
  let v1182 : BitVec 1 := Scalar.cmpi .sgt c128_i32_456 c0_i32_459
  let v1183 : BitVec 32 := Scalar.extui v1182
  let c0_i32_460 : BitVec 32 := 0#32
  let v1184 : BitVec 1 := Scalar.cmpi .slt c128_i32_456 c0_i32_460
  let v1185 : BitVec 32 := Scalar.extui v1184
  let v1186 : BitVec 32 := Scalar.subi v1183 v1185
  let v1187 : BitVec 1 := Scalar.cmpi .ne v1181 v1186
  let v1188 : BitVec 32 := Scalar.remsi v1105 c128_i32_456
  let c0_i32_461 : BitVec 32 := 0#32
  let v1189 : BitVec 1 := Scalar.cmpi .ne v1188 c0_i32_461
  let v1190 : BitVec 1 := Scalar.andi v1187 v1189
  let v1176 : BitVec 32 := Scalar.divsi v1105 c128_i32_456
  let c1_i32_462 : BitVec 32 := 1#32
  let v1191 : BitVec 32 := Scalar.subi v1176 c1_i32_462
  let v1192 : BitVec 32 := Scalar.select v1190 v1191 v1176
  let c128_i32_463 : BitVec 32 := 128#32
  let v1193 : BitVec 32 := Scalar.muli v1192 c128_i32_463
  v1193
def k0_off79 (v1105 : BitVec 32) : Fin 2 → Nat :=
  let c0_464 : Index := 0#32
  let c0_i32_457 : BitVec 32 := 0#32
  let v1177 : BitVec 1 := Scalar.cmpi .sgt v1105 c0_i32_457
  let v1178 : BitVec 32 := Scalar.extui v1177
  let c0_i32_458 : BitVec 32 := 0#32
  let v1179 : BitVec 1 := Scalar.cmpi .slt v1105 c0_i32_458
  let v1180 : BitVec 32 := Scalar.extui v1179
  let v1181 : BitVec 32 := Scalar.subi v1178 v1180
  let c128_i32_456 : BitVec 32 := 128#32
  let c0_i32_459 : BitVec 32 := 0#32
  let v1182 : BitVec 1 := Scalar.cmpi .sgt c128_i32_456 c0_i32_459
  let v1183 : BitVec 32 := Scalar.extui v1182
  let c0_i32_460 : BitVec 32 := 0#32
  let v1184 : BitVec 1 := Scalar.cmpi .slt c128_i32_456 c0_i32_460
  let v1185 : BitVec 32 := Scalar.extui v1184
  let v1186 : BitVec 32 := Scalar.subi v1183 v1185
  let v1187 : BitVec 1 := Scalar.cmpi .ne v1181 v1186
  let v1188 : BitVec 32 := Scalar.remsi v1105 c128_i32_456
  let c0_i32_461 : BitVec 32 := 0#32
  let v1189 : BitVec 1 := Scalar.cmpi .ne v1188 c0_i32_461
  let v1190 : BitVec 1 := Scalar.andi v1187 v1189
  let v1176 : BitVec 32 := Scalar.divsi v1105 c128_i32_456
  let c1_i32_462 : BitVec 32 := 1#32
  let v1191 : BitVec 32 := Scalar.subi v1176 c1_i32_462
  let v1192 : BitVec 32 := Scalar.select v1190 v1191 v1176
  let c128_i32_463 : BitVec 32 := 128#32
  let v1193 : BitVec 32 := Scalar.muli v1192 c128_i32_463
  let v1194 : BitVec 32 := v1193
  let v1195 : Index := Scalar.indexCast v1194
  ![0, v1195.toNat]

def k0_chk22 (v1105 : BitVec 32) : Prop :=
  (∀ a, (k0_off72 v1105) a + S1x256.size a ≤ S10000x256.size a) ∧
  (∀ a, (k0_off77 v1105) a + S1x256.size a ≤ S10000x256.size a) ∧
  (128 ∣ (k0_mult15 v1105).toNat) ∧
  (∀ a, (k0_off79 v1105) a + S2x128.size a ≤ S2x10240.size a)
theorem k0_off72_inb : ∀ (v1105 : BitVec 32) (k0_hw22 : k0_chk22 v1105), ∀ a, (k0_off72 v1105) a + S1x256.size a ≤ S10000x256.size a := fun v1105 k0_hw22 => k0_hw22.1
theorem k0_off77_inb : ∀ (v1105 : BitVec 32) (k0_hw22 : k0_chk22 v1105), ∀ a, (k0_off77 v1105) a + S1x256.size a ≤ S10000x256.size a := fun v1105 k0_hw22 => k0_hw22.2.1
theorem k0_mult15_dvd : ∀ (v1105 : BitVec 32) (k0_hw22 : k0_chk22 v1105), 128 ∣ (k0_mult15 v1105).toNat := fun v1105 k0_hw22 => k0_hw22.2.2.1
theorem k0_off79_inb : ∀ (v1105 : BitVec 32) (k0_hw22 : k0_chk22 v1105), ∀ a, (k0_off79 v1105) a + S2x128.size a ≤ S2x10240.size a := fun v1105 k0_hw22 => k0_hw22.2.2.2

def k0_mult16 (v1107 : BitVec 32) : BitVec 32 :=
  let c0_i32_473 : BitVec 32 := 0#32
  let v1219 : BitVec 1 := Scalar.cmpi .sgt v1107 c0_i32_473
  let v1220 : BitVec 32 := Scalar.extui v1219
  let c0_i32_474 : BitVec 32 := 0#32
  let v1221 : BitVec 1 := Scalar.cmpi .slt v1107 c0_i32_474
  let v1222 : BitVec 32 := Scalar.extui v1221
  let v1223 : BitVec 32 := Scalar.subi v1220 v1222
  let c128_i32_472 : BitVec 32 := 128#32
  let c0_i32_475 : BitVec 32 := 0#32
  let v1224 : BitVec 1 := Scalar.cmpi .sgt c128_i32_472 c0_i32_475
  let v1225 : BitVec 32 := Scalar.extui v1224
  let c0_i32_476 : BitVec 32 := 0#32
  let v1226 : BitVec 1 := Scalar.cmpi .slt c128_i32_472 c0_i32_476
  let v1227 : BitVec 32 := Scalar.extui v1226
  let v1228 : BitVec 32 := Scalar.subi v1225 v1227
  let v1229 : BitVec 1 := Scalar.cmpi .ne v1223 v1228
  let v1230 : BitVec 32 := Scalar.remsi v1107 c128_i32_472
  let c0_i32_477 : BitVec 32 := 0#32
  let v1231 : BitVec 1 := Scalar.cmpi .ne v1230 c0_i32_477
  let v1232 : BitVec 1 := Scalar.andi v1229 v1231
  let v1218 : BitVec 32 := Scalar.divsi v1107 c128_i32_472
  let c1_i32_478 : BitVec 32 := 1#32
  let v1233 : BitVec 32 := Scalar.subi v1218 c1_i32_478
  let v1234 : BitVec 32 := Scalar.select v1232 v1233 v1218
  let c128_i32_479 : BitVec 32 := 128#32
  let v1235 : BitVec 32 := Scalar.muli v1234 c128_i32_479
  v1235
def k0_off80 (v1107 : BitVec 32) : Fin 2 → Nat :=
  let c0_480 : Index := 0#32
  let c0_i32_473 : BitVec 32 := 0#32
  let v1219 : BitVec 1 := Scalar.cmpi .sgt v1107 c0_i32_473
  let v1220 : BitVec 32 := Scalar.extui v1219
  let c0_i32_474 : BitVec 32 := 0#32
  let v1221 : BitVec 1 := Scalar.cmpi .slt v1107 c0_i32_474
  let v1222 : BitVec 32 := Scalar.extui v1221
  let v1223 : BitVec 32 := Scalar.subi v1220 v1222
  let c128_i32_472 : BitVec 32 := 128#32
  let c0_i32_475 : BitVec 32 := 0#32
  let v1224 : BitVec 1 := Scalar.cmpi .sgt c128_i32_472 c0_i32_475
  let v1225 : BitVec 32 := Scalar.extui v1224
  let c0_i32_476 : BitVec 32 := 0#32
  let v1226 : BitVec 1 := Scalar.cmpi .slt c128_i32_472 c0_i32_476
  let v1227 : BitVec 32 := Scalar.extui v1226
  let v1228 : BitVec 32 := Scalar.subi v1225 v1227
  let v1229 : BitVec 1 := Scalar.cmpi .ne v1223 v1228
  let v1230 : BitVec 32 := Scalar.remsi v1107 c128_i32_472
  let c0_i32_477 : BitVec 32 := 0#32
  let v1231 : BitVec 1 := Scalar.cmpi .ne v1230 c0_i32_477
  let v1232 : BitVec 1 := Scalar.andi v1229 v1231
  let v1218 : BitVec 32 := Scalar.divsi v1107 c128_i32_472
  let c1_i32_478 : BitVec 32 := 1#32
  let v1233 : BitVec 32 := Scalar.subi v1218 c1_i32_478
  let v1234 : BitVec 32 := Scalar.select v1232 v1233 v1218
  let c128_i32_479 : BitVec 32 := 128#32
  let v1235 : BitVec 32 := Scalar.muli v1234 c128_i32_479
  let v1236 : BitVec 32 := v1235
  let v1237 : Index := Scalar.indexCast v1236
  ![0, v1237.toNat]

def k0_chk23 (v1107 : BitVec 32) : Prop :=
  (∀ a, (k0_off73 v1107) a + S1x256.size a ≤ S10000x256.size a) ∧
  (∀ a, (k0_off78 v1107) a + S1x256.size a ≤ S10000x256.size a) ∧
  (128 ∣ (k0_mult16 v1107).toNat) ∧
  (∀ a, (k0_off80 v1107) a + S2x128.size a ≤ S2x10240.size a)
theorem k0_off73_inb : ∀ (v1107 : BitVec 32) (k0_hw23 : k0_chk23 v1107), ∀ a, (k0_off73 v1107) a + S1x256.size a ≤ S10000x256.size a := fun v1107 k0_hw23 => k0_hw23.1
theorem k0_off78_inb : ∀ (v1107 : BitVec 32) (k0_hw23 : k0_chk23 v1107), ∀ a, (k0_off78 v1107) a + S1x256.size a ≤ S10000x256.size a := fun v1107 k0_hw23 => k0_hw23.2.1
theorem k0_mult16_dvd : ∀ (v1107 : BitVec 32) (k0_hw23 : k0_chk23 v1107), 128 ∣ (k0_mult16 v1107).toNat := fun v1107 k0_hw23 => k0_hw23.2.2.1
theorem k0_off80_inb : ∀ (v1107 : BitVec 32) (k0_hw23 : k0_chk23 v1107), ∀ a, (k0_off80 v1107) a + S2x128.size a ≤ S2x10240.size a := fun v1107 k0_hw23 => k0_hw23.2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S200 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x10000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S10000x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![25], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x2 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1x10000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x10000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x20000 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "inv_td" => some ((100⁻¹ : ℝ) : EReal)
  | _ => none
-- ==== ReferenceIdeal.lean ====
abbrev S200 : Shape := ⟨1, ![200]⟩
abbrev S200x2x4 : Shape := ⟨3, ![200, 2, 4]⟩
abbrev S200x10000x1 : Shape := ⟨3, ![200, 10000, 1]⟩
abbrev S10000x256 : Shape := ⟨2, ![10000, 256]⟩
abbrev S2x1x512 : Shape := ⟨3, ![2, 1, 512]⟩
abbrev S2x1 : Shape := ⟨2, ![2, 1]⟩
abbrev S2 : Shape := ⟨1, ![2]⟩
abbrev S256x256 : Shape := ⟨2, ![256, 256]⟩
abbrev S256 : Shape := ⟨1, ![256]⟩
abbrev S256x4 : Shape := ⟨2, ![256, 4]⟩
abbrev S4 : Shape := ⟨1, ![4]⟩
abbrev S_ : Shape := ⟨0, ![]⟩
abbrev S1x1x4 : Shape := ⟨3, ![1, 1, 4]⟩
abbrev S200x20000 : Shape := ⟨2, ![200, 20000]⟩
abbrev S1 : Shape := ⟨1, ![1]⟩
abbrev S1x2x4 : Shape := ⟨3, ![1, 2, 4]⟩
abbrev S2x4 : Shape := ⟨2, ![2, 4]⟩
abbrev S1x10000x1 : Shape := ⟨3, ![1, 10000, 1]⟩
abbrev S10000x1 : Shape := ⟨2, ![10000, 1]⟩
abbrev S1x256 : Shape := ⟨2, ![1, 256]⟩
abbrev S10000x512 : Shape := ⟨2, ![10000, 512]⟩
abbrev S20000x512 : Shape := ⟨2, ![20000, 512]⟩
abbrev S10000 : Shape := ⟨1, ![10000]⟩
abbrev S20000 : Shape := ⟨1, ![20000]⟩
abbrev S1x1x512 : Shape := ⟨3, ![1, 1, 512]⟩
abbrev S1x512 : Shape := ⟨2, ![1, 512]⟩
abbrev S1x1 : Shape := ⟨2, ![1, 1]⟩
abbrev S512 : Shape := ⟨1, ![512]⟩
abbrev S1x4 : Shape := ⟨2, ![1, 4]⟩
abbrev S4x256 : Shape := ⟨2, ![4, 256]⟩
abbrev S1x20000 : Shape := ⟨2, ![1, 20000]⟩

abbrev nBuf : Space → Nat
  | .hbm => 277
  | .vmem => 0
  | .smem => 0
  | _ => 0

abbrev hbmTy0_0 (i : Nat) : BufTy := match i % 128 with
  | 0 => ⟨S200, .i32⟩
  | 1 => ⟨S200, .i32⟩
  | 2 => ⟨S200x2x4, .f32⟩
  | 3 => ⟨S200, .i32⟩
  | 4 => ⟨S200x10000x1, .f32⟩
  | 5 => ⟨S200, .f32⟩
  | 6 => ⟨S10000x256, .f32⟩
  | 7 => ⟨S2x1x512, .f32⟩
  | 8 => ⟨S2x1, .f32⟩
  | 9 => ⟨S2, .f32⟩
  | 10 => ⟨S2, .f32⟩
  | 11 => ⟨S2, .f32⟩
  | 12 => ⟨S256x256, .f32⟩
  | 13 => ⟨S256, .f32⟩
  | 14 => ⟨S256x256, .f32⟩
  | 15 => ⟨S256, .f32⟩
  | 16 => ⟨S256x4, .f32⟩
  | 17 => ⟨S256, .f32⟩
  | 18 => ⟨S4, .f32⟩
  | 19 => ⟨S_, .f32⟩
  | 20 => ⟨S1x1x4, .f32⟩
  | 21 => ⟨S1x1x4, .f32⟩
  | 22 => ⟨S200x2x4, .f32⟩
  | 23 => ⟨S200x2x4, .f32⟩
  | 24 => ⟨S200x2x4, .f32⟩
  | 25 => ⟨S200x2x4, .f32⟩
  | 26 => ⟨S_, .f32⟩
  | 27 => ⟨S200x20000, .f32⟩
  | 28 => ⟨S_, .i32⟩
  | 29 => ⟨S200, .i32⟩
  | 30 => ⟨S200, .i32⟩
  | 31 => ⟨S200x2x4, .f32⟩
  | 32 => ⟨S200, .i32⟩
  | 33 => ⟨S200x10000x1, .f32⟩
  | 34 => ⟨S200, .f32⟩
  | 35 => ⟨S2x1x512, .f32⟩
  | 36 => ⟨S2x1, .f32⟩
  | 37 => ⟨S2, .f32⟩
  | 38 => ⟨S2, .f32⟩
  | 39 => ⟨S2, .f32⟩
  | 40 => ⟨S256x256, .f32⟩
  | 41 => ⟨S256, .f32⟩
  | 42 => ⟨S256x256, .f32⟩
  | 43 => ⟨S256, .f32⟩
  | 44 => ⟨S256x4, .f32⟩
  | 45 => ⟨S256, .f32⟩
  | 46 => ⟨S_, .i32⟩
  | 47 => ⟨S10000x256, .f32⟩
  | 48 => ⟨S200x20000, .f32⟩
  | 49 => ⟨S_, .i32⟩
  | 50 => ⟨S_, .i1⟩
  | 51 => ⟨S1, .i32⟩
  | 52 => ⟨S_, .i32⟩
  | 53 => ⟨S1, .i32⟩
  | 54 => ⟨S_, .i32⟩
  | 55 => ⟨S_, .i32⟩
  | 56 => ⟨S_, .i32⟩
  | 57 => ⟨S1x2x4, .f32⟩
  | 58 => ⟨S2x4, .f32⟩
  | 59 => ⟨S1, .i32⟩
  | 60 => ⟨S_, .i32⟩
  | 61 => ⟨S_, .i32⟩
  | 62 => ⟨S_, .i32⟩
  | 63 => ⟨S1x10000x1, .f32⟩
  | 64 => ⟨S10000x1, .f32⟩
  | 65 => ⟨S1, .f32⟩
  | 66 => ⟨S_, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x256, .f32⟩
  | 81 => ⟨S256, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S1x256, .f32⟩
  | 96 => ⟨S256, .f32⟩
  | 97 => ⟨S1x256, .f32⟩
  | 98 => ⟨S10000x256, .f32⟩
  | 99 => ⟨S10000x512, .f32⟩
  | 100 => ⟨S1x256, .f32⟩
  | 101 => ⟨S10000x256, .f32⟩
  | 102 => ⟨S10000x512, .f32⟩
  | 103 => ⟨S20000x512, .f32⟩
  | 104 => ⟨S10000, .f32⟩
  | 105 => ⟨S_, .i32⟩
  | 106 => ⟨S_, .i1⟩
  | 107 => ⟨S_, .i32⟩
  | 108 => ⟨S_, .i32⟩
  | 109 => ⟨S_, .i32⟩
  | 110 => ⟨S1, .f32⟩
  | 111 => ⟨S_, .f32⟩
  | 112 => ⟨S10000, .f32⟩
  | 113 => ⟨S10000, .f32⟩
  | 114 => ⟨S_, .i32⟩
  | 115 => ⟨S_, .i1⟩
  | 116 => ⟨S_, .i32⟩
  | 117 => ⟨S_, .i32⟩
  | 118 => ⟨S_, .i32⟩
  | 119 => ⟨S1, .f32⟩
  | 120 => ⟨S_, .f32⟩
  | 121 => ⟨S10000, .f32⟩
  | 122 => ⟨S10000, .f32⟩
  | 123 => ⟨S20000, .f32⟩
  | 124 => ⟨S20000, .f32⟩
  | 125 => ⟨S20000, .f32⟩
  | 126 => ⟨S_, .i32⟩
  | 127 => ⟨S_, .i1⟩
  | _ => ⟨S200, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S1x1x512, .f32⟩
  | 20 => ⟨S1x512, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S1x1, .f32⟩
  | 35 => ⟨S1, .f32⟩
  | 36 => ⟨S512, .f32⟩
  | 37 => ⟨S20000, .f32⟩
  | 38 => ⟨S_, .f32⟩
  | 39 => ⟨S20000, .f32⟩
  | 40 => ⟨S20000, .f32⟩
  | 41 => ⟨S_, .i32⟩
  | 42 => ⟨S_, .i1⟩
  | 43 => ⟨S_, .i32⟩
  | 44 => ⟨S_, .i32⟩
  | 45 => ⟨S_, .i32⟩
  | 46 => ⟨S1, .f32⟩
  | 47 => ⟨S_, .f32⟩
  | 48 => ⟨S_, .i32⟩
  | 49 => ⟨S_, .i1⟩
  | 50 => ⟨S_, .i32⟩
  | 51 => ⟨S_, .i32⟩
  | 52 => ⟨S_, .i32⟩
  | 53 => ⟨S1, .f32⟩
  | 54 => ⟨S_, .f32⟩
  | 55 => ⟨S_, .f32⟩
  | 56 => ⟨S_, .f32⟩
  | 57 => ⟨S20000, .f32⟩
  | 58 => ⟨S20000, .f32⟩
  | 59 => ⟨S20000, .f32⟩
  | 60 => ⟨S20000, .f32⟩
  | 61 => ⟨S20000, .f32⟩
  | 62 => ⟨S20000, .f32⟩
  | 63 => ⟨S20000, .f32⟩
  | 64 => ⟨S20000, .f32⟩
  | 65 => ⟨S_, .i32⟩
  | 66 => ⟨S_, .i1⟩
  | 67 => ⟨S_, .i32⟩
  | 68 => ⟨S_, .i32⟩
  | 69 => ⟨S_, .i32⟩
  | 70 => ⟨S1, .f32⟩
  | 71 => ⟨S_, .f32⟩
  | 72 => ⟨S_, .f32⟩
  | 73 => ⟨S_, .f32⟩
  | 74 => ⟨S20000, .f32⟩
  | 75 => ⟨S20000, .f32⟩
  | 76 => ⟨S_, .f32⟩
  | 77 => ⟨S_, .f32⟩
  | 78 => ⟨S_, .f32⟩
  | 79 => ⟨S20000, .f32⟩
  | 80 => ⟨S20000, .f32⟩
  | 81 => ⟨S_, .f32⟩
  | 82 => ⟨S20000, .f32⟩
  | 83 => ⟨S20000, .f32⟩
  | 84 => ⟨S20000, .f32⟩
  | 85 => ⟨S20000, .f32⟩
  | 86 => ⟨S20000, .f32⟩
  | 87 => ⟨S20000, .f32⟩
  | 88 => ⟨S256x256, .f32⟩
  | 89 => ⟨S256, .f32⟩
  | 90 => ⟨S256, .f32⟩
  | 91 => ⟨S256x256, .f32⟩
  | 92 => ⟨S256, .f32⟩
  | 93 => ⟨S256, .f32⟩
  | 94 => ⟨S256, .f32⟩
  | 95 => ⟨S1x4, .f32⟩
  | 96 => ⟨S4, .f32⟩
  | 97 => ⟨S4x256, .f32⟩
  | 98 => ⟨S256, .f32⟩
  | 99 => ⟨S256, .f32⟩
  | 100 => ⟨S256, .f32⟩
  | 101 => ⟨S256, .f32⟩
  | 102 => ⟨S256, .f32⟩
  | 103 => ⟨S_, .f32⟩
  | 104 => ⟨S256, .f32⟩
  | 105 => ⟨S256, .f32⟩
  | 106 => ⟨S_, .f32⟩
  | 107 => ⟨S256, .f32⟩
  | 108 => ⟨S256, .f32⟩
  | 109 => ⟨S256x256, .f32⟩
  | 110 => ⟨S256, .f32⟩
  | 111 => ⟨S256, .f32⟩
  | 112 => ⟨S256x256, .f32⟩
  | 113 => ⟨S256, .f32⟩
  | 114 => ⟨S256, .f32⟩
  | 115 => ⟨S256, .f32⟩
  | 116 => ⟨S1x4, .f32⟩
  | 117 => ⟨S4, .f32⟩
  | 118 => ⟨S4x256, .f32⟩
  | 119 => ⟨S256, .f32⟩
  | 120 => ⟨S256, .f32⟩
  | 121 => ⟨S256, .f32⟩
  | 122 => ⟨S256, .f32⟩
  | 123 => ⟨S256, .f32⟩
  | 124 => ⟨S_, .f32⟩
  | 125 => ⟨S256, .f32⟩
  | 126 => ⟨S256, .f32⟩
  | 127 => ⟨S_, .f32⟩
  | _ => ⟨S200, .i32⟩

abbrev hbmTy0_2 (i : Nat) : BufTy := match i % 128 with
  | 0 => ⟨S256, .f32⟩
  | 1 => ⟨S256, .f32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S10000x256, .f32⟩
  | 9 => ⟨S_, .i32⟩
  | 10 => ⟨S_, .i1⟩
  | 11 => ⟨S_, .i32⟩
  | 12 => ⟨S_, .i32⟩
  | 13 => ⟨S_, .i32⟩
  | 14 => ⟨S1, .i32⟩
  | 15 => ⟨S10000x256, .f32⟩
  | 16 => ⟨S1x20000, .f32⟩
  | 17 => ⟨S_, .i32⟩
  | 18 => ⟨S200x20000, .f32⟩
  | 19 => ⟨S_, .i32⟩
  | 20 => ⟨S_, .i32⟩
  | _ => ⟨S200, .i32⟩

abbrev hbmTy (i : Nat) : BufTy := match i / 128 with
  | 0 => hbmTy0_0 i
  | 1 => hbmTy0_1 i
  | 2 => hbmTy0_2 i
  | _ => ⟨S200, .i32⟩

abbrev bufTy : (tb : Table) → Fin (tcTables nBuf tb) → BufTy
  | .hbm, ⟨i, _⟩ => hbmTy i
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_c : Ref sig .tc := ⟨.hbm, 28, rfl⟩
abbrev main_v7_0 : Ref sig .tc := ⟨.hbm, 29, rfl⟩
abbrev main_v7_1 : Ref sig .tc := ⟨.hbm, 30, rfl⟩
abbrev main_v7_2 : Ref sig .tc := ⟨.hbm, 31, rfl⟩
abbrev main_v7_3 : Ref sig .tc := ⟨.hbm, 32, rfl⟩
abbrev main_v7_4 : Ref sig .tc := ⟨.hbm, 33, rfl⟩
abbrev main_v7_5 : Ref sig .tc := ⟨.hbm, 34, rfl⟩
abbrev main_v7_6 : Ref sig .tc := ⟨.hbm, 35, rfl⟩
abbrev main_v7_7 : Ref sig .tc := ⟨.hbm, 36, rfl⟩
abbrev main_v7_8 : Ref sig .tc := ⟨.hbm, 37, rfl⟩
abbrev main_v7_9 : Ref sig .tc := ⟨.hbm, 38, rfl⟩
abbrev main_v7_10 : Ref sig .tc := ⟨.hbm, 39, rfl⟩
abbrev main_v7_11 : Ref sig .tc := ⟨.hbm, 40, rfl⟩
abbrev main_v7_12 : Ref sig .tc := ⟨.hbm, 41, rfl⟩
abbrev main_v7_13 : Ref sig .tc := ⟨.hbm, 42, rfl⟩
abbrev main_v7_14 : Ref sig .tc := ⟨.hbm, 43, rfl⟩
abbrev main_v7_15 : Ref sig .tc := ⟨.hbm, 44, rfl⟩
abbrev main_v7_16 : Ref sig .tc := ⟨.hbm, 45, rfl⟩
abbrev main_v7_17 : Ref sig .tc := ⟨.hbm, 46, rfl⟩
abbrev main_v7_18 : Ref sig .tc := ⟨.hbm, 47, rfl⟩
abbrev main_v7_19 : Ref sig .tc := ⟨.hbm, 48, rfl⟩
abbrev main_while0c_c_21 : Ref sig .tc := ⟨.hbm, 49, rfl⟩
abbrev main_while0c_v8 : Ref sig .tc := ⟨.hbm, 50, rfl⟩
abbrev main_while0b_call0_v0 : Ref sig .tc := ⟨.hbm, 51, rfl⟩
abbrev main_while0b_v8 : Ref sig .tc := ⟨.hbm, 52, rfl⟩
abbrev main_while0b_call1_v0 : Ref sig .tc := ⟨.hbm, 53, rfl⟩
abbrev main_while0b_v9 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_v0 : Ref sig .tc := ⟨.hbm, 57, rfl⟩
abbrev main_while0b_v10 : Ref sig .tc := ⟨.hbm, 58, rfl⟩
abbrev main_while0b_call3_v0 : Ref sig .tc := ⟨.hbm, 59, rfl⟩
abbrev main_while0b_v11 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_v0 : Ref sig .tc := ⟨.hbm, 63, rfl⟩
abbrev main_while0b_v12 : Ref sig .tc := ⟨.hbm, 64, rfl⟩
abbrev main_while0b_call5_v0 : Ref sig .tc := ⟨.hbm, 65, rfl⟩
abbrev main_while0b_v13 : Ref sig .tc := ⟨.hbm, 66, rfl⟩
abbrev main_while0b_c_21 : Ref sig .tc := ⟨.hbm, 67, rfl⟩
abbrev main_while0b_v14 : Ref sig .tc := ⟨.hbm, 68, rfl⟩
abbrev main_while0b_c_22 : Ref sig .tc := ⟨.hbm, 69, rfl⟩
abbrev main_while0b_v15 : Ref sig .tc := ⟨.hbm, 70, rfl⟩
abbrev main_while0b_v16 : Ref sig .tc := ⟨.hbm, 71, rfl⟩
abbrev main_while0b_c_23 : Ref sig .tc := ⟨.hbm, 72, rfl⟩
abbrev main_while0b_c_24 : Ref sig .tc := ⟨.hbm, 73, rfl⟩
abbrev main_while0b_v17 : Ref sig .tc := ⟨.hbm, 74, rfl⟩
abbrev main_while0b_c_25 : Ref sig .tc := ⟨.hbm, 75, rfl⟩
abbrev main_while0b_c_26 : Ref sig .tc := ⟨.hbm, 76, rfl⟩
abbrev main_while0b_v18 : Ref sig .tc := ⟨.hbm, 77, rfl⟩
abbrev main_while0b_c_27 : Ref sig .tc := ⟨.hbm, 78, rfl⟩
abbrev main_while0b_v19 : Ref sig .tc := ⟨.hbm, 79, rfl⟩
abbrev main_while0b_v20 : Ref sig .tc := ⟨.hbm, 80, rfl⟩
abbrev main_while0b_v21 : Ref sig .tc := ⟨.hbm, 81, rfl⟩
abbrev main_while0b_c_28 : Ref sig .tc := ⟨.hbm, 82, rfl⟩
abbrev main_while0b_v22 : Ref sig .tc := ⟨.hbm, 83, rfl⟩
abbrev main_while0b_c_29 : Ref sig .tc := ⟨.hbm, 84, rfl⟩
abbrev main_while0b_v23 : Ref sig .tc := ⟨.hbm, 85, rfl⟩
abbrev main_while0b_v24 : Ref sig .tc := ⟨.hbm, 86, rfl⟩
abbrev main_while0b_c_30 : Ref sig .tc := ⟨.hbm, 87, rfl⟩
abbrev main_while0b_c_31 : Ref sig .tc := ⟨.hbm, 88, rfl⟩
abbrev main_while0b_v25 : Ref sig .tc := ⟨.hbm, 89, rfl⟩
abbrev main_while0b_c_32 : Ref sig .tc := ⟨.hbm, 90, rfl⟩
abbrev main_while0b_c_33 : Ref sig .tc := ⟨.hbm, 91, rfl⟩
abbrev main_while0b_v26 : Ref sig .tc := ⟨.hbm, 92, rfl⟩
abbrev main_while0b_c_34 : Ref sig .tc := ⟨.hbm, 93, rfl⟩
abbrev main_while0b_v27 : Ref sig .tc := ⟨.hbm, 94, rfl⟩
abbrev main_while0b_v28 : Ref sig .tc := ⟨.hbm, 95, rfl⟩
abbrev main_while0b_v29 : Ref sig .tc := ⟨.hbm, 96, rfl⟩
abbrev main_while0b_v30 : Ref sig .tc := ⟨.hbm, 97, rfl⟩
abbrev main_while0b_v31 : Ref sig .tc := ⟨.hbm, 98, rfl⟩
abbrev main_while0b_v32 : Ref sig .tc := ⟨.hbm, 99, rfl⟩
abbrev main_while0b_v33 : Ref sig .tc := ⟨.hbm, 100, rfl⟩
abbrev main_while0b_v34 : Ref sig .tc := ⟨.hbm, 101, rfl⟩
abbrev main_while0b_v35 : Ref sig .tc := ⟨.hbm, 102, rfl⟩
abbrev main_while0b_v36 : Ref sig .tc := ⟨.hbm, 103, rfl⟩
abbrev main_while0b_v37 : Ref sig .tc := ⟨.hbm, 104, rfl⟩
abbrev main_while0b_c_35 : Ref sig .tc := ⟨.hbm, 105, rfl⟩
abbrev main_while0b_v38 : Ref sig .tc := ⟨.hbm, 106, rfl⟩
abbrev main_while0b_c_36 : Ref sig .tc := ⟨.hbm, 107, rfl⟩
abbrev main_while0b_v39 : Ref sig .tc := ⟨.hbm, 108, rfl⟩
abbrev main_while0b_v40 : Ref sig .tc := ⟨.hbm, 109, rfl⟩
abbrev main_while0b_v41 : Ref sig .tc := ⟨.hbm, 110, rfl⟩
abbrev main_while0b_v42 : Ref sig .tc := ⟨.hbm, 111, rfl⟩
abbrev main_while0b_v43 : Ref sig .tc := ⟨.hbm, 112, rfl⟩
abbrev main_while0b_v44 : Ref sig .tc := ⟨.hbm, 113, rfl⟩
abbrev main_while0b_c_37 : Ref sig .tc := ⟨.hbm, 114, rfl⟩
abbrev main_while0b_v45 : Ref sig .tc := ⟨.hbm, 115, rfl⟩
abbrev main_while0b_c_38 : Ref sig .tc := ⟨.hbm, 116, rfl⟩
abbrev main_while0b_v46 : Ref sig .tc := ⟨.hbm, 117, rfl⟩
abbrev main_while0b_v47 : Ref sig .tc := ⟨.hbm, 118, rfl⟩
abbrev main_while0b_v48 : Ref sig .tc := ⟨.hbm, 119, rfl⟩
abbrev main_while0b_v49 : Ref sig .tc := ⟨.hbm, 120, rfl⟩
abbrev main_while0b_v50 : Ref sig .tc := ⟨.hbm, 121, rfl⟩
abbrev main_while0b_v51 : Ref sig .tc := ⟨.hbm, 122, rfl⟩
abbrev main_while0b_v52 : Ref sig .tc := ⟨.hbm, 123, rfl⟩
abbrev main_while0b_v53 : Ref sig .tc := ⟨.hbm, 124, rfl⟩
abbrev main_while0b_v54 : Ref sig .tc := ⟨.hbm, 125, rfl⟩
abbrev main_while0b_c_39 : Ref sig .tc := ⟨.hbm, 126, rfl⟩
abbrev main_while0b_v55 : Ref sig .tc := ⟨.hbm, 127, rfl⟩
abbrev main_while0b_c_40 : Ref sig .tc := ⟨.hbm, 128, rfl⟩
abbrev main_while0b_v56 : Ref sig .tc := ⟨.hbm, 129, rfl⟩
abbrev main_while0b_v57 : Ref sig .tc := ⟨.hbm, 130, rfl⟩
abbrev main_while0b_c_41 : Ref sig .tc := ⟨.hbm, 131, rfl⟩
abbrev main_while0b_c_42 : Ref sig .tc := ⟨.hbm, 132, rfl⟩
abbrev main_while0b_v58 : Ref sig .tc := ⟨.hbm, 133, rfl⟩
abbrev main_while0b_c_43 : Ref sig .tc := ⟨.hbm, 134, rfl⟩
abbrev main_while0b_c_44 : Ref sig .tc := ⟨.hbm, 135, rfl⟩
abbrev main_while0b_v59 : Ref sig .tc := ⟨.hbm, 136, rfl⟩
abbrev main_while0b_c_45 : Ref sig .tc := ⟨.hbm, 137, rfl⟩
abbrev main_while0b_v60 : Ref sig .tc := ⟨.hbm, 138, rfl⟩
abbrev main_while0b_c_46 : Ref sig .tc := ⟨.hbm, 139, rfl⟩
abbrev main_while0b_c_47 : Ref sig .tc := ⟨.hbm, 140, rfl⟩
abbrev main_while0b_v61 : Ref sig .tc := ⟨.hbm, 141, rfl⟩
abbrev main_while0b_c_48 : Ref sig .tc := ⟨.hbm, 142, rfl⟩
abbrev main_while0b_c_49 : Ref sig .tc := ⟨.hbm, 143, rfl⟩
abbrev main_while0b_v62 : Ref sig .tc := ⟨.hbm, 144, rfl⟩
abbrev main_while0b_c_50 : Ref sig .tc := ⟨.hbm, 145, rfl⟩
abbrev main_while0b_v63 : Ref sig .tc := ⟨.hbm, 146, rfl⟩
abbrev main_while0b_v64 : Ref sig .tc := ⟨.hbm, 147, rfl⟩
abbrev main_while0b_v65 : Ref sig .tc := ⟨.hbm, 148, rfl⟩
abbrev main_while0b_c_51 : Ref sig .tc := ⟨.hbm, 149, rfl⟩
abbrev main_while0b_v66 : Ref sig .tc := ⟨.hbm, 150, rfl⟩
abbrev main_while0b_c_52 : Ref sig .tc := ⟨.hbm, 151, rfl⟩
abbrev main_while0b_v67 : Ref sig .tc := ⟨.hbm, 152, rfl⟩
abbrev main_while0b_v68 : Ref sig .tc := ⟨.hbm, 153, rfl⟩
abbrev main_while0b_c_53 : Ref sig .tc := ⟨.hbm, 154, rfl⟩
abbrev main_while0b_c_54 : Ref sig .tc := ⟨.hbm, 155, rfl⟩
abbrev main_while0b_v69 : Ref sig .tc := ⟨.hbm, 156, rfl⟩
abbrev main_while0b_c_55 : Ref sig .tc := ⟨.hbm, 157, rfl⟩
abbrev main_while0b_c_56 : Ref sig .tc := ⟨.hbm, 158, rfl⟩
abbrev main_while0b_v70 : Ref sig .tc := ⟨.hbm, 159, rfl⟩
abbrev main_while0b_c_57 : Ref sig .tc := ⟨.hbm, 160, rfl⟩
abbrev main_while0b_v71 : Ref sig .tc := ⟨.hbm, 161, rfl⟩
abbrev main_while0b_v72 : Ref sig .tc := ⟨.hbm, 162, rfl⟩
abbrev main_while0b_v73 : Ref sig .tc := ⟨.hbm, 163, rfl⟩
abbrev main_while0b_v74 : Ref sig .tc := ⟨.hbm, 164, rfl⟩
abbrev main_while0b_v75 : Ref sig .tc := ⟨.hbm, 165, rfl⟩
abbrev main_while0b_v76 : Ref sig .tc := ⟨.hbm, 166, rfl⟩
abbrev main_while0b_v77 : Ref sig .tc := ⟨.hbm, 167, rfl⟩
abbrev main_while0b_v78 : Ref sig .tc := ⟨.hbm, 168, rfl⟩
abbrev main_while0b_c_58 : Ref sig .tc := ⟨.hbm, 169, rfl⟩
abbrev main_while0b_v79 : Ref sig .tc := ⟨.hbm, 170, rfl⟩
abbrev main_while0b_c_59 : Ref sig .tc := ⟨.hbm, 171, rfl⟩
abbrev main_while0b_v80 : Ref sig .tc := ⟨.hbm, 172, rfl⟩
abbrev main_while0b_v81 : Ref sig .tc := ⟨.hbm, 173, rfl⟩
abbrev main_while0b_v82 : Ref sig .tc := ⟨.hbm, 174, rfl⟩
abbrev main_while0b_v83 : Ref sig .tc := ⟨.hbm, 175, rfl⟩
abbrev main_while0b_c_60 : Ref sig .tc := ⟨.hbm, 176, rfl⟩
abbrev main_while0b_v84 : Ref sig .tc := ⟨.hbm, 177, rfl⟩
abbrev main_while0b_c_61 : Ref sig .tc := ⟨.hbm, 178, rfl⟩
abbrev main_while0b_v85 : Ref sig .tc := ⟨.hbm, 179, rfl⟩
abbrev main_while0b_v86 : Ref sig .tc := ⟨.hbm, 180, rfl⟩
abbrev main_while0b_v87 : Ref sig .tc := ⟨.hbm, 181, rfl⟩
abbrev main_while0b_v88 : Ref sig .tc := ⟨.hbm, 182, rfl⟩
abbrev main_while0b_v89 : Ref sig .tc := ⟨.hbm, 183, rfl⟩
abbrev main_while0b_cst_62 : Ref sig .tc := ⟨.hbm, 184, rfl⟩
abbrev main_while0b_v90 : Ref sig .tc := ⟨.hbm, 185, rfl⟩
abbrev main_while0b_v91 : Ref sig .tc := ⟨.hbm, 186, rfl⟩
abbrev main_while0b_v92 : Ref sig .tc := ⟨.hbm, 187, rfl⟩
abbrev main_while0b_v93 : Ref sig .tc := ⟨.hbm, 188, rfl⟩
abbrev main_while0b_v94 : Ref sig .tc := ⟨.hbm, 189, rfl⟩
abbrev main_while0b_v95 : Ref sig .tc := ⟨.hbm, 190, rfl⟩
abbrev main_while0b_v96 : Ref sig .tc := ⟨.hbm, 191, rfl⟩
abbrev main_while0b_v97 : Ref sig .tc := ⟨.hbm, 192, rfl⟩
abbrev main_while0b_c_63 : Ref sig .tc := ⟨.hbm, 193, rfl⟩
abbrev main_while0b_v98 : Ref sig .tc := ⟨.hbm, 194, rfl⟩
abbrev main_while0b_c_64 : Ref sig .tc := ⟨.hbm, 195, rfl⟩
abbrev main_while0b_v99 : Ref sig .tc := ⟨.hbm, 196, rfl⟩
abbrev main_while0b_v100 : Ref sig .tc := ⟨.hbm, 197, rfl⟩
abbrev main_while0b_v101 : Ref sig .tc := ⟨.hbm, 198, rfl⟩
abbrev main_while0b_v102 : Ref sig .tc := ⟨.hbm, 199, rfl⟩
abbrev main_while0b_cst_65 : Ref sig .tc := ⟨.hbm, 200, rfl⟩
abbrev main_while0b_v103 : Ref sig .tc := ⟨.hbm, 201, rfl⟩
abbrev main_while0b_v104 : Ref sig .tc := ⟨.hbm, 202, rfl⟩
abbrev main_while0b_v105 : Ref sig .tc := ⟨.hbm, 203, rfl⟩
abbrev main_while0b_cst_66 : Ref sig .tc := ⟨.hbm, 204, rfl⟩
abbrev main_while0b_cst_67 : Ref sig .tc := ⟨.hbm, 205, rfl⟩
abbrev main_while0b_call6_v0 : Ref sig .tc := ⟨.hbm, 206, rfl⟩
abbrev main_while0b_call6_v1 : Ref sig .tc := ⟨.hbm, 207, rfl⟩
abbrev main_while0b_call6_v2 : Ref sig .tc := ⟨.hbm, 208, rfl⟩
abbrev main_while0b_call6_v3 : Ref sig .tc := ⟨.hbm, 209, rfl⟩
abbrev main_while0b_call6_v4 : Ref sig .tc := ⟨.hbm, 210, rfl⟩
abbrev main_while0b_v106 : Ref sig .tc := ⟨.hbm, 211, rfl⟩
abbrev main_while0b_v107 : Ref sig .tc := ⟨.hbm, 212, rfl⟩
abbrev main_while0b_v108 : Ref sig .tc := ⟨.hbm, 213, rfl⟩
abbrev main_while0b_v109 : Ref sig .tc := ⟨.hbm, 214, rfl⟩
abbrev main_while0b_v110 : Ref sig .tc := ⟨.hbm, 215, rfl⟩
abbrev main_while0b_v111 : Ref sig .tc := ⟨.hbm, 216, rfl⟩
abbrev main_while0b_v112 : Ref sig .tc := ⟨.hbm, 217, rfl⟩
abbrev main_while0b_v113 : Ref sig .tc := ⟨.hbm, 218, rfl⟩
abbrev main_while0b_v114 : Ref sig .tc := ⟨.hbm, 219, rfl⟩
abbrev main_while0b_v115 : Ref sig .tc := ⟨.hbm, 220, rfl⟩
abbrev main_while0b_v116 : Ref sig .tc := ⟨.hbm, 221, rfl⟩
abbrev main_while0b_v117 : Ref sig .tc := ⟨.hbm, 222, rfl⟩
abbrev main_while0b_v118 : Ref sig .tc := ⟨.hbm, 223, rfl⟩
abbrev main_while0b_v119 : Ref sig .tc := ⟨.hbm, 224, rfl⟩
abbrev main_while0b_v120 : Ref sig .tc := ⟨.hbm, 225, rfl⟩
abbrev main_while0b_v121 : Ref sig .tc := ⟨.hbm, 226, rfl⟩
abbrev main_while0b_v122 : Ref sig .tc := ⟨.hbm, 227, rfl⟩
abbrev main_while0b_v123 : Ref sig .tc := ⟨.hbm, 228, rfl⟩
abbrev main_while0b_v124 : Ref sig .tc := ⟨.hbm, 229, rfl⟩
abbrev main_while0b_v125 : Ref sig .tc := ⟨.hbm, 230, rfl⟩
abbrev main_while0b_cst_68 : Ref sig .tc := ⟨.hbm, 231, rfl⟩
abbrev main_while0b_v126 : Ref sig .tc := ⟨.hbm, 232, rfl⟩
abbrev main_while0b_v127 : Ref sig .tc := ⟨.hbm, 233, rfl⟩
abbrev main_while0b_cst_69 : Ref sig .tc := ⟨.hbm, 234, rfl⟩
abbrev main_while0b_v128 : Ref sig .tc := ⟨.hbm, 235, rfl⟩
abbrev main_while0b_v129 : Ref sig .tc := ⟨.hbm, 236, rfl⟩
abbrev main_while0b_v130 : Ref sig .tc := ⟨.hbm, 237, rfl⟩
abbrev main_while0b_v131 : Ref sig .tc := ⟨.hbm, 238, rfl⟩
abbrev main_while0b_v132 : Ref sig .tc := ⟨.hbm, 239, rfl⟩
abbrev main_while0b_v133 : Ref sig .tc := ⟨.hbm, 240, rfl⟩
abbrev main_while0b_v134 : Ref sig .tc := ⟨.hbm, 241, rfl⟩
abbrev main_while0b_v135 : Ref sig .tc := ⟨.hbm, 242, rfl⟩
abbrev main_while0b_v136 : Ref sig .tc := ⟨.hbm, 243, rfl⟩
abbrev main_while0b_v137 : Ref sig .tc := ⟨.hbm, 244, rfl⟩
abbrev main_while0b_v138 : Ref sig .tc := ⟨.hbm, 245, rfl⟩
abbrev main_while0b_v139 : Ref sig .tc := ⟨.hbm, 246, rfl⟩
abbrev main_while0b_v140 : Ref sig .tc := ⟨.hbm, 247, rfl⟩
abbrev main_while0b_v141 : Ref sig .tc := ⟨.hbm, 248, rfl⟩
abbrev main_while0b_v142 : Ref sig .tc := ⟨.hbm, 249, rfl⟩
abbrev main_while0b_v143 : Ref sig .tc := ⟨.hbm, 250, rfl⟩
abbrev main_while0b_v144 : Ref sig .tc := ⟨.hbm, 251, rfl⟩
abbrev main_while0b_cst_70 : Ref sig .tc := ⟨.hbm, 252, rfl⟩
abbrev main_while0b_v145 : Ref sig .tc := ⟨.hbm, 253, rfl⟩
abbrev main_while0b_v146 : Ref sig .tc := ⟨.hbm, 254, rfl⟩
abbrev main_while0b_cst_71 : Ref sig .tc := ⟨.hbm, 255, rfl⟩
abbrev main_while0b_v147 : Ref sig .tc := ⟨.hbm, 256, rfl⟩
abbrev main_while0b_v148 : Ref sig .tc := ⟨.hbm, 257, rfl⟩
abbrev main_while0b_c_72 : Ref sig .tc := ⟨.hbm, 258, rfl⟩
abbrev main_while0b_v149 : Ref sig .tc := ⟨.hbm, 259, rfl⟩
abbrev main_while0b_c_73 : Ref sig .tc := ⟨.hbm, 260, rfl⟩
abbrev main_while0b_v150 : Ref sig .tc := ⟨.hbm, 261, rfl⟩
abbrev main_while0b_v151 : Ref sig .tc := ⟨.hbm, 262, rfl⟩
abbrev main_while0b_v152 : Ref sig .tc := ⟨.hbm, 263, rfl⟩
abbrev main_while0b_v153 : Ref sig .tc := ⟨.hbm, 264, rfl⟩
abbrev main_while0b_c_74 : Ref sig .tc := ⟨.hbm, 265, rfl⟩
abbrev main_while0b_v154 : Ref sig .tc := ⟨.hbm, 266, rfl⟩
abbrev main_while0b_c_75 : Ref sig .tc := ⟨.hbm, 267, rfl⟩
abbrev main_while0b_v155 : Ref sig .tc := ⟨.hbm, 268, rfl⟩
abbrev main_while0b_v156 : Ref sig .tc := ⟨.hbm, 269, rfl⟩
abbrev main_while0b_v157 : Ref sig .tc := ⟨.hbm, 270, rfl⟩
abbrev main_while0b_v158 : Ref sig .tc := ⟨.hbm, 271, rfl⟩
abbrev main_while0b_call7_v0 : Ref sig .tc := ⟨.hbm, 272, rfl⟩
abbrev main_while0b_call7_c : Ref sig .tc := ⟨.hbm, 273, rfl⟩
abbrev main_while0b_v159 : Ref sig .tc := ⟨.hbm, 274, rfl⟩
abbrev main_while0b_c_76 : Ref sig .tc := ⟨.hbm, 275, rfl⟩
abbrev main_while0b_v160 : Ref sig .tc := ⟨.hbm, 276, rfl⟩

abbrev nD : Nat := 1
abbrev τ : Topo := Topo.v7x

variable {F : FTy → Type} [FloatOps F]

abbrev main_while0_count : Scf.Loop 32 := ⟨0#32, 200#32, 1#32⟩
-- ==== Proof.Words.lean ====
module

public import proofs.«01_k».proof.Defs
public import proofs.«01_k».proof.Proof.Gen.KernelIdeal
public import proofs.«01_k».proof.Proof.Gen.Pre_indices_in_range

@[expose] public section

set_option maxRecDepth 16384

/-! Words below the table sizes name rows of the tables, and where their aligned score tile starts; the range
    precondition, decoded at each entry. -/

noncomputable section

namespace Cert.Words

open Cert.KernelIdeal Cert.KernelIdeal.Gen
open Idealize.ShloMosaic

/-- The aligned base of a word is its multiple of 128, checked on all words in range. -/
theorem mult_all : ∀ q : Fin 79, ∀ r : Fin 128, k0_mult1 (BitVec.ofNat 32 (128 * q.val + r.val)) = BitVec.ofNat 32 (128 * q.val) := by decide +kernel

/-- The aligned tile of a node's score column starts at the multiple of 128 below it. -/
theorem mult_eq (v : BitVec 32) (h : v.toNat < 10000) : k0_mult1 v = BitVec.ofNat 32 (128 * (v.toNat / 128)) := by
  have e := mult_all ⟨v.toNat / 128, by omega⟩ ⟨v.toNat % 128, by omega⟩
  have hv : BitVec.ofNat 32 (128 * (v.toNat / 128) + v.toNat % 128) = v := by
    rw [Nat.div_add_mod]; exact BitVec.eq_of_toNat_eq (by rw [BitVec.toNat_ofNat]; omega)
  simp only at e
  rwa [hv] at e

/-- The aligned base of a word in range is the multiple of 128 at or below it. -/
theorem mult_toNat (v : BitVec 32) (h : v.toNat < 10000) : (k0_mult1 v).toNat = 128 * (v.toNat / 128) := by
  rw [mult_eq v h, BitVec.toNat_ofNat]; omega

/-- The offset of the first node's block in the score table. -/
theorem off9_eq (v : BitVec 32) (h : v.toNat < 10000) : k0_off9 v = ![0, 128 * (v.toNat / 128)] := by
  rw [← mult_toNat v h]; rfl

/-- The offset of the second node's block in the score table. -/
theorem off10_eq (v : BitVec 32) (h : v.toNat < 10000) : k0_off10 v = ![0, 128 * (v.toNat / 128)] := by
  rw [← off9_eq v h]; rfl

/-- The bounds asked of the first node hold for a word in range. -/
theorem chk1_of (v : BitVec 32) (h : v.toNat < 10000) : k0_chk1 v := by
  refine ⟨fun a => ?_, fun a => ?_, ?_, fun a => ?_⟩
  · fin_cases a
    · show v.toNat + 1 ≤ 10000; omega
    · show 0 + 256 ≤ 256; omega
  · fin_cases a
    · show v.toNat + 1 ≤ 10000; omega
    · show 0 + 256 ≤ 256; omega
  · rw [mult_toNat v h]; exact Dvd.intro _ rfl
  · rw [off9_eq v h]; fin_cases a
    · show 0 + 2 ≤ 2; omega
    · show 128 * (v.toNat / 128) + 128 ≤ 10240; omega

/-- The bounds asked of the second node hold for a word in range. -/
theorem chk2_of (v : BitVec 32) (h : v.toNat < 10000) : k0_chk2 v := chk1_of v h

/-- The bounds asked of the event type hold for a word below two. -/
theorem chk3_of (v : BitVec 32) (h : v.toNat < 2) : k0_chk3 v := by
  refine ⟨fun a => ?_, fun a => ?_⟩
  · fin_cases a
    · show v.toNat + 1 ≤ 2; omega
    · show 0 + 10000 ≤ 10240; omega
  · fin_cases a
    · show v.toNat + 1 ≤ 2; omega
    · show 0 + 256 ≤ 256; omega

/-- The and of two truth bits is the bit of the and. -/
theorem andi_ofBool (p q : Bool) : IntOp.andi (BitVec.ofBool p) (BitVec.ofBool q) = BitVec.ofBool (p && q) := by
  cases p <;> cases q <;> decide

/-- A truth bit is one exactly when the truth value is true. -/
theorem ofBool_eq_one (p : Bool) : (BitVec.ofBool p = 1#1) ↔ p = true := by cases p <;> decide

/-- A word that is at least zero and below `n`, as signed words, is below `n`. -/
theorem below (v : BitVec 32) (n : ℕ) (hn : n < 2 ^ 31) (e : IntOp.andi (IntOp.cmpi .sge v 0#32) (IntOp.cmpi .slt v (BitVec.ofNat 32 n)) = 1#1) : v.toNat < n := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have : n % 4294967296 = n := Nat.mod_eq_of_lt (by omega)
  rw [this] at e
  omega

/-- What the first precondition says of the three index arrays. -/
theorem range_of {F : FTy → Type} [FloatOps F] {a0 a1 a2 a3 a4 a5 a6 a7 a8 a9 a10 a11 a12 a13 a14 a15 a16 a17}
    (h : (Cert.Pre_indices_in_range.fn (F := F) a0 a1 a2 a3 a4 a5 a6 a7 a8 a9 a10 a11 a12 a13 a14 a15 a16 a17).1 = (fun _ => 1#1)
      ∧ (Cert.Pre_indices_in_range.fn (F := F) a0 a1 a2 a3 a4 a5 a6 a7 a8 a9 a10 a11 a12 a13 a14 a15 a16 a17).2.1 = (fun _ => 1#1)
      ∧ (Cert.Pre_indices_in_range.fn (F := F) a0 a1 a2 a3 a4 a5 a6 a7 a8 a9 a10 a11 a12 a13 a14 a15 a16 a17).2.2 = (fun _ => 1#1)) :
    (∀ i, (a0 i).toNat < 10000) ∧ (∀ i, (a1 i).toNat < 10000) ∧ ∀ i, (a3 i).toNat < 2 :=
  ⟨fun i => below _ 10000 (by norm_num) (congrFun h.1 i), fun i => below _ 10000 (by norm_num) (congrFun h.2.1 i), fun i => below _ 2 (by norm_num) (congrFun h.2.2 i)⟩

end Cert.Words
-- ==== Proof.ScanEvent.lean ====
/-
  The scan kernel's body, restated as its initial copy followed by eight runs of one program, the update by one event.
-/
module

public import proofs.«01_k».proof.Proof.Gen.KernelIdeal.Skeleton
public import Idealize.ShloMosaic.Lib.Tactic

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL.Sem

variable {F : FTy → Type} [FloatOps F] [Named F]

/-- At the first grid point: the node states are copied from the input, the score table is computed from them
    and its padding is filled with zeros. -/
noncomputable def start (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v1260 : Vec F S10000x256 .f32 ← Prog.lift (.load arg5 (Rect.unit (s := S10000x256) ![0, 0] S10000x256.size inb_S10000x256_S10000x256_0_0).toLoadRect (View.loadsAt_vmem h_S10000x256))
    let v1261 : Vec F S10000x256 .f32 ← Prog.lift (.load arg14 (Rect.unit (s := S10000x256) ![0, 0] S10000x256.size inb_S10000x256_S10000x256_0_0).toLoadRect (View.loadsAt_vmem h_S10000x256))
    Prog.lift (.store arg14 (Rect.unit (s := S10000x256) ![0, 0] S10000x256.size inb_S10000x256_S10000x256_0_0) v1260 Finset.univ (View.stores_vmem_bits_univ h_S10000x256 rfl) (.inl rfl))
    let v1262 : Vec F S2x256 .f32 ← Prog.lift (.load arg7 (Rect.unit (s := S2x256) ![0, 0] S2x256.size inb_S2x256_S2x256_0_0).toLoadRect (View.loadsAt_vmem h_S2x256))
    let v1264 : Vec F S10000x256 .f32 ← Prog.lift (.load arg5 (Rect.unit (s := S10000x256) ![0, 0] S10000x256.size inb_S10000x256_S10000x256_0_0).toLoadRect (View.loadsAt_vmem h_S10000x256))
    let v1266 : Vec F S2x10000 .f32 ← Prog.lift (.load arg15 (Rect.unit (s := S2x10240) ![0, 0] S2x10000.size inb_S2x10240_S2x10000_0_0).toLoadRect (View.loadsAt_vmem h_S2x10000))
    Prog.lift (.store arg15 (Rect.unit (s := S2x10240) ![0, 0] S2x10000.size inb_S2x10240_S2x10000_0_0) (k0_pay2 v1262 v1264) Finset.univ (View.stores_vmem_bits_univ h_S2x10000 rfl) (.inl rfl))
    let v1270 : Vec F S2x240 .f32 ← Prog.lift (.load arg15 (Rect.unit (s := S2x10240) ![0, 10000] S2x240.size inb_S2x10240_S2x240_0_10000).toLoadRect (View.loadsAt_vmem h_S2x240))
    Prog.lift (.store arg15 (Rect.unit (s := S2x10240) ![0, 10000] S2x240.size inb_S2x10240_S2x240_0_10000) (k0_pay3 (F := F)) Finset.univ (View.stores_vmem_bits_univ h_S2x240 rfl) (.inl rfl))
    pure ⟨⟩
  else do
    pure ⟨⟩

/-- The update by one event: `o1` is where its words are read, `o6` where its row of time differences is read,
    `ko` the row of the two results it writes. -/
noncomputable def event (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole)
    (o1 : Fin 1 → Nat) (h1 : ∀ a, o1 a + S1.size a ≤ S200.size a)
    (o6 : Fin 2 → Nat) (h6 : ∀ a, o6 a + S1x8.size a ≤ S200x8.size a)
    (ko : Fin 2 → Nat) (hl : ∀ a, ko a + S1x10000.size a ≤ S8x10000.size a) (hg : ∀ a, ko a + S1x2.size a ≤ S8x2.size a) :
    Prog (TpuEff nD τ sig (Elt F) Λ₀ .tc) PUnit := do
  let v6 : Elt F .i32 ← smemLoad arg1 (Rect.unit (s := S200) o1 S1.size h1) numel1_S1 rfl
  have k0_hw1 : k0_chk1 v6 := (← Prog.lift (TpuEff.assume (k0_chk1 v6) (k0_chk1.dec v6))).down
  let v8 : Elt F .i32 ← smemLoad arg2 (Rect.unit (s := S200) o1 S1.size h1) numel1_S1 rfl
  have k0_hw2 : k0_chk2 v8 := (← Prog.lift (TpuEff.assume (k0_chk2 v8) (k0_chk2.dec v8))).down
  let v10 : Elt F .i32 ← smemLoad arg3 (Rect.unit (s := S200) o1 S1.size h1) numel1_S1 rfl
  have k0_hw3 : k0_chk3 v10 := (← Prog.lift (TpuEff.assume (k0_chk3 v10) (k0_chk3.dec v10))).down
  let v12 : Vec F S1x256 .f32 ← Prog.lift (.load arg14 (Rect.unit (s := S10000x256) (k0_off2 v6) S1x256.size (k0_off2_inb v6 k0_hw1)).toLoadRect (View.loadsAt_vmem h_S1x256))
  let v15 : Vec F S1x256 .f32 ← Prog.lift (.load arg14 (Rect.unit (s := S10000x256) (k0_off3 v8) S1x256.size (k0_off3_inb v8 k0_hw2)).toLoadRect (View.loadsAt_vmem h_S1x256))
  let v18 : Vec F S1x10000 .f32 ← Prog.lift (.load arg15 (Rect.unit (s := S2x10240) (k0_off4 v10) S1x10000.size (k0_off4_inb v10 k0_hw3)).toLoadRect (View.loadsAt_vmem h_S1x10000))
  let v19 : Vec F S1x10000 .f32 ← Prog.lift (.load arg12 (Rect.unit (s := S8x10000) ko S1x10000.size hl).toLoadRect (View.loadsAt_vmem h_S1x10000))
  Prog.lift (.store arg12 (Rect.unit (s := S8x10000) ko S1x10000.size hl) v18 Finset.univ (View.stores_vmem_bits_univ h_S1x10000 rfl) (.inl rfl))
  let v21 : Vec F S1x256 .f32 ← Prog.lift (.load arg6 (Rect.unit (s := S2x256) (k0_off5 v10) S1x256.size (k0_off5_inb v10 k0_hw3)).toLoadRect (View.loadsAt_vmem h_S1x256))
  let v30 : Vec F S1x2 .f32 ← Prog.lift (.load arg13 (Rect.unit (s := S8x2) ko S1x2.size hg).toLoadRect (View.loadsAt_vmem h_S1x2))
  Prog.lift (.store arg13 (Rect.unit (s := S8x2) ko S1x2.size hg) (k0_pay6 v12 v15 v21) Finset.univ (View.stores_vmem_bits_univ h_S1x2 rfl) (.inl rfl))
  let v32 : Vec F S1x8 .f32 ← Prog.lift (.load arg4 (Rect.unit (s := S200x8) o6 S1x8.size h6).toLoadRect (View.loadsAt_vmem h_S1x8))
  let v42 : Vec F S256x256 .bf16 ← Prog.lift (.load arg8 (Rect.unit (s := S256x256) ![0, 0] S256x256.size inb_S256x256_S256x256_0_0).toLoadRect (View.loadsAt_vmem h_S256x256))
  let v45 : Vec F S256x256 .bf16 ← Prog.lift (.load arg9 (Rect.unit (s := S256x256) ![0, 0] S256x256.size inb_S256x256_S256x256_0_0).toLoadRect (View.loadsAt_vmem h_S256x256))
  let v49 : Vec F S4x256 .bf16 ← Prog.lift (.load arg10 (Rect.unit (s := S4x256) ![0, 0] S4x256.size inb_S4x256_S4x256_0_0).toLoadRect (View.loadsAt_vmem h_S4x256))
  let v53 : Vec F S1x256 .f32 ← Prog.lift (.load arg11 (Rect.unit (s := S1x256) ![0, 0] S1x256.size inb_S1x256_S1x256_0_0).toLoadRect (View.loadsAt_vmem h_S1x256))
  let v61 : Vec F S1x256 .f32 ← Prog.lift (.load arg14 (Rect.unit (s := S10000x256) (k0_off7 v6) S1x256.size (k0_off7_inb v6 k0_hw1)).toLoadRect (View.loadsAt_vmem h_S1x256))
  Prog.lift (.store arg14 (Rect.unit (s := S10000x256) (k0_off7 v6) S1x256.size (k0_off7_inb v6 k0_hw1)) (k0_pay9 (k0_pay4 v12) (k0_pay5 v15) (k0_pay7 v32) v42 v45 v49 v53) Finset.univ (View.stores_vmem_bits_univ h_S1x256 rfl) (.inl rfl))
  let v63 : Vec F S1x256 .f32 ← Prog.lift (.load arg14 (Rect.unit (s := S10000x256) (k0_off8 v8) S1x256.size (k0_off8_inb v8 k0_hw2)).toLoadRect (View.loadsAt_vmem h_S1x256))
  Prog.lift (.store arg14 (Rect.unit (s := S10000x256) (k0_off8 v8) S1x256.size (k0_off8_inb v8 k0_hw2)) (k0_pay10 (k0_pay4 v12) (k0_pay5 v15) (k0_pay7 v32) v42 v45 v49 v53) Finset.univ (View.stores_vmem_bits_univ h_S1x256 rfl) (.inl rfl))
  let v64 : Vec F S2x256 .f32 ← Prog.lift (.load arg7 (Rect.unit (s := S2x256) ![0, 0] S2x256.size inb_S2x256_S2x256_0_0).toLoadRect (View.loadsAt_vmem h_S2x256))
  let v70 : Vec F S2x256 .f32 ← Prog.lift (.load arg7 (Rect.unit (s := S2x256) ![0, 0] S2x256.size inb_S2x256_S2x256_0_0).toLoadRect (View.loadsAt_vmem h_S2x256))
  have v76 : IVec S1x128 32 := iota .tc S1x128 32 [1] iota_S1x128_d1_w32
  let v97 : Vec F S2x128 .f32 ← Prog.lift (.load arg15 (Rect.unit (s := S2x10240) (k0_off9 v6) S2x128.size (k0_off9_inb v6 k0_hw1)).toLoadRect (View.loadsAt_vmem h_S2x128))
  let v116 : Vec F S2x128 .f32 ← Prog.lift (.load arg15 (Rect.unit (s := S2x10240) (k0_off9 v6) S2x128.size (k0_off9_inb v6 k0_hw1)).toLoadRect (View.loadsAt_vmem h_S2x128))
  Prog.lift (.store arg15 (Rect.unit (s := S2x10240) (k0_off9 v6) S2x128.size (k0_off9_inb v6 k0_hw1)) (k0_pay13 v6 (k0_pay11 (k0_pay4 v12) (k0_pay5 v15) (k0_pay7 v32) v42 v45 v49 v53 v64) v76 v97) Finset.univ (View.stores_vmem_bits_univ h_S2x128 rfl) (.inl rfl))
  let v139 : Vec F S2x128 .f32 ← Prog.lift (.load arg15 (Rect.unit (s := S2x10240) (k0_off10 v8) S2x128.size (k0_off10_inb v8 k0_hw2)).toLoadRect (View.loadsAt_vmem h_S2x128))
  let v158 : Vec F S2x128 .f32 ← Prog.lift (.load arg15 (Rect.unit (s := S2x10240) (k0_off10 v8) S2x128.size (k0_off10_inb v8 k0_hw2)).toLoadRect (View.loadsAt_vmem h_S2x128))
  Prog.lift (.store arg15 (Rect.unit (s := S2x10240) (k0_off10 v8) S2x128.size (k0_off10_inb v8 k0_hw2)) (k0_pay14 v8 (k0_pay12 (k0_pay4 v12) (k0_pay5 v15) (k0_pay7 v32) v42 v45 v49 v53 v70) v76 v139) Finset.univ (View.stores_vmem_bits_univ h_S2x128 rfl) (.inl rfl))

/-- The eight events of a grid point, in order. -/
noncomputable def events (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) :
    Prog (TpuEff nD τ sig (Elt F) Λ₀ .tc) PUnit := do
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off1 i) (k0_off1_inb i) (k0_off6 i) (k0_off6_inb i) ![0, 0] inb_S8x10000_S1x10000_0_0 inb_S8x2_S1x2_0_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off11 i) (k0_off11_inb i) (k0_off16 i) (k0_off16_inb i) ![1, 0] inb_S8x10000_S1x10000_1_0 inb_S8x2_S1x2_1_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off21 i) (k0_off21_inb i) (k0_off26 i) (k0_off26_inb i) ![2, 0] inb_S8x10000_S1x10000_2_0 inb_S8x2_S1x2_2_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off31 i) (k0_off31_inb i) (k0_off36 i) (k0_off36_inb i) ![3, 0] inb_S8x10000_S1x10000_3_0 inb_S8x2_S1x2_3_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off41 i) (k0_off41_inb i) (k0_off46 i) (k0_off46_inb i) ![4, 0] inb_S8x10000_S1x10000_4_0 inb_S8x2_S1x2_4_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off51 i) (k0_off51_inb i) (k0_off56 i) (k0_off56_inb i) ![5, 0] inb_S8x10000_S1x10000_5_0 inb_S8x2_S1x2_5_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off61 i) (k0_off61_inb i) (k0_off66 i) (k0_off66_inb i) ![6, 0] inb_S8x10000_S1x10000_6_0 inb_S8x2_S1x2_6_0
  event i arg1 harg1 arg2 harg2 arg3 harg3 arg4 harg4 arg5 harg5 arg6 harg6 arg7 harg7 arg8 harg8 arg9 harg9 arg10 harg10 arg11 harg11 arg12 harg12 arg13 harg13 arg14 harg14 arg15 harg15 (k0_off71 i) (k0_off71_inb i) (k0_off76 i) (k0_off76_inb i) ![7, 0] inb_S8x10000_S1x10000_7_0 inb_S8x2_S1x2_7_0

set_option maxRecDepth 1000000 in
set_option maxHeartbeats 4000000 in
/-- The printed body is the start followed by the eight events. -/
theorem body_eq (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) :
    cc0__scan_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (start i arg1 harg1 arg2 harg2 arg3 harg3 arg4 harg4 arg5 harg5 arg6 harg6 arg7 harg7 arg8 harg8 arg9 harg9 arg10 harg10 arg11 harg11 arg12 harg12 arg13 harg13 arg14 harg14 arg15 harg15 >>= fun _ => events i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  rw [cc0__scan_kernel_eq_skeleton]
  unfold start
  by_cases h : (Scalar.cmpi .ne (Scalar.extui (Scalar.cmpi .eq (BitVec.ofNat 32 (i 0).val) 0#32) : BitVec 32) 0#32 : BitVec 1) = 1#1
  · simp only [h, dif_pos]
    unfold cc0__scan_kernel_skel
    rw [k0_part31_eq_skeleton]; unfold k0_part31_skel
    rw [k0_part1_eq_skeleton]; unfold k0_part1_skel
    simp only [h, dif_pos]
    exact rfl
  · simp only [h, dif_neg, not_false_eq_true]
    unfold cc0__scan_kernel_skel
    rw [k0_part31_eq_skeleton]; unfold k0_part31_skel
    rw [k0_part1_eq_skeleton]; unfold k0_part1_skel
    simp only [h, dif_neg, not_false_eq_true]
    exact rfl

end Cert.KernelIdeal.Scan

end
-- ==== Proof.ScanRun.lean ====
/-
  The scan kernel's run: the state it carries from event to event, what one event does to it, and one grid point.
-/
module

public import proofs.«01_k».proof.Proof.ScanEvent
public import proofs.«01_k».proof.Proof.Gen.KernelIdeal.Launch
public import Idealize.ShloMosaic.Lib.WritesUnit
public import Idealize.ShloMosaic.Lib.Pipeline.Value

@[expose] public section

set_option maxRecDepth 16384

noncomputable section

namespace Cert.KernelIdeal.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UU : Type := UR sig nD τ

local notation "𝕄" => MT nD τ sig Unit (Elt F) ℕ UU ℕ

/-- Memref `M` is held whole on core `c` and reads `X`. -/
def At (c : Dev nD) {sp : Space} {S : Shape} {e : EltTy} (M : Memref sig .tc sp S e) (X : S.Idx → Elt F e) : sProp 𝕄 :=
  iprop(∃ f : Buf (Elt F) (M.view.loc (c : Thread nD τ)), ⌜M.view.read (Elt F) f = X⌝ ∗ (M.view.loc (c : Thread nD τ) ↦{fullShare} f))

/-- Reading after a list of stores whose newest is through a rectangle: that rectangle put into what the rest left. -/
theorem read_writes_put {κ : Kind} {sp : Space} {s : Shape} {e : EltTy} (v : View sig κ sp s e) (f : v.ty.Contents (Elt F))
    (off size : Fin s.rank → ℕ) (inb : ∀ a, off a + size a ≤ s.size a) (w : (Rect.unit off size inb).shape.Idx → Elt F e)
    (L : List (View.Piece (Elt F) s e)) :
    v.read (Elt F) (v.writes (Elt F) f ((⟨Rect.unit off size inb, w⟩ : View.Piece (Elt F) s e) :: L))
      = updateSlice (v.read (Elt F) (v.writes (Elt F) f L)) w off ⟨rfl, inb⟩ := by
  funext y
  rw [View.read_writes_cons_unit v f inb w L y rfl]
  unfold updateSlice
  by_cases h : ∀ a, off a ≤ (y a).val ∧ (y a).val < off a + size a
  · rw [dif_pos h]; symm; exact dif_pos h
  · rw [dif_neg h]; symm; exact dif_neg h

/-- The kernel's operand contents. -/
structure Tabs (F : FTy → Type) where
  u : S200.Idx → Elt F .i32
  v : S200.Idx → Elt F .i32
  e : S200.Idx → Elt F .i32
  td : S200x8.Idx → Elt F .f32
  wa : S2x256.Idx → Elt F .f32
  wb : S2x256.Idx → Elt F .f32
  w8 : S256x256.Idx → Elt F .bf16
  w9 : S256x256.Idx → Elt F .bf16
  w10 : S4x256.Idx → Elt F .bf16
  w11 : S1x256.Idx → Elt F .f32

/-- The word of an event lies within the event vector. -/
theorem word_inb (r : Fin 200) : ∀ a, (![r.val] : Fin 1 → ℕ) a + S1.size a ≤ S200.size a :=
  Fin.forall_fin_one.mpr r.2

/-- The row of an event lies within the event table. -/
theorem row_inb (r : Fin 200) : ∀ a, (![r.val, 0] : Fin 2 → ℕ) a + S1x8.size a ≤ S200x8.size a :=
  Fin.forall_fin_two.mpr ⟨r.2, Nat.le_refl 8⟩

/-- Word `r` of a table of 200 words. -/
def word (X : S200.Idx → Elt F .i32) (r : Fin 200) : BitVec 32 :=
  View.ld X (Rect.unit (s := S200) ![r.val] S1.size (word_inb r)) (Shape.Idx.first (numel1_S1.symm ▸ Nat.one_pos))

/-- Every event's words name rows inside the tables. -/
def Tabs.Ok (T : Tabs F) : Prop := ∀ r, k0_chk1 (word T.u r) ∧ k0_chk2 (word T.v r) ∧ k0_chk3 (word T.e r)

/-- What the kernel carries: the node states and the score table. -/
structure St (F : FTy → Type) where
  z : S10000x256.Idx → Elt F .f32
  s : S2x10240.Idx → Elt F .f32

variable (T : Tabs F) (hT : T.Ok)

/-- The state row of event `r`'s first node. -/
def rowU (r : Fin 200) (σ : St F) : S1x256.Idx → Elt F .f32 :=
  View.ld σ.z (Rect.unit (s := S10000x256) (k0_off2 (word T.u r)) S1x256.size (k0_off2_inb _ (hT r).1))

/-- The state row of event `r`'s second node. -/
def rowV (r : Fin 200) (σ : St F) : S1x256.Idx → Elt F .f32 :=
  View.ld σ.z (Rect.unit (s := S10000x256) (k0_off3 (word T.v r)) S1x256.size (k0_off3_inb _ (hT r).2.1))

/-- Event `r`'s row of time differences. -/
def rowT (r : Fin 200) : S1x8.Idx → Elt F .f32 :=
  View.ld T.td (Rect.unit (s := S200x8) ![r.val, 0] S1x8.size (row_inb r))

/-- The score row event `r` hands to the second kernel. -/
def outL (r : Fin 200) (σ : St F) : S1x10000.Idx → Elt F .f32 :=
  View.ld σ.s (Rect.unit (s := S2x10240) (k0_off4 (word T.e r)) S1x10000.size (k0_off4_inb _ (hT r).2.2))

/-- The two scores of event `r`'s own nodes. -/
def outG (r : Fin 200) (σ : St F) : S1x2.Idx → Elt F .f32 :=
  k0_pay6 (rowU T hT r σ) (rowV T hT r σ) (View.ld T.wa (Rect.unit (s := S2x256) (k0_off5 (word T.e r)) S1x256.size (k0_off5_inb _ (hT r).2.2)))

/-- The four weight operands as the body loads them. -/
def ld8 : S256x256.Idx → Elt F .bf16 := View.ld T.w8 (Rect.unit (s := S256x256) ![0, 0] S256x256.size inb_S256x256_S256x256_0_0)
def ld9 : S256x256.Idx → Elt F .bf16 := View.ld T.w9 (Rect.unit (s := S256x256) ![0, 0] S256x256.size inb_S256x256_S256x256_0_0)
def ld10 : S4x256.Idx → Elt F .bf16 := View.ld T.w10 (Rect.unit (s := S4x256) ![0, 0] S4x256.size inb_S4x256_S4x256_0_0)
def ld11 : S1x256.Idx → Elt F .f32 := View.ld T.w11 (Rect.unit (s := S1x256) ![0, 0] S1x256.size inb_S1x256_S1x256_0_0)
def ldb : S2x256.Idx → Elt F .f32 := View.ld T.wb (Rect.unit (s := S2x256) ![0, 0] S2x256.size inb_S2x256_S2x256_0_0)

/-- Event `r`'s new state row for its first node. -/
def newU (r : Fin 200) (σ : St F) : S1x256.Idx → Elt F .f32 :=
  k0_pay9 (k0_pay4 (rowU T hT r σ)) (k0_pay5 (rowV T hT r σ)) (k0_pay7 (rowT T r)) (ld8 T) (ld9 T) (ld10 T) (ld11 T)

/-- Event `r`'s new state row for its second node. -/
def newV (r : Fin 200) (σ : St F) : S1x256.Idx → Elt F .f32 :=
  k0_pay10 (k0_pay4 (rowU T hT r σ)) (k0_pay5 (rowV T hT r σ)) (k0_pay7 (rowT T r)) (ld8 T) (ld9 T) (ld10 T) (ld11 T)

/-- The score table after event `r`'s first column is refreshed. -/
def midS (r : Fin 200) (σ : St F) : S2x10240.Idx → Elt F .f32 :=
  updateSlice σ.s (k0_pay13 (word T.u r)
    (k0_pay11 (k0_pay4 (rowU T hT r σ)) (k0_pay5 (rowV T hT r σ)) (k0_pay7 (rowT T r)) (ld8 T) (ld9 T) (ld10 T) (ld11 T) (ldb T))
    (iota .tc S1x128 32 [1] iota_S1x128_d1_w32)
    (View.ld σ.s (Rect.unit (s := S2x10240) (k0_off9 (word T.u r)) S2x128.size (k0_off9_inb _ (hT r).1))))
    (k0_off9 (word T.u r)) ⟨rfl, k0_off9_inb _ (hT r).1⟩

/-- The score table `A` after event `r`'s second column is refreshed. -/
def lastS (r : Fin 200) (σ : St F) (A : S2x10240.Idx → Elt F .f32) : S2x10240.Idx → Elt F .f32 :=
  updateSlice A (k0_pay14 (word T.v r)
    (k0_pay12 (k0_pay4 (rowU T hT r σ)) (k0_pay5 (rowV T hT r σ)) (k0_pay7 (rowT T r)) (ld8 T) (ld9 T) (ld10 T) (ld11 T) (ldb T))
    (iota .tc S1x128 32 [1] iota_S1x128_d1_w32)
    (View.ld A (Rect.unit (s := S2x10240) (k0_off10 (word T.v r)) S2x128.size (k0_off10_inb _ (hT r).2.1))))
    (k0_off10 (word T.v r)) ⟨rfl, k0_off10_inb _ (hT r).2.1⟩

/-- One event's change of the carried state. -/
def step (r : Fin 200) (σ : St F) : St F where
  z := updateSlice (updateSlice σ.z (newU T hT r σ) (k0_off7 (word T.u r)) ⟨rfl, k0_off7_inb _ (hT r).1⟩)
    (newV T hT r σ) (k0_off8 (word T.v r)) ⟨rfl, k0_off8_inb _ (hT r).2.1⟩
  s := lastS T hT r σ (midS T hT r σ)

/-- The operands, as one event finds and leaves them. -/
def ins (c : Dev nD) (Z₀ : S10000x256.Idx → Elt F .f32) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) : sProp 𝕄 :=
  iprop(At c arg1 T.u ∗ At c arg2 T.v ∗ At c arg3 T.e ∗ At c arg4 T.td ∗ At c arg5 Z₀ ∗ At c arg6 T.wa ∗ At c arg7 T.wb ∗ At c arg8 T.w8 ∗ At c arg9 T.w9 ∗ At c arg10 T.w10 ∗ At c arg11 T.w11)

set_option maxHeartbeats 1000000 in
/-- One event: from the operands, the two results' blocks and the carried state, the event's rows are put into the
    results at row `ko` and the state makes one step. -/
theorem event_triple (c : Dev nD) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole)
    (r : Fin 200) (o1 : Fin 1 → Nat) (e1 : o1 = ![r.val]) (i1 : ∀ a, o1 a + S1.size a ≤ S200.size a)
    (o6 : Fin 2 → Nat) (e6 : o6 = ![r.val, 0]) (h6' : ∀ a, o6 a + S1x8.size a ≤ S200x8.size a)
    (ko : Fin 2 → Nat) (hl : ∀ a, ko a + S1x10000.size a ≤ S8x10000.size a) (hg : ∀ a, ko a + S1x2.size a ≤ S8x2.size a)
    (Z₀ : S10000x256.Idx → Elt F .f32) (L : S8x10000.Idx → Elt F .f32) (G : S8x2.Idx → Elt F .f32) (σ : St F)
    (E : Set ℕ) (Q : PUnit → sProp 𝕄) :
    iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ At c arg12 L ∗ At c arg13 G ∗ At c arg14 σ.z ∗ At c arg15 σ.s
        ∗ (iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ At c arg12 (updateSlice L (outL T hT r σ) ko ⟨rfl, hl⟩)
            ∗ At c arg13 (updateSlice G (outG T hT r σ) ko ⟨rfl, hg⟩)
            ∗ At c arg14 (step T hT r σ).z ∗ At c arg15 (step T hT r σ).s) -∗ Q ⟨⟩))
      ⊢ wp frame (wpE (defs₀ (F := F)) Variants.none c none) E
      (event i arg1 harg1 arg2 harg2 arg3 harg3 arg4 harg4 arg5 harg5 arg6 harg6 arg7 harg7 arg8 harg8 arg9 harg9 arg10 harg10 arg11 harg11 arg12 harg12 arg13 harg13 arg14 harg14 arg15 harg15 o1 i1 o6 h6' ko hl hg) Q := by
  subst e1 e6
  obtain ⟨z, s⟩ := σ
  obtain ⟨u, v, e, td, wa, wb, w8, w9, w10, w11⟩ := T
  unfold ins At
  dsimp only
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩, ⟨%f12, %h12, H12⟩, ⟨%f13, %h13, H13⟩, ⟨%f14, %h14, H14⟩, ⟨%f15, %h15, H15⟩, Hk⟩
  subst h1
  unfold event
  have hc1 : ∀ w, w = word (arg1.view.read (Elt F) f1) r → k0_chk1 w := fun w hw => hw ▸ (hT r).1
  have hc2 : ∀ w, w = word v r → k0_chk2 w := fun w hw => hw ▸ (hT r).2.1
  have hc3 : ∀ w, w = word e r → k0_chk3 w := fun w hw => hw ▸ (hT r).2.2
  subst h2 h3 h4 h5 h6 h7 h8 h9 h10 h11 h12 h13 h14 h15
  sl_exec! (disch := first | ((with_reducible apply hc1); sl_unfold_words; unfold word; rfl) | ((with_reducible apply hc2); sl_unfold_words; unfold word; rfl) | ((with_reducible apply hc3); sl_unfold_words; unfold word; rfl))
  sl_step
  iapply Hk
  isplitl [H1 H2 H3 H4 H5 H6 H7 H8 H9 H10 H11]
  · isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    isplitl [H5]; · iexists _; isplitr; swap; (· iexact H5); ipureintro; rfl
    isplitl [H6]; · iexists _; isplitr; swap; (· iexact H6); ipureintro; rfl
    isplitl [H7]; · iexists _; isplitr; swap; (· iexact H7); ipureintro; rfl
    isplitl [H8]; · iexists _; isplitr; swap; (· iexact H8); ipureintro; rfl
    isplitl [H9]; · iexists _; isplitr; swap; (· iexact H9); ipureintro; rfl
    isplitl [H10]; · iexists _; isplitr; swap; (· iexact H10); ipureintro; rfl
    iexists _; isplitr; swap; (· iexact H11); ipureintro; rfl
  isplitl [H12]
  · iexists _; isplitr; swap; (· iexact H12); ipureintro; rw [read_writes_put]; rfl
  isplitl [H13]
  · iexists _; isplitr; swap; (· iexact H13); ipureintro; rw [read_writes_put]; rfl
  isplitl [H14]
  · iexists _; isplitr; swap; (· iexact H14); ipureintro; rw [read_writes_put, read_writes_put]; rfl
  iexists _; isplitr; swap; (· iexact H15); ipureintro
  have hm : arg15.view.read (Elt F) (arg15.view.writes (Elt F) f15 (event_triple.sl.H15_1 c arg1 arg2 arg4 arg7 arg8 arg9
      arg10 arg11 arg14 arg15 r i1 h6' f1 f2 f4 f7 f8 f9 f10 f11 f14 f15 hc1 hc2)) = midS _ hT r ⟨arg14.view.read (Elt F) f14, arg15.view.read (Elt F) f15⟩ := by
    unfold event_triple.sl.H15_1; rw [read_writes_put]; rfl
  rw [read_writes_put]
  exact congrArg (lastS _ hT r ⟨arg14.view.read (Elt F) f14, arg15.view.read (Elt F) f15⟩) hm

end Cert.KernelIdeal.Scan
-- ==== Proof.ScanPoint.lean ====
/-
  One grid point of the scan kernel: its eight events in a row, and the initial copy at the first point.
-/
module

public import proofs.«01_k».proof.Proof.ScanRun

@[expose] public section

set_option maxRecDepth 16384

noncomputable section

namespace Cert.KernelIdeal.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (T : Tabs F) (hT : T.Ok) (Z₀ : S10000x256.Idx → Elt F .f32)

/-- The score table the first point computes: the scores of the given states, and zeros in the padding. -/
def initS : S2x10240.Idx → Elt F .f32 :=
  updateSlice (fun _ => Scalar.ofBits .f32 0x00000000#32) (k0_pay2 (ldb T) (View.ld Z₀ (Rect.unit (s := S10000x256) ![0, 0] S10000x256.size inb_S10000x256_S10000x256_0_0)))
    ![0, 0] ⟨rfl, inb_S2x10240_S2x10000_0_0⟩

/-- The carried state after the first `n` events. -/
def stAt : ℕ → St F
  | 0 => ⟨Z₀, initS T Z₀⟩
  | n + 1 => if h : n < 200 then step T hT ⟨n, h⟩ (stAt n) else stAt n

/-- The state after an event is the step of the state before it. -/
theorem stAt_succ (r : Fin 200) : stAt T hT Z₀ (r.val + 1) = step T hT r (stAt T hT Z₀ r.val) := dif_pos r.2

/-- The event at slot `k` of grid point `t`. -/
def ev (t : Fin 25) (k : Fin 8) : Fin 200 := ⟨8 * t.val + k.val, by omega⟩

/-- Column `j` of a one-row block. -/
def col1 {n : ℕ} (j : Fin n) : (⟨2, ![1, n]⟩ : Shape).Idx := fun | 0 => (0 : Fin 1) | 1 => j

/-- Grid point `t`'s block of score rows. -/
def lamBlk (t : Fin 25) : S8x10000.Idx → Elt F .f32 := fun y =>
  outL T hT (ev t (y 0)) (stAt T hT Z₀ (ev t (y 0)).val) (col1 (n := 10000) (y 1))

/-- Grid point `t`'s block of the events' own scores. -/
def gBlk (t : Fin 25) : S8x2.Idx → Elt F .f32 := fun y =>
  outG T hT (ev t (y 0)) (stAt T hT Z₀ (ev t (y 0)).val) (col1 (n := 2) (y 1))

/-- Putting a one-row block into row `k` of a two-axis array: that row, and the others as they were. -/
theorem put_row {m n : ℕ} {α : Type} (X : (⟨2, ![m, n]⟩ : Shape).Idx → α) (w : (⟨2, ![1, n]⟩ : Shape).Idx → α) (k : ℕ)
    (h : (⟨2, ![m, n]⟩ : Shape).Slices ![k, 0] (⟨2, ![1, n]⟩ : Shape)) (y : (⟨2, ![m, n]⟩ : Shape).Idx) :
    updateSlice X w ![k, 0] h y = if (y 0).val = k then w (col1 (n := n) (y 1)) else X y := by
  unfold updateSlice
  by_cases e : (y 0).val = k
  · rw [if_pos e]
    have hin : ∀ a : Fin 2, (![k, 0] : Fin 2 → ℕ) a ≤ (y a).val ∧ (y a).val < (![k, 0] : Fin 2 → ℕ) a + (![1, n] : Fin 2 → ℕ) a :=
      Fin.forall_fin_two.mpr ⟨⟨e.ge, by show (y 0).val < k + 1; omega⟩, ⟨Nat.zero_le _, by show (y 1).val < 0 + n; have := (y 1).2; change (y 1).val < n at this; omega⟩⟩
    refine (dif_pos hin).trans (congrArg w (funext fun a => Fin.ext ?_))
    revert a
    refine Fin.forall_fin_two.mpr ⟨?_, ?_⟩
    · show (y 0).val - k = 0; omega
    · show (y 1).val - 0 = (y 1).val; omega
  · rw [if_neg e]
    refine dif_neg fun hin => e ?_
    have h0 : k ≤ (y 0).val ∧ (y 0).val < k + 1 := hin (0 : Fin 2)
    omega

/-- Between the events of point `t`: the results' first `k` rows are the point's, the state is after `8 t + k` events. -/
def mid (c : Dev nD) (t : Fin 25) (k : ℕ) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) : sProp 𝕄 :=
  iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15
    ∗ (∃ L, ⌜∀ y : S8x10000.Idx, (y 0).val < k → L y = lamBlk T hT Z₀ t y⌝ ∗ At c arg12 L)
    ∗ (∃ G, ⌜∀ y : S8x2.Idx, (y 0).val < k → G y = gBlk T hT Z₀ t y⌝ ∗ At c arg13 G)
    ∗ At c arg14 (stAt T hT Z₀ (8 * t.val + k)).z ∗ At c arg15 (stAt T hT Z₀ (8 * t.val + k)).s)

/-- One event advances the point by one row. -/
theorem event_mid (c : Dev nD) (t : Fin 25) (k : Fin 8) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole)
    (o1 : Fin 1 → Nat) (e1 : o1 = ![8 * t.val + k.val]) (i1 : ∀ a, o1 a + S1.size a ≤ S200.size a)
    (o6 : Fin 2 → Nat) (e6 : o6 = ![8 * t.val + k.val, 0]) (i6 : ∀ a, o6 a + S1x8.size a ≤ S200x8.size a)
    (ko : Fin 2 → ℕ) (eo : ko = ![k.val, 0])
    (hl : ∀ a, ko a + S1x10000.size a ≤ S8x10000.size a) (hg : ∀ a, ko a + S1x2.size a ≤ S8x2.size a)
    (E : Set ℕ) (Q : PUnit → sProp 𝕄) :
    iprop(mid T hT Z₀ c t k.val i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ (mid T hT Z₀ c t (k.val + 1) i arg1 harg1 arg2 harg2 arg3 harg3 arg4 harg4 arg5 harg5 arg6 harg6 arg7 harg7 arg8 harg8 arg9 harg9 arg10 harg10 arg11 harg11 arg12 harg12 arg13 harg13 arg14 harg14 arg15 harg15 -∗ Q ⟨⟩))
      ⊢ wp frame (wpE (defs₀ (F := F)) Variants.none c none) E (event i arg1 harg1 arg2 harg2 arg3 harg3 arg4 harg4 arg5 harg5 arg6 harg6 arg7 harg7 arg8 harg8 arg9 harg9 arg10 harg10 arg11 harg11 arg12 harg12 arg13 harg13 arg14 harg14 arg15 harg15 o1 i1 o6 i6 ko hl hg) Q := by
  subst eo
  unfold mid
  iintro ⟨⟨Hi, ⟨%L, %hL, HL⟩, ⟨%G, %hG, HG⟩, HZ, HS⟩, Hk⟩
  iapply (event_triple T hT c i arg1 harg1 arg2 harg2 arg3 harg3 arg4 harg4 arg5 harg5 arg6 harg6 arg7 harg7 arg8 harg8 arg9 harg9 arg10 harg10 arg11 harg11 arg12 harg12 arg13 harg13 arg14 harg14 arg15 harg15 (ev t k) o1 e1 i1 o6 e6 i6 _ hl hg Z₀ L G (stAt T hT Z₀ (8 * t.val + k.val)) E Q)
  isplitl [Hi]; · iexact Hi
  isplitl [HL]; · iexact HL
  isplitl [HG]; · iexact HG
  isplitl [HZ]; · iexact HZ
  isplitl [HS]; · iexact HS
  iintro ⟨Hi, HL, HG, HZ, HS⟩
  iapply Hk
  isplitl [Hi]; · iexact Hi
  isplitl [HL]
  · iexists _; isplitr; swap; (· iexact HL); ipureintro
    intro y hy
    refine (put_row L _ k.val _ y).trans ?_
    by_cases e : (y 0).val = k.val
    · rw [if_pos e]
      have : y 0 = k := Fin.ext e
      unfold lamBlk; rw [this]; rfl
    · rw [if_neg e]; exact hL y (by omega)
  isplitl [HG]
  · iexists _; isplitr; swap; (· iexact HG); ipureintro
    intro y hy
    refine (put_row G _ k.val _ y).trans ?_
    by_cases e : (y 0).val = k.val
    · rw [if_pos e]
      have : y 0 = k := Fin.ext e
      unfold gBlk; rw [this]; rfl
    · rw [if_neg e]; exact hG y (by omega)
  have es : stAt T hT Z₀ (8 * t.val + (k.val + 1)) = step T hT (ev t k) (stAt T hT Z₀ (8 * t.val + k.val)) := stAt_succ T hT Z₀ (ev t k)
  rw [es]
  isplitl [HZ]; · iexact HZ
  iexact HS

/-- The eight events of a point. -/
theorem events_mid (c : Dev nD) (t : Fin 25) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) (hi : (i 0).val = t.val) (E : Set ℕ) (Q : PUnit → sProp 𝕄) :
    iprop(mid T hT Z₀ c t 0 i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ (mid T hT Z₀ c t 8 i arg1 harg1 arg2 harg2 arg3 harg3 arg4 harg4 arg5 harg5 arg6 harg6 arg7 harg7 arg8 harg8 arg9 harg9 arg10 harg10 arg11 harg11 arg12 harg12 arg13 harg13 arg14 harg14 arg15 harg15 -∗ Q ⟨⟩))
      ⊢ wp frame (wpE (defs₀ (F := F)) Variants.none c none) E (events i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  unfold events
  iintro ⟨H, Hk⟩
  rw [wp_bind]; iapply (event_mid T hT Z₀ c t 0 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off1_eq, hi]; rfl) _ _ (by rw [k0_off6_eq, hi]; rfl) _ _ rfl _ _ E _)
  isplitl [H]; · iexact H
  iintro H
  rw [wp_bind]; iapply (event_mid T hT Z₀ c t 1 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off11_eq, hi]; rfl) _ _ (by rw [k0_off16_eq, hi]; rfl) _ _ rfl _ _ E _)
  isplitl [H]; · iexact H
  iintro H
  rw [wp_bind]; iapply (event_mid T hT Z₀ c t 2 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off21_eq, hi]; rfl) _ _ (by rw [k0_off26_eq, hi]; rfl) _ _ rfl _ _ E _)
  isplitl [H]; · iexact H
  iintro H
  rw [wp_bind]; iapply (event_mid T hT Z₀ c t 3 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off31_eq, hi]; rfl) _ _ (by rw [k0_off36_eq, hi]; rfl) _ _ rfl _ _ E _)
  isplitl [H]; · iexact H
  iintro H
  rw [wp_bind]; iapply (event_mid T hT Z₀ c t 4 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off41_eq, hi]; rfl) _ _ (by rw [k0_off46_eq, hi]; rfl) _ _ rfl _ _ E _)
  isplitl [H]; · iexact H
  iintro H
  rw [wp_bind]; iapply (event_mid T hT Z₀ c t 5 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off51_eq, hi]; rfl) _ _ (by rw [k0_off56_eq, hi]; rfl) _ _ rfl _ _ E _)
  isplitl [H]; · iexact H
  iintro H
  rw [wp_bind]; iapply (event_mid T hT Z₀ c t 6 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off61_eq, hi]; rfl) _ _ (by rw [k0_off66_eq, hi]; rfl) _ _ rfl _ _ E _)
  isplitl [H]; · iexact H
  iintro H
  iapply (event_mid T hT Z₀ c t 7 i arg1 harg1 arg2 harg2 arg3 harg3 arg4 harg4 arg5 harg5 arg6 harg6 arg7 harg7 arg8 harg8 arg9 harg9 arg10 harg10 arg11 harg11 arg12 harg12 arg13 harg13 arg14 harg14 arg15 harg15 _ (by rw [k0_off71_eq, hi]; rfl) _ _ (by rw [k0_off76_eq, hi]; rfl) _ _ rfl _ _ E _)
  isplitl [H]; · iexact H
  iintro H
  iapply Hk; iexact H

end Cert.KernelIdeal.Scan
-- ==== Proof.ScanDat.lean ====
/-
  The scan kernel over its grid: the first point's set-up, the proof data, and one point's obligation.
-/
module

public import proofs.«01_k».proof.Proof.ScanPoint
public import proofs.«01_k».proof.Proof.Gen.KernelIdeal.Points
public import Idealize.ShloMosaic.Lib.Pipeline.ValueKit.Geometry

@[expose] public section

set_option maxRecDepth 16384

noncomputable section

namespace Cert.KernelIdeal.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Putting a whole array's worth of new contents replaces it. -/
theorem put_all (X w : S10000x256.Idx → Elt F .f32) (h : S10000x256.Slices ![0, 0] S10000x256) : updateSlice X w ![0, 0] h = w := by
  funext y
  have hin : ∀ a : Fin 2, (![0, 0] : Fin 2 → ℕ) a ≤ (y a).val ∧ (y a).val < (![0, 0] : Fin 2 → ℕ) a + S10000x256.size a :=
    Fin.forall_fin_two.mpr ⟨⟨Nat.zero_le _, by have := (y 0).2; show (y 0).val < 0 + _; rw [Nat.zero_add]; exact this⟩,
      ⟨Nat.zero_le _, by have := (y 1).2; show (y 1).val < 0 + _; rw [Nat.zero_add]; exact this⟩⟩
  refine (dif_pos hin).trans (congrArg w (funext fun a => Fin.ext ?_))
  revert a
  exact Fin.forall_fin_two.mpr ⟨rfl, rfl⟩

/-- The scores go to the first 10000 columns and zeros to the rest, whatever was there. -/
theorem fill_pad (X : S2x10240.Idx → Elt F .f32) (w : S2x10000.Idx → Elt F .f32) :
    updateSlice (updateSlice X w ![0, 0] ⟨rfl, inb_S2x10240_S2x10000_0_0⟩) (k0_pay3 (F := F)) ![0, 10000] ⟨rfl, inb_S2x10240_S2x240_0_10000⟩
      = updateSlice (s := S2x10240) (fun _ => Scalar.ofBits .f32 0x00000000#32) w ![0, 0] ⟨rfl, inb_S2x10240_S2x10000_0_0⟩ := by
  funext y
  have b0 : (y 0).val < 2 := (y 0).2
  have b1 : (y 1).val < 10240 := (y 1).2
  by_cases e : (y 1).val < 10000
  · have hn : ¬ ∀ a : Fin 2, (![0, 10000] : Fin 2 → ℕ) a ≤ (y a).val ∧ (y a).val < (![0, 10000] : Fin 2 → ℕ) a + S2x240.size a := fun h => by
      have : 10000 ≤ (y 1).val := (h 1).1
      omega
    refine (dif_neg hn).trans ?_
    have hin : ∀ a : Fin 2, (![0, 0] : Fin 2 → ℕ) a ≤ (y a).val ∧ (y a).val < (![0, 0] : Fin 2 → ℕ) a + S2x10000.size a :=
      Fin.forall_fin_two.mpr ⟨⟨Nat.zero_le _, by show (y 0).val < 0 + 2; omega⟩, ⟨Nat.zero_le _, by show (y 1).val < 0 + 10000; omega⟩⟩
    refine (dif_pos hin).trans ?_
    symm; exact dif_pos hin
  · have hin : ∀ a : Fin 2, (![0, 10000] : Fin 2 → ℕ) a ≤ (y a).val ∧ (y a).val < (![0, 10000] : Fin 2 → ℕ) a + S2x240.size a :=
      Fin.forall_fin_two.mpr ⟨⟨Nat.zero_le _, by show (y 0).val < 0 + 2; omega⟩, ⟨by show 10000 ≤ (y 1).val; omega, by show (y 1).val < 10000 + 240; omega⟩⟩
    refine (dif_pos hin).trans ?_
    have hn : ¬ ∀ a : Fin 2, (![0, 0] : Fin 2 → ℕ) a ≤ (y a).val ∧ (y a).val < (![0, 0] : Fin 2 → ℕ) a + S2x10000.size a := fun h => by
      have : (y 1).val < 0 + 10000 := (h 1).2
      omega
    symm; exact (dif_neg hn).trans rfl

/-- At the first point the states are copied and the score table is computed; nothing of the old contents is left. -/
theorem start_first (T : Tabs F) (Z₀ : S10000x256.Idx → Elt F .f32) (c : Dev nD) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) (hi : (i 0).val = 0)
    (X : S10000x256.Idx → Elt F .f32) (s : S2x10240.Idx → Elt F .f32) (E : Set ℕ) (Q : PUnit → sProp 𝕄) :
    iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ At c arg14 X ∗ At c arg15 s
        ∗ (iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ At c arg14 Z₀ ∗ At c arg15 (initS T Z₀)) -∗ Q ⟨⟩))
      ⊢ wp frame (wpE (defs₀ (F := F)) Variants.none c none) E (start i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  unfold start
  rw [hi]
  obtain ⟨u, v, e, td, wa, wb, w8, w9, w10, w11⟩ := T
  unfold ins At
  dsimp only
  rw [dif_pos (show (Scalar.cmpi .ne (Scalar.extui (Scalar.cmpi .eq (BitVec.ofNat 32 0) 0#32 : BitVec 1) : BitVec 32) 0#32 : BitVec 1) = 1#1 by decide)]
  iintro ⟨⟨H1, H2, H3, H4, ⟨%f5, %h5, H5⟩, H6, ⟨%f7, %h7, H7⟩, H8, H9, H10, H11⟩, ⟨%f14, -, H14⟩, ⟨%f15, -, H15⟩, Hk⟩
  subst h5 h7
  sl_exec!
  sl_step
  iapply Hk
  isplitl [H1 H2 H3 H4 H5 H6 H7 H8 H9 H10 H11]
  · isplitl [H1]; · iexact H1
    isplitl [H2]; · iexact H2
    isplitl [H3]; · iexact H3
    isplitl [H4]; · iexact H4
    isplitl [H5]; · iexists _; isplitr; swap; (· iexact H5); ipureintro; rfl
    isplitl [H6]; · iexact H6
    isplitl [H7]; · iexists _; isplitr; swap; (· iexact H7); ipureintro; rfl
    isplitl [H8]; · iexact H8
    isplitl [H9]; · iexact H9
    isplitl [H10]; · iexact H10
    iexact H11
  isplitl [H14]
  · iexists _; isplitr; swap; (· iexact H14); ipureintro
    refine (read_writes_put _ _ _ _ _ _ _).trans ?_
    refine (put_all _ _ _).trans ?_
    exact View.ld_unit_zero (funext fun a => by fin_cases a <;> rfl) _ _
  iexists _; isplitr; swap; (· iexact H15); ipureintro
  refine (read_writes_put _ _ _ _ _ _ _).trans ?_
  rw [read_writes_put]
  exact fill_pad _ _

/-- At the other points the set-up does nothing. -/
theorem start_other (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) (hi : (i 0).val ≠ 0) : start (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = pure ⟨⟩ := by
  unfold start
  have h : ∀ n : Fin 25, n.val ≠ 0 → ¬ (Scalar.cmpi .ne (Scalar.extui (Scalar.cmpi .eq (BitVec.ofNat 32 n.val) 0#32 : BitVec 1) : BitVec 32) 0#32 : BitVec 1) = 1#1 := by
    decide +kernel
  exact dif_neg (h (i 0) hi)

/-- The kernel's operand contents, at the buffers' contents when the call is reached. -/
def tabs (W : Valuation τ sig (Elt F)) : Tabs F :=
  ⟨W main_arg0, W main_arg1, W main_arg3, W main_v0, W main_v2, W main_v4, W main_v14, W main_v16, W main_v17, W main_v8⟩

/-- The given node states. -/
def z0 (W : Valuation τ sig (Elt F)) : S10000x256.Idx → Elt F .f32 := W main_arg6

/-- Operand 0's block is the whole operand. -/
theorem rd0 (W : Valuation τ sig (Elt F)) (t : Fin cfg0.N) : ((cfg0.win 0).blk t).view.read (Elt F) (W main_arg0) = (tabs W).u := by
  have e0 : ∀ a, win0_0.index t a = 0 := fun a => by fin_cases a <;> rfl
  funext y
  exact congrArg (W main_arg0) (funext fun a => Fin.ext (by fin_cases a <;> (blk_simp; first | exact e0 _ | (rw [e0]; omega))))

/-- Operand 1's block is the whole operand. -/
theorem rd1 (W : Valuation τ sig (Elt F)) (t : Fin cfg0.N) : ((cfg0.win 1).blk t).view.read (Elt F) (W main_arg1) = (tabs W).v := by
  have e0 : ∀ a, win0_1.index t a = 0 := fun a => by fin_cases a <;> rfl
  funext y
  exact congrArg (W main_arg1) (funext fun a => Fin.ext (by fin_cases a <;> (blk_simp; first | exact e0 _ | (rw [e0]; omega))))

/-- Operand 2's block is the whole operand. -/
theorem rd2 (W : Valuation τ sig (Elt F)) (t : Fin cfg0.N) : ((cfg0.win 2).blk t).view.read (Elt F) (W main_arg3) = (tabs W).e := by
  have e0 : ∀ a, win0_2.index t a = 0 := fun a => by fin_cases a <;> rfl
  funext y
  exact congrArg (W main_arg3) (funext fun a => Fin.ext (by fin_cases a <;> (blk_simp; first | exact e0 _ | (rw [e0]; omega))))

/-- Operand 3's block is the whole operand. -/
theorem rd3 (W : Valuation τ sig (Elt F)) (t : Fin cfg0.N) : ((cfg0.win 3).blk t).view.read (Elt F) (W main_v0) = (tabs W).td := by
  have e0 : ∀ a, win0_3.index t a = 0 := fun a => by fin_cases a <;> rfl
  funext y
  exact congrArg (W main_v0) (funext fun a => Fin.ext (by fin_cases a <;> (blk_simp; first | exact e0 _ | (rw [e0]; omega))))

/-- Operand 4's block is the whole operand. -/
theorem rd4 (W : Valuation τ sig (Elt F)) (t : Fin cfg0.N) : ((cfg0.win 4).blk t).view.read (Elt F) (W main_arg6) = z0 W := by
  have e0 : ∀ a, win0_4.index t a = 0 := fun a => by fin_cases a <;> rfl
  funext y
  exact congrArg (W main_arg6) (funext fun a => Fin.ext (by fin_cases a <;> (blk_simp; first | exact e0 _ | (rw [e0]; omega))))

/-- Operand 5's block is the whole operand. -/
theorem rd5 (W : Valuation τ sig (Elt F)) (t : Fin cfg0.N) : ((cfg0.win 5).blk t).view.read (Elt F) (W main_v2) = (tabs W).wa := by
  have e0 : ∀ a, win0_5.index t a = 0 := fun a => by fin_cases a <;> rfl
  funext y
  exact congrArg (W main_v2) (funext fun a => Fin.ext (by fin_cases a <;> (blk_simp; first | exact e0 _ | (rw [e0]; omega))))

/-- Operand 6's block is the whole operand. -/
theorem rd6 (W : Valuation τ sig (Elt F)) (t : Fin cfg0.N) : ((cfg0.win 6).blk t).view.read (Elt F) (W main_v4) = (tabs W).wb := by
  have e0 : ∀ a, win0_6.index t a = 0 := fun a => by fin_cases a <;> rfl
  funext y
  exact congrArg (W main_v4) (funext fun a => Fin.ext (by fin_cases a <;> (blk_simp; first | exact e0 _ | (rw [e0]; omega))))

/-- Operand 7's block is the whole operand. -/
theorem rd7 (W : Valuation τ sig (Elt F)) (t : Fin cfg0.N) : ((cfg0.win 7).blk t).view.read (Elt F) (W main_v14) = (tabs W).w8 := by
  have e0 : ∀ a, win0_7.index t a = 0 := fun a => by fin_cases a <;> rfl
  funext y
  exact congrArg (W main_v14) (funext fun a => Fin.ext (by fin_cases a <;> (blk_simp; first | exact e0 _ | (rw [e0]; omega))))

/-- Operand 8's block is the whole operand. -/
theorem rd8 (W : Valuation τ sig (Elt F)) (t : Fin cfg0.N) : ((cfg0.win 8).blk t).view.read (Elt F) (W main_v16) = (tabs W).w9 := by
  have e0 : ∀ a, win0_8.index t a = 0 := fun a => by fin_cases a <;> rfl
  funext y
  exact congrArg (W main_v16) (funext fun a => Fin.ext (by fin_cases a <;> (blk_simp; first | exact e0 _ | (rw [e0]; omega))))

/-- Operand 9's block is the whole operand. -/
theorem rd9 (W : Valuation τ sig (Elt F)) (t : Fin cfg0.N) : ((cfg0.win 9).blk t).view.read (Elt F) (W main_v17) = (tabs W).w10 := by
  have e0 : ∀ a, win0_9.index t a = 0 := fun a => by fin_cases a <;> rfl
  funext y
  exact congrArg (W main_v17) (funext fun a => Fin.ext (by fin_cases a <;> (blk_simp; first | exact e0 _ | (rw [e0]; omega))))

/-- Operand 10's block is the whole operand. -/
theorem rd10 (W : Valuation τ sig (Elt F)) (t : Fin cfg0.N) : ((cfg0.win 10).blk t).view.read (Elt F) (W main_v8) = (tabs W).w11 := by
  have e0 : ∀ a, win0_10.index t a = 0 := fun a => by fin_cases a <;> rfl
  funext y
  exact congrArg (W main_v8) (funext fun a => Fin.ext (by fin_cases a <;> (blk_simp; first | exact e0 _ | (rw [e0]; omega))))

variable (W : Dev nD → Valuation τ sig (Elt F)) (hT : ∀ c, (tabs (W c)).Ok)

/-- The grid coordinate of point `t`. -/
def pt (t : Fin cfg0.N) : Fin 25 := t.cast N_0

/-- The grid coordinate of a point of the first call is its event. -/
theorem coord_pt : ∀ t : Fin cfg0.N, (grid0.coords t 0).val = (pt t).val := by decide +kernel

/-- The scoped buffers that this kernel does not use. -/
def others (c : Dev nD) : sProp 𝕄 := iprop((∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- Between the points: the score table is the one after the events so far; before the first point it is anything. -/
def Inv (c : Dev nD) (n : ℕ) : sProp 𝕄 :=
  iprop((∃ s, ⌜0 < n → s = (stAt (tabs (W c)) (hT c) (z0 (W c)) (8 * n)).s⌝ ∗ At c (Memref.whole cc0_scratch0) s) ∗ others c)

/-- The proof data: the operands stay, the two row results hold the point's rows, the state output holds the states after the point. -/
def dat0 (c : Dev nD) : Dat τ (Elt F) Unit ℕ UU ℕ cfg0 c where
  A w := W c (Proc.devRef .tc (Pipeline.arrRef spec0 w))
  after w t := match w with
    | ⟨0, _⟩ => ((cfg0.win 0).blk t).view.read (Elt F) (W c main_arg0)
    | ⟨1, _⟩ => ((cfg0.win 1).blk t).view.read (Elt F) (W c main_arg1)
    | ⟨2, _⟩ => ((cfg0.win 2).blk t).view.read (Elt F) (W c main_arg3)
    | ⟨3, _⟩ => ((cfg0.win 3).blk t).view.read (Elt F) (W c main_v0)
    | ⟨4, _⟩ => ((cfg0.win 4).blk t).view.read (Elt F) (W c main_arg6)
    | ⟨5, _⟩ => ((cfg0.win 5).blk t).view.read (Elt F) (W c main_v2)
    | ⟨6, _⟩ => ((cfg0.win 6).blk t).view.read (Elt F) (W c main_v4)
    | ⟨7, _⟩ => ((cfg0.win 7).blk t).view.read (Elt F) (W c main_v14)
    | ⟨8, _⟩ => ((cfg0.win 8).blk t).view.read (Elt F) (W c main_v16)
    | ⟨9, _⟩ => ((cfg0.win 9).blk t).view.read (Elt F) (W c main_v17)
    | ⟨10, _⟩ => ((cfg0.win 10).blk t).view.read (Elt F) (W c main_v8)
    | ⟨11, _⟩ => lamBlk (tabs (W c)) (hT c) (z0 (W c)) (pt t)
    | ⟨12, _⟩ => gBlk (tabs (W c)) (hT c) (z0 (W c)) (pt t)
    | ⟨13, _⟩ => (stAt (tabs (W c)) (hT c) (z0 (W c)) (8 * (pt t).val + 8)).z
  Φ t := Inv W hT c t.val
  q _ := fullShare
  owed _ := 0

/-- What window 0 of the first call holds when its body starts. -/
theorem before0_0 (c : Dev nD) (t : Fin cfg0.N) (d : (cfg0.win 0).block.Idx → Elt F (cfg0.win 0).elt) :
    (dat0 W hT c).before 0 t d = (tabs (W c)).u := by
  refine ((dat0 W hT c).before_in_eq_fetched 0 rfl (fun _ => rfl) (fun _ _ _ => rfl) (fun _ => rfl) t d).trans ?_
  unfold Dat.fetched Dat.blockOf
  exact rd0 (W c) t

/-- What window 1 of the first call holds when its body starts. -/
theorem before0_1 (c : Dev nD) (t : Fin cfg0.N) (d : (cfg0.win 1).block.Idx → Elt F (cfg0.win 1).elt) :
    (dat0 W hT c).before 1 t d = (tabs (W c)).v := by
  refine ((dat0 W hT c).before_in_eq_fetched 1 rfl (fun _ => rfl) (fun _ _ _ => rfl) (fun _ => rfl) t d).trans ?_
  unfold Dat.fetched Dat.blockOf
  exact rd1 (W c) t

/-- What window 2 of the first call holds when its body starts. -/
theorem before0_2 (c : Dev nD) (t : Fin cfg0.N) (d : (cfg0.win 2).block.Idx → Elt F (cfg0.win 2).elt) :
    (dat0 W hT c).before 2 t d = (tabs (W c)).e := by
  refine ((dat0 W hT c).before_in_eq_fetched 2 rfl (fun _ => rfl) (fun _ _ _ => rfl) (fun _ => rfl) t d).trans ?_
  unfold Dat.fetched Dat.blockOf
  exact rd2 (W c) t

/-- What window 3 of the first call holds when its body starts. -/
theorem before0_3 (c : Dev nD) (t : Fin cfg0.N) (d : (cfg0.win 3).block.Idx → Elt F (cfg0.win 3).elt) :
    (dat0 W hT c).before 3 t d = (tabs (W c)).td := by
  refine ((dat0 W hT c).before_in_eq_fetched 3 rfl (fun _ => rfl) (fun _ _ _ => rfl) (fun _ => rfl) t d).trans ?_
  unfold Dat.fetched Dat.blockOf
  exact rd3 (W c) t

/-- What window 4 of the first call holds when its body starts. -/
theorem before0_4 (c : Dev nD) (t : Fin cfg0.N) (d : (cfg0.win 4).block.Idx → Elt F (cfg0.win 4).elt) :
    (dat0 W hT c).before 4 t d = z0 (W c) := by
  refine ((dat0 W hT c).before_in_eq_fetched 4 rfl (fun _ => rfl) (fun _ _ _ => rfl) (fun _ => rfl) t d).trans ?_
  unfold Dat.fetched Dat.blockOf
  exact rd4 (W c) t

/-- What window 5 of the first call holds when its body starts. -/
theorem before0_5 (c : Dev nD) (t : Fin cfg0.N) (d : (cfg0.win 5).block.Idx → Elt F (cfg0.win 5).elt) :
    (dat0 W hT c).before 5 t d = (tabs (W c)).wa := by
  refine ((dat0 W hT c).before_in_eq_fetched 5 rfl (fun _ => rfl) (fun _ _ _ => rfl) (fun _ => rfl) t d).trans ?_
  unfold Dat.fetched Dat.blockOf
  exact rd5 (W c) t

/-- What window 6 of the first call holds when its body starts. -/
theorem before0_6 (c : Dev nD) (t : Fin cfg0.N) (d : (cfg0.win 6).block.Idx → Elt F (cfg0.win 6).elt) :
    (dat0 W hT c).before 6 t d = (tabs (W c)).wb := by
  refine ((dat0 W hT c).before_in_eq_fetched 6 rfl (fun _ => rfl) (fun _ _ _ => rfl) (fun _ => rfl) t d).trans ?_
  unfold Dat.fetched Dat.blockOf
  exact rd6 (W c) t

/-- What window 7 of the first call holds when its body starts. -/
theorem before0_7 (c : Dev nD) (t : Fin cfg0.N) (d : (cfg0.win 7).block.Idx → Elt F (cfg0.win 7).elt) :
    (dat0 W hT c).before 7 t d = (tabs (W c)).w8 := by
  refine ((dat0 W hT c).before_in_eq_fetched 7 rfl (fun _ => rfl) (fun _ _ _ => rfl) (fun _ => rfl) t d).trans ?_
  unfold Dat.fetched Dat.blockOf
  exact rd7 (W c) t

/-- What window 8 of the first call holds when its body starts. -/
theorem before0_8 (c : Dev nD) (t : Fin cfg0.N) (d : (cfg0.win 8).block.Idx → Elt F (cfg0.win 8).elt) :
    (dat0 W hT c).before 8 t d = (tabs (W c)).w9 := by
  refine ((dat0 W hT c).before_in_eq_fetched 8 rfl (fun _ => rfl) (fun _ _ _ => rfl) (fun _ => rfl) t d).trans ?_
  unfold Dat.fetched Dat.blockOf
  exact rd8 (W c) t

/-- What window 9 of the first call holds when its body starts. -/
theorem before0_9 (c : Dev nD) (t : Fin cfg0.N) (d : (cfg0.win 9).block.Idx → Elt F (cfg0.win 9).elt) :
    (dat0 W hT c).before 9 t d = (tabs (W c)).w10 := by
  refine ((dat0 W hT c).before_in_eq_fetched 9 rfl (fun _ => rfl) (fun _ _ _ => rfl) (fun _ => rfl) t d).trans ?_
  unfold Dat.fetched Dat.blockOf
  exact rd9 (W c) t

/-- What window 10 of the first call holds when its body starts. -/
theorem before0_10 (c : Dev nD) (t : Fin cfg0.N) (d : (cfg0.win 10).block.Idx → Elt F (cfg0.win 10).elt) :
    (dat0 W hT c).before 10 t d = (tabs (W c)).w11 := by
  refine ((dat0 W hT c).before_in_eq_fetched 10 rfl (fun _ => rfl) (fun _ _ _ => rfl) (fun _ => rfl) t d).trans ?_
  unfold Dat.fetched Dat.blockOf
  exact rd10 (W c) t

/-- The state output's buffer holds, after the first point, the states the previous point left. -/
theorem before0_13 (c : Dev nD) (t : Fin cfg0.N) (h : t.val ≠ 0) (d : (cfg0.win 13).block.Idx → Elt F (cfg0.win 13).elt) :
    (dat0 W hT c).before 13 t d = (stAt (tabs (W c)) (hT c) (z0 (W c)) (8 * (pt t).val)).z := by
  have hN : cfg0.N = 25 := N_0
  have ht := t.2
  refine ((dat0 W hT c).before_out_kept 13 rfl t h ?_ (fun _ => rfl) (fun _ _ => rfl) d).trans ?_
  · by_contra hc
    have := (flush0_13 ⟨t.val - 1, by omega⟩).mp (by simpa using hc)
    simp only at this
    omega
  · show (stAt (tabs (W c)) (hT c) (z0 (W c)) (8 * (t.val - 1) + 8)).z = (stAt (tabs (W c)) (hT c) (z0 (W c)) (8 * t.val)).z
    rw [show 8 * (t.val - 1) + 8 = 8 * t.val by omega]

end Cert.KernelIdeal.Scan
-- ==== Proof.ScanBody.lean ====
/-
  One point of the scan kernel's grid, and the pipeline's obligation for it.
-/
module

public import proofs.«01_k».proof.Proof.ScanDat

@[expose] public section

set_option maxRecDepth 16384

noncomputable section

namespace Cert.KernelIdeal.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- One grid point: the set-up where it applies, then the point's eight events. -/
theorem point_triple (T : Tabs F) (hT : T.Ok) (Z₀ : S10000x256.Idx → Elt F .f32) (c : Dev nD) (t : Fin 25) (i : grid0.Coords) (arg1 : Memref sig .tc .smem S200 .i32) (harg1 : arg1.IsWhole) (arg2 : Memref sig .tc .smem S200 .i32) (harg2 : arg2.IsWhole) (arg3 : Memref sig .tc .smem S200 .i32) (harg3 : arg3.IsWhole) (arg4 : Memref sig .tc .vmem S200x8 .f32) (harg4 : arg4.IsWhole) (arg5 : Memref sig .tc .vmem S10000x256 .f32) (harg5 : arg5.IsWhole) (arg6 : Memref sig .tc .vmem S2x256 .f32) (harg6 : arg6.IsWhole) (arg7 : Memref sig .tc .vmem S2x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .bf16) (harg10 : arg10.IsWhole) (arg11 : Memref sig .tc .vmem S1x256 .f32) (harg11 : arg11.IsWhole) (arg12 : Memref sig .tc .vmem S8x10000 .f32) (harg12 : arg12.IsWhole) (arg13 : Memref sig .tc .vmem S8x2 .f32) (harg13 : arg13.IsWhole) (arg14 : Memref sig .tc .vmem S10000x256 .f32) (harg14 : arg14.IsWhole) (arg15 : Memref sig .tc .vmem S2x10240 .f32) (harg15 : arg15.IsWhole) (hi : (i 0).val = t.val)
    (E : Set ℕ) (Q : PUnit → sProp 𝕄) :
    iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ (∃ L, At c arg12 L) ∗ (∃ G, At c arg13 G)
        ∗ (∃ X, ⌜t.val ≠ 0 → X = (stAt T hT Z₀ (8 * t.val)).z⌝ ∗ At c arg14 X)
        ∗ (∃ s, ⌜0 < t.val → s = (stAt T hT Z₀ (8 * t.val)).s⌝ ∗ At c arg15 s)
        ∗ (iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ At c arg12 (lamBlk T hT Z₀ t) ∗ At c arg13 (gBlk T hT Z₀ t)
            ∗ At c arg14 (stAt T hT Z₀ (8 * t.val + 8)).z ∗ At c arg15 (stAt T hT Z₀ (8 * t.val + 8)).s) -∗ Q ⟨⟩))
      ⊢ wp frame (wpE (defs₀ (F := F)) Variants.none c none) E (cc0__scan_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  have key : iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ (∃ L, At c arg12 L) ∗ (∃ G, At c arg13 G)
        ∗ At c arg14 (stAt T hT Z₀ (8 * t.val)).z ∗ At c arg15 (stAt T hT Z₀ (8 * t.val)).s
        ∗ (iprop(ins T c Z₀ i arg1 harg1 arg2 harg2 arg3 harg3 arg4 harg4 arg5 harg5 arg6 harg6 arg7 harg7 arg8 harg8 arg9 harg9 arg10 harg10 arg11 harg11 arg12 harg12 arg13 harg13 arg14 harg14 arg15 harg15 ∗ At c arg12 (lamBlk T hT Z₀ t) ∗ At c arg13 (gBlk T hT Z₀ t)
            ∗ At c arg14 (stAt T hT Z₀ (8 * t.val + 8)).z ∗ At c arg15 (stAt T hT Z₀ (8 * t.val + 8)).s) -∗ Q ⟨⟩))
      ⊢ wp frame (wpE (defs₀ (F := F)) Variants.none c none) E (events (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
    iintro ⟨Hi, ⟨%L, HL⟩, ⟨%G, HG⟩, HZ, HS, Hk⟩
    iapply (events_mid T hT Z₀ c t i arg1 harg1 arg2 harg2 arg3 harg3 arg4 harg4 arg5 harg5 arg6 harg6 arg7 harg7 arg8 harg8 arg9 harg9 arg10 harg10 arg11 harg11 arg12 harg12 arg13 harg13 arg14 harg14 arg15 harg15 hi E Q)
    unfold mid
    isplitr [Hk]
    · isplitl [Hi]; · iexact Hi
      isplitl [HL]
      · iexists L; isplitr; swap; (· iexact HL); ipureintro; exact fun y hy => absurd hy (Nat.not_lt_zero _)
      isplitl [HG]
      · iexists G; isplitr; swap; (· iexact HG); ipureintro; exact fun y hy => absurd hy (Nat.not_lt_zero _)
      isplitl [HZ]; · iexact HZ
      iexact HS
    iintro ⟨Hi, ⟨%L', %hL, HL⟩, ⟨%G', %hG, HG⟩, HZ, HS⟩
    have eL : L' = lamBlk T hT Z₀ t := funext fun y => hL y (y 0).2
    have eG : G' = gBlk T hT Z₀ t := funext fun y => hG y (y 0).2
    subst eL eG
    iapply Hk
    isplitl [Hi]; · iexact Hi
    isplitl [HL]; · iexact HL
    isplitl [HG]; · iexact HG
    isplitl [HZ]; · iexact HZ
    iexact HS
  rw [body_eq, wp_bind]
  iintro ⟨Hi, HL, HG, ⟨%X, %hX, HZ⟩, ⟨%s, %hs, HS⟩, Hk⟩
  by_cases h : t.val = 0
  · iapply (start_first T Z₀ c i arg1 harg1 arg2 harg2 arg3 harg3 arg4 harg4 arg5 harg5 arg6 harg6 arg7 harg7 arg8 harg8 arg9 harg9 arg10 harg10 arg11 harg11 arg12 harg12 arg13 harg13 arg14 harg14 arg15 harg15 (hi.trans h) X s E _)
    isplitl [Hi]; · iexact Hi
    isplitl [HZ]; · iexact HZ
    isplitl [HS]; · iexact HS
    iintro ⟨Hi, HZ, HS⟩
    iapply key
    isplitl [Hi]; · iexact Hi
    isplitl [HL]; · iexact HL
    isplitl [HG]; · iexact HG
    rw [show stAt T hT Z₀ (8 * t.val) = ⟨Z₀, initS T Z₀⟩ by rw [h]; rfl]
    isplitl [HZ]; · iexact HZ
    isplitl [HS]; · iexact HS
    iexact Hk
  · have eX := hX h
    have es := hs (Nat.pos_of_ne_zero h)
    subst eX es
    rw [start_other i arg1 harg1 arg2 harg2 arg3 harg3 arg4 harg4 arg5 harg5 arg6 harg6 arg7 harg7 arg8 harg8 arg9 harg9 arg10 harg10 arg11 harg11 arg12 harg12 arg13 harg13 arg14 harg14 arg15 harg15 (by rw [hi]; exact h), wp_pure]
    imodintro
    iapply key
    isplitl [Hi]; · iexact Hi
    isplitl [HL]; · iexact HL
    isplitl [HG]; · iexact HG
    isplitl [HZ]; · iexact HZ
    isplitl [HS]; · iexact HS
    iexact Hk

/-- Owning a whole memref at `X` is holding its buffer at contents that read `X`. -/
theorem owns_At (c : Dev nD) {sp : Space} {S : Shape} {e : EltTy} (M : Memref sig .tc sp S e) (h : M.IsWhole) (X : S.Idx → Elt F e) :
    (owns (c : Thread nD τ) M fullShare X : sProp 𝕄) = At c M X := by
  unfold owns At
  rw [h.set_eq_univ]

set_option backward.isDefEq.respectTransparency.types false in
/-- One point of the grid meets the pipeline's obligation. -/
theorem obligation0 (W : Dev nD → Valuation τ sig (Elt F)) (hT : ∀ c, (tabs (W c)).Ok) (c : Dev nD) :
    BodyObligation (dat0 W hT c) (defs₀ (F := F)) Variants.none () Set.univ := fun t => by
  rw [bigSep_W0, bigSep_W0]
  rw [show (dat0 W hT c).owesAt () t.succ = (dat0 W hT c).owesAt () t.castSucc from rfl,
    show (dat0 W hT c).Φ t.castSucc = Inv W hT c t.val from rfl, show (dat0 W hT c).Φ t.succ = Inv W hT c (t.val + 1) from rfl]
  have w0 : ((cfg0.win 0).stage (cfg0.slots t 0)).IsWhole := stage_whole0 0 _
  have w1 : ((cfg0.win 1).stage (cfg0.slots t 1)).IsWhole := stage_whole0 1 _
  have w2 : ((cfg0.win 2).stage (cfg0.slots t 2)).IsWhole := stage_whole0 2 _
  have w3 : ((cfg0.win 3).stage (cfg0.slots t 3)).IsWhole := stage_whole0 3 _
  have w4 : ((cfg0.win 4).stage (cfg0.slots t 4)).IsWhole := stage_whole0 4 _
  have w5 : ((cfg0.win 5).stage (cfg0.slots t 5)).IsWhole := stage_whole0 5 _
  have w6 : ((cfg0.win 6).stage (cfg0.slots t 6)).IsWhole := stage_whole0 6 _
  have w7 : ((cfg0.win 7).stage (cfg0.slots t 7)).IsWhole := stage_whole0 7 _
  have w8 : ((cfg0.win 8).stage (cfg0.slots t 8)).IsWhole := stage_whole0 8 _
  have w9 : ((cfg0.win 9).stage (cfg0.slots t 9)).IsWhole := stage_whole0 9 _
  have w10 : ((cfg0.win 10).stage (cfg0.slots t 10)).IsWhole := stage_whole0 10 _
  have w11 : ((cfg0.win 11).stage (cfg0.slots t 11)).IsWhole := stage_whole0 11 _
  have w12 : ((cfg0.win 12).stage (cfg0.slots t 12)).IsWhole := stage_whole0 12 _
  have w13 : ((cfg0.win 13).stage (cfg0.slots t 13)).IsWhole := stage_whole0 13 _
  simp only [before0_0 W hT c t, before0_1 W hT c t, before0_2 W hT c t, before0_3 W hT c t, before0_4 W hT c t, before0_5 W hT c t, before0_6 W hT c t, before0_7 W hT c t, before0_8 W hT c t, before0_9 W hT c t, before0_10 W hT c t, owns_At (F := F) c ((cfg0.win 0).stage (cfg0.slots t 0)) w0, owns_At (F := F) c ((cfg0.win 1).stage (cfg0.slots t 1)) w1, owns_At (F := F) c ((cfg0.win 2).stage (cfg0.slots t 2)) w2, owns_At (F := F) c ((cfg0.win 3).stage (cfg0.slots t 3)) w3, owns_At (F := F) c ((cfg0.win 4).stage (cfg0.slots t 4)) w4, owns_At (F := F) c ((cfg0.win 5).stage (cfg0.slots t 5)) w5, owns_At (F := F) c ((cfg0.win 6).stage (cfg0.slots t 6)) w6, owns_At (F := F) c ((cfg0.win 7).stage (cfg0.slots t 7)) w7, owns_At (F := F) c ((cfg0.win 8).stage (cfg0.slots t 8)) w8, owns_At (F := F) c ((cfg0.win 9).stage (cfg0.slots t 9)) w9, owns_At (F := F) c ((cfg0.win 10).stage (cfg0.slots t 10)) w10, owns_At (F := F) c ((cfg0.win 11).stage (cfg0.slots t 11)) w11, owns_At (F := F) c ((cfg0.win 12).stage (cfg0.slots t 12)) w12, owns_At (F := F) c ((cfg0.win 13).stage (cfg0.slots t 13)) w13]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  unfold Inv
  icases HΦ with ⟨⟨%s, %hs, HS⟩, Ho⟩
  iapply (point_triple (tabs (W c)) (hT c) (z0 (W c)) c (pt t) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (coord_pt t) Set.univ _)
  unfold ins
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexists _; iexact H11
  isplitl [H12]; · iexists _; iexact H12
  isplitl [H13]
  · iexists _; isplitr; swap; (· iexact H13); ipureintro
    exact fun h => before0_13 W hT c t h _
  isplitl [HS]
  · iexists s; isplitr; swap; (· iexact HS); ipureintro; exact hs
  iintro ⟨⟨H0, H1, H2, H3, H4, H5, H6, H7, H8, H9, H10⟩, H11, H12, H13, HS⟩
  isplitl [HS Ho]
  · isplitl [HS]
    · iexists _; isplitr; swap; (· iexact HS); ipureintro
      exact fun _ => rfl
    iexact Ho
  isplitl [Howes]; · iexact Howes
  isplitl [H0]; · rw [show (dat0 W hT c).after 0 t = _ from rd0 (W c) t]; iexact H0
  isplitl [H1]; · rw [show (dat0 W hT c).after 1 t = _ from rd1 (W c) t]; iexact H1
  isplitl [H2]; · rw [show (dat0 W hT c).after 2 t = _ from rd2 (W c) t]; iexact H2
  isplitl [H3]; · rw [show (dat0 W hT c).after 3 t = _ from rd3 (W c) t]; iexact H3
  isplitl [H4]; · rw [show (dat0 W hT c).after 4 t = _ from rd4 (W c) t]; iexact H4
  isplitl [H5]; · rw [show (dat0 W hT c).after 5 t = _ from rd5 (W c) t]; iexact H5
  isplitl [H6]; · rw [show (dat0 W hT c).after 6 t = _ from rd6 (W c) t]; iexact H6
  isplitl [H7]; · rw [show (dat0 W hT c).after 7 t = _ from rd7 (W c) t]; iexact H7
  isplitl [H8]; · rw [show (dat0 W hT c).after 8 t = _ from rd8 (W c) t]; iexact H8
  isplitl [H9]; · rw [show (dat0 W hT c).after 9 t = _ from rd9 (W c) t]; iexact H9
  isplitl [H10]; · rw [show (dat0 W hT c).after 10 t = _ from rd10 (W c) t]; iexact H10
  isplitl [H11]; · iexact H11
  isplitl [H12]; · iexact H12
  iexact H13

end Cert.KernelIdeal.Scan
-- ==== Proof.Lam.lean ====
/-
  The intensity kernel: its body run, the proof data over its grid, and one point's obligation.
-/
module

public import proofs.«01_k».proof.Proof.ScanBody

@[expose] public section

set_option maxRecDepth 16384

noncomputable section

namespace Cert.KernelIdeal.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Entry `k` of a table of two. -/
def sc (X : S2.Idx → Elt F .f32) (k : Fin 2) : Elt F .f32 := X (fun | 0 => (k : Fin 2))

/-- A load of the first scalar of a pair reads it. -/
theorem ld_sc0 (X : S2.Idx → Elt F .f32) : View.ld X (Rect.unit (s := S2) ![0] S1.size inb_S2_S1_0) (Shape.Idx.first (numel1_S1.symm ▸ Nat.one_pos)) = sc X 0 := by
  refine congrArg X (funext fun a => Fin.ext ?_)
  fin_cases a; rfl

/-- A load of the second scalar of a pair reads it. -/
theorem ld_sc1 (X : S2.Idx → Elt F .f32) : View.ld X (Rect.unit (s := S2) ![1] S1.size inb_S2_S1_1) (Shape.Idx.first (numel1_S1.symm ▸ Nat.one_pos)) = sc X 1 := by
  refine congrArg X (funext fun a => Fin.ext ?_)
  fin_cases a; rfl

section Out

variable (wt : S2.Idx → Elt F .f32) (al : S2.Idx → Elt F .f32) (ps : S2.Idx → Elt F .f32) (ob : S2.Idx → Elt F .f32) (uv : S8x2.Idx → Elt F .i32) (et : S8x1.Idx → Elt F .i32) (tt : S8x1.Idx → Elt F .f32) (tb : S8x1x10000.Idx → Elt F .f32) (sr : S8x10000.Idx → Elt F .f32) (a2 : S8x2.Idx → Elt F .f32)

/-- A column of a two-column block. -/
abbrev lo {e : EltTy} (X : S8x2.Idx → Elt F e) : S8x1.Idx → Elt F e := View.ld X (Rect.unit (s := S8x2) ![0, 0] S8x1.size inb_S8x2_S8x1_0_0)
abbrev hi {e : EltTy} (X : S8x2.Idx → Elt F e) : S8x1.Idx → Elt F e := View.ld X (Rect.unit (s := S8x2) ![0, 1] S8x1.size inb_S8x2_S8x1_0_1)
abbrev one {e : EltTy} (X : S8x1.Idx → Elt F e) : S8x1.Idx → Elt F e := View.ld X (Rect.unit (s := S8x1) ![0, 0] S8x1.size inb_S8x1_S8x1_0_0)

/-- The left half of the result's rows: the intensities from the first node's side. -/
def lamU : S8x10000.Idx → Elt F .f32 :=
  k1_pay1 (k1_pay6 (one et) (sc ps 0) (sc ps 1))
    (k1_pay14 (k1_pay3 (F := F) (lo uv)) (k1_pay7 (one et) (sc ob 0) (sc ob 1)) (k1_pay8 (one et) (sc wt 0) (sc wt 1))
      (k1_pay9 (one et) (one tt) (sc wt 0) (sc wt 1) (sc al 0) (sc al 1)) (k1_pay10 (one et) (sc ps 0) (sc ps 1))
      (View.ld tb (Rect.unit (s := S8x1x10000) ![0, 0, 0] S8x1x10000.size inb_S8x1x10000_S8x1x10000_0_0_0))
      (View.ld sr (Rect.unit (s := S8x10000) ![0, 0] S8x10000.size inb_S8x10000_S8x10000_0_0)) (lo a2))

/-- The right half: the intensities from the second node's side. -/
def lamV : S8x10000.Idx → Elt F .f32 :=
  k1_pay2 (k1_pay6 (one et) (sc ps 0) (sc ps 1)) (k1_pay10 (one et) (sc ps 0) (sc ps 1))
    (k1_pay13 (k1_pay4 (F := F) (hi uv)) (k1_pay7 (one et) (sc ob 0) (sc ob 1)) (k1_pay8 (one et) (sc wt 0) (sc wt 1))
      (k1_pay9 (one et) (one tt) (sc wt 0) (sc wt 1) (sc al 0) (sc al 1))
      (View.ld tb (Rect.unit (s := S8x1x10000) ![0, 0, 0] S8x1x10000.size inb_S8x1x10000_S8x1x10000_0_0_0))
      (View.ld sr (Rect.unit (s := S8x10000) ![0, 0] S8x10000.size inb_S8x10000_S8x10000_0_0)) (hi a2))

/-- The result's rows: the two halves side by side. -/
def lamOut : S8x20000.Idx → Elt F .f32 := fun y =>
  if h : (y 1).val < 10000 then lamU wt al ps ob uv et tt tb sr a2 (fun | 0 => (y 0 : Fin 8) | 1 => (⟨(y 1).val, h⟩ : Fin 10000))
  else lamV wt al ps ob uv et tt tb sr a2 (fun | 0 => (y 0 : Fin 8) | 1 => (⟨(y 1).val - 10000, by have : (y 1).val < 20000 := (y 1).2; omega⟩ : Fin 10000))

end Out

/-- Storing the two halves leaves nothing of the old contents. -/
theorem put_halves (X : S8x20000.Idx → Elt F .f32) (p q : S8x10000.Idx → Elt F .f32) :
    updateSlice (s := S8x20000) (updateSlice (s := S8x20000) X p ![0, 0] ⟨rfl, inb_S8x20000_S8x10000_0_0⟩) q ![0, 10000] ⟨rfl, inb_S8x20000_S8x10000_0_10000⟩
      = fun y => if h : (y 1).val < 10000 then p (fun | 0 => (y 0 : Fin 8) | 1 => (⟨(y 1).val, h⟩ : Fin 10000))
          else q (fun | 0 => (y 0 : Fin 8) | 1 => (⟨(y 1).val - 10000, by have : (y 1).val < 20000 := (y 1).2; omega⟩ : Fin 10000)) := by
  funext y
  have b0 : (y 0).val < 8 := (y 0).2
  have b1 : (y 1).val < 20000 := (y 1).2
  by_cases e : (y 1).val < 10000
  · have hn : ¬ ∀ a : Fin 2, (![0, 10000] : Fin 2 → ℕ) a ≤ (y a).val ∧ (y a).val < (![0, 10000] : Fin 2 → ℕ) a + S8x10000.size a := fun h => by
      have : 10000 ≤ (y 1).val := (h 1).1
      omega
    refine (dif_neg hn).trans ?_
    have hin : ∀ a : Fin 2, (![0, 0] : Fin 2 → ℕ) a ≤ (y a).val ∧ (y a).val < (![0, 0] : Fin 2 → ℕ) a + S8x10000.size a :=
      Fin.forall_fin_two.mpr ⟨⟨Nat.zero_le _, by show (y 0).val < 0 + 8; omega⟩, ⟨Nat.zero_le _, by show (y 1).val < 0 + 10000; omega⟩⟩
    refine (dif_pos hin).trans ?_
    rw [dif_pos e]
    refine congrArg p (funext fun a => Fin.ext ?_)
    revert a; exact Fin.forall_fin_two.mpr ⟨rfl, rfl⟩
  · have hin : ∀ a : Fin 2, (![0, 10000] : Fin 2 → ℕ) a ≤ (y a).val ∧ (y a).val < (![0, 10000] : Fin 2 → ℕ) a + S8x10000.size a :=
      Fin.forall_fin_two.mpr ⟨⟨Nat.zero_le _, by show (y 0).val < 0 + 8; omega⟩, ⟨by show 10000 ≤ (y 1).val; omega, by show (y 1).val < 10000 + 10000; omega⟩⟩
    refine (dif_pos hin).trans ?_
    rw [dif_neg e]
    refine congrArg q (funext fun a => Fin.ext ?_)
    revert a; exact Fin.forall_fin_two.mpr ⟨rfl, rfl⟩

/-- One run of the body: the operands stay, the result is `lamOut` of them. -/
theorem lam_triple (c : Dev nD) (i : grid1.Coords) (arg1 : Memref sig .tc .smem S2 .f32) (harg1 : arg1.IsWhole) (arg2 : Memref sig .tc .smem S2 .f32) (harg2 : arg2.IsWhole) (arg3 : Memref sig .tc .smem S2 .f32) (harg3 : arg3.IsWhole) (arg4 : Memref sig .tc .smem S2 .f32) (harg4 : arg4.IsWhole) (arg5 : Memref sig .tc .vmem S8x2 .i32) (harg5 : arg5.IsWhole) (arg6 : Memref sig .tc .vmem S8x1 .i32) (harg6 : arg6.IsWhole) (arg7 : Memref sig .tc .vmem S8x1 .f32) (harg7 : arg7.IsWhole) (arg8 : Memref sig .tc .vmem S8x1x10000 .f32) (harg8 : arg8.IsWhole) (arg9 : Memref sig .tc .vmem S8x10000 .f32) (harg9 : arg9.IsWhole) (arg10 : Memref sig .tc .vmem S8x2 .f32) (harg10 : arg10.IsWhole) (arg11 : Memref sig .tc .vmem S8x20000 .f32) (harg11 : arg11.IsWhole) (wt : S2.Idx → Elt F .f32) (al : S2.Idx → Elt F .f32) (ps : S2.Idx → Elt F .f32) (ob : S2.Idx → Elt F .f32) (uv : S8x2.Idx → Elt F .i32) (et : S8x1.Idx → Elt F .i32) (tt : S8x1.Idx → Elt F .f32) (tb : S8x1x10000.Idx → Elt F .f32) (sr : S8x10000.Idx → Elt F .f32) (a2 : S8x2.Idx → Elt F .f32)
    (E : Set ℕ) (Q : PUnit → sProp 𝕄) :
    iprop(At c arg1 wt ∗ At c arg2 al ∗ At c arg3 ps ∗ At c arg4 ob ∗ At c arg5 uv ∗ At c arg6 et ∗ At c arg7 tt ∗ At c arg8 tb ∗ At c arg9 sr ∗ At c arg10 a2 ∗ (∃ X, At c arg11 X)
        ∗ (iprop(At c arg1 wt ∗ At c arg2 al ∗ At c arg3 ps ∗ At c arg4 ob ∗ At c arg5 uv ∗ At c arg6 et ∗ At c arg7 tt ∗ At c arg8 tb ∗ At c arg9 sr ∗ At c arg10 a2 ∗ At c arg11 (lamOut wt al ps ob uv et tt tb sr a2)) -∗ Q ⟨⟩))
      ⊢ wp frame (wpE (defs₀ (F := F)) Variants.none c none) E (cc1__lam_kernel (F := F) i arg1 harg1 arg2 harg2 arg3 harg3 arg4 harg4 arg5 harg5 arg6 harg6 arg7 harg7 arg8 harg8 arg9 harg9 arg10 harg10 arg11 harg11) Q := by
  rw [cc1__lam_kernel_eq_skeleton]
  unfold cc1__lam_kernel_skel
  rw [k1_part1_eq_skeleton, k1_part2_eq_skeleton]
  unfold k1_part1_skel k1_part2_skel
  unfold At
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%X, %f11, -, H11⟩, Hk⟩
  subst h1 h2 h3 h4 h5 h6 h7 h8 h9 h10
  sl_exec!
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]; · iexists _; isplitr; swap; (· iexact H9); ipureintro; rfl
  isplitl [H10]; · iexists _; isplitr; swap; (· iexact H10); ipureintro; rfl
  iexists _; isplitr; swap; (· iexact H11); ipureintro
  refine (read_writes_put _ _ _ _ _ _ _).trans ?_
  rw [read_writes_put]
  refine (put_halves _ _ _).trans ?_
  unfold lamOut lamU lamV
  simp only [← ld_sc0, ← ld_sc1]
  rfl

/-- What the intensity call reads of window `w`'s array at point `t`. -/
abbrev rb (W : Valuation τ sig (Elt F)) (w : Fin 11) (t : Fin cfg1.N) : ((cfg1.win w).xblock (cfg1.grid.coords t)).Idx → Elt F (cfg1.win w).elt :=
  ((cfg1.win w).blk t).view.read (Elt F) (W (Proc.devRef .tc (Pipeline.arrRef spec1 w)))

/-- Point `t`'s rows of intensities. -/
def lamAt (W : Valuation τ sig (Elt F)) (t : Fin cfg1.N) : S8x20000.Idx → Elt F .f32 :=
  lamOut (rb W 0 t) (rb W 1 t) (rb W 2 t) (rb W 3 t) (rb W 4 t) (rb W 5 t) (rb W 6 t) (rb W 7 t) (rb W 8 t) (rb W 9 t)

variable (W : Dev nD → Valuation τ sig (Elt F))

/-- The proof data: the operands stay, the result holds the point's rows. -/
def dat1 (c : Dev nD) : Dat τ (Elt F) Unit ℕ UU ℕ cfg1 c where
  A w := W c (Proc.devRef .tc (Pipeline.arrRef spec1 w))
  after w t := match w with
    | ⟨0, _⟩ => rb (W c) 0 t
    | ⟨1, _⟩ => rb (W c) 1 t
    | ⟨2, _⟩ => rb (W c) 2 t
    | ⟨3, _⟩ => rb (W c) 3 t
    | ⟨4, _⟩ => rb (W c) 4 t
    | ⟨5, _⟩ => rb (W c) 5 t
    | ⟨6, _⟩ => rb (W c) 6 t
    | ⟨7, _⟩ => rb (W c) 7 t
    | ⟨8, _⟩ => rb (W c) 8 t
    | ⟨9, _⟩ => rb (W c) 9 t
    | ⟨10, _⟩ => lamAt (W c) t
  Φ _ := Pipeline.scopedRest (Ix := Unit) (Name := ℕ) (U := UU) (Lvl := ℕ) (Val := Elt F) spec1 c
  q _ := fullShare
  owed _ := 0

/-- What window 0 of the second call holds when its body starts. -/
theorem before1_0 (c : Dev nD) (t : Fin cfg1.N) (d : (cfg1.win 0).block.Idx → Elt F (cfg1.win 0).elt) :
    (dat1 W c).before 0 t d = rb (W c) 0 t := by
  refine ((dat1 W c).before_in_eq_fetched 0 rfl (fun _ => rfl) (fun _ _ _ => rfl) (fun _ => rfl) t d).trans ?_
  unfold Dat.fetched Dat.blockOf
  rfl

/-- What window 1 of the second call holds when its body starts. -/
theorem before1_1 (c : Dev nD) (t : Fin cfg1.N) (d : (cfg1.win 1).block.Idx → Elt F (cfg1.win 1).elt) :
    (dat1 W c).before 1 t d = rb (W c) 1 t := by
  refine ((dat1 W c).before_in_eq_fetched 1 rfl (fun _ => rfl) (fun _ _ _ => rfl) (fun _ => rfl) t d).trans ?_
  unfold Dat.fetched Dat.blockOf
  rfl

/-- What window 2 of the second call holds when its body starts. -/
theorem before1_2 (c : Dev nD) (t : Fin cfg1.N) (d : (cfg1.win 2).block.Idx → Elt F (cfg1.win 2).elt) :
    (dat1 W c).before 2 t d = rb (W c) 2 t := by
  refine ((dat1 W c).before_in_eq_fetched 2 rfl (fun _ => rfl) (fun _ _ _ => rfl) (fun _ => rfl) t d).trans ?_
  unfold Dat.fetched Dat.blockOf
  rfl

/-- What window 3 of the second call holds when its body starts. -/
theorem before1_3 (c : Dev nD) (t : Fin cfg1.N) (d : (cfg1.win 3).block.Idx → Elt F (cfg1.win 3).elt) :
    (dat1 W c).before 3 t d = rb (W c) 3 t := by
  refine ((dat1 W c).before_in_eq_fetched 3 rfl (fun _ => rfl) (fun _ _ _ => rfl) (fun _ => rfl) t d).trans ?_
  unfold Dat.fetched Dat.blockOf
  rfl

/-- What window 4 of the second call holds when its body starts. -/
theorem before1_4 (c : Dev nD) (t : Fin cfg1.N) (d : (cfg1.win 4).block.Idx → Elt F (cfg1.win 4).elt) :
    (dat1 W c).before 4 t d = rb (W c) 4 t := by
  refine ((dat1 W c).before_in_eq_fetched 4 rfl (fun _ => rfl) (fun _ _ _ => rfl) (fun _ => rfl) t d).trans ?_
  unfold Dat.fetched Dat.blockOf
  rfl

/-- What window 5 of the second call holds when its body starts. -/
theorem before1_5 (c : Dev nD) (t : Fin cfg1.N) (d : (cfg1.win 5).block.Idx → Elt F (cfg1.win 5).elt) :
    (dat1 W c).before 5 t d = rb (W c) 5 t := by
  refine ((dat1 W c).before_in_eq_fetched 5 rfl (fun _ => rfl) (fun _ _ _ => rfl) (fun _ => rfl) t d).trans ?_
  unfold Dat.fetched Dat.blockOf
  rfl

/-- What window 6 of the second call holds when its body starts. -/
theorem before1_6 (c : Dev nD) (t : Fin cfg1.N) (d : (cfg1.win 6).block.Idx → Elt F (cfg1.win 6).elt) :
    (dat1 W c).before 6 t d = rb (W c) 6 t := by
  refine ((dat1 W c).before_in_eq_fetched 6 rfl (fun _ => rfl) (fun _ _ _ => rfl) (fun _ => rfl) t d).trans ?_
  unfold Dat.fetched Dat.blockOf
  rfl

/-- What window 7 of the second call holds when its body starts. -/
theorem before1_7 (c : Dev nD) (t : Fin cfg1.N) (d : (cfg1.win 7).block.Idx → Elt F (cfg1.win 7).elt) :
    (dat1 W c).before 7 t d = rb (W c) 7 t := by
  refine ((dat1 W c).before_in_eq_fetched 7 rfl (fun _ => rfl) (fun _ _ _ => rfl) (fun _ => rfl) t d).trans ?_
  unfold Dat.fetched Dat.blockOf
  rfl

/-- What window 8 of the second call holds when its body starts. -/
theorem before1_8 (c : Dev nD) (t : Fin cfg1.N) (d : (cfg1.win 8).block.Idx → Elt F (cfg1.win 8).elt) :
    (dat1 W c).before 8 t d = rb (W c) 8 t := by
  refine ((dat1 W c).before_in_eq_fetched 8 rfl (fun _ => rfl) (fun _ _ _ => rfl) (fun _ => rfl) t d).trans ?_
  unfold Dat.fetched Dat.blockOf
  rfl

/-- What window 9 of the second call holds when its body starts. -/
theorem before1_9 (c : Dev nD) (t : Fin cfg1.N) (d : (cfg1.win 9).block.Idx → Elt F (cfg1.win 9).elt) :
    (dat1 W c).before 9 t d = rb (W c) 9 t := by
  refine ((dat1 W c).before_in_eq_fetched 9 rfl (fun _ => rfl) (fun _ _ _ => rfl) (fun _ => rfl) t d).trans ?_
  unfold Dat.fetched Dat.blockOf
  rfl

set_option backward.isDefEq.respectTransparency.types false in
/-- One point of the grid meets the pipeline's obligation. -/
theorem obligation1 (c : Dev nD) :
    BodyObligation (dat1 W c) (defs₀ (F := F)) Variants.none () Set.univ := fun t => by
  rw [bigSep_W1, bigSep_W1]
  rw [show (dat1 W c).owesAt () t.succ = (dat1 W c).owesAt () t.castSucc from rfl,
    show (dat1 W c).Φ t.succ = (dat1 W c).Φ t.castSucc from rfl]
  have w0 : ((cfg1.win 0).stage (cfg1.slots t 0)).IsWhole := stage_whole1 0 _
  have w1 : ((cfg1.win 1).stage (cfg1.slots t 1)).IsWhole := stage_whole1 1 _
  have w2 : ((cfg1.win 2).stage (cfg1.slots t 2)).IsWhole := stage_whole1 2 _
  have w3 : ((cfg1.win 3).stage (cfg1.slots t 3)).IsWhole := stage_whole1 3 _
  have w4 : ((cfg1.win 4).stage (cfg1.slots t 4)).IsWhole := stage_whole1 4 _
  have w5 : ((cfg1.win 5).stage (cfg1.slots t 5)).IsWhole := stage_whole1 5 _
  have w6 : ((cfg1.win 6).stage (cfg1.slots t 6)).IsWhole := stage_whole1 6 _
  have w7 : ((cfg1.win 7).stage (cfg1.slots t 7)).IsWhole := stage_whole1 7 _
  have w8 : ((cfg1.win 8).stage (cfg1.slots t 8)).IsWhole := stage_whole1 8 _
  have w9 : ((cfg1.win 9).stage (cfg1.slots t 9)).IsWhole := stage_whole1 9 _
  have w10 : ((cfg1.win 10).stage (cfg1.slots t 10)).IsWhole := stage_whole1 10 _
  simp only [before1_0 W c t, before1_1 W c t, before1_2 W c t, before1_3 W c t, before1_4 W c t, before1_5 W c t, before1_6 W c t, before1_7 W c t, before1_8 W c t, before1_9 W c t, owns_At (F := F) c ((cfg1.win 0).stage (cfg1.slots t 0)) w0, owns_At (F := F) c ((cfg1.win 1).stage (cfg1.slots t 1)) w1, owns_At (F := F) c ((cfg1.win 2).stage (cfg1.slots t 2)) w2, owns_At (F := F) c ((cfg1.win 3).stage (cfg1.slots t 3)) w3, owns_At (F := F) c ((cfg1.win 4).stage (cfg1.slots t 4)) w4, owns_At (F := F) c ((cfg1.win 5).stage (cfg1.slots t 5)) w5, owns_At (F := F) c ((cfg1.win 6).stage (cfg1.slots t 6)) w6, owns_At (F := F) c ((cfg1.win 7).stage (cfg1.slots t 7)) w7, owns_At (F := F) c ((cfg1.win 8).stage (cfg1.slots t 8)) w8, owns_At (F := F) c ((cfg1.win 9).stage (cfg1.slots t 9)) w9, owns_At (F := F) c ((cfg1.win 10).stage (cfg1.slots t 10)) w10]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (lam_triple c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (rb (W c) 0 t) (rb (W c) 1 t) (rb (W c) 2 t) (rb (W c) 3 t) (rb (W c) 4 t) (rb (W c) 5 t) (rb (W c) 6 t) (rb (W c) 7 t) (rb (W c) 8 t) (rb (W c) 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Scan
-- ==== Proof.Run.lean ====
/-
  The whole program's run: its two calls as regions between the host stretches, and every buffer's contents at the end.
-/
module

public import proofs.«01_k».proof.Proof.Lam
public import proofs.«01_k».proof.Proof.Gen.KernelIdeal.Regions
public import Idealize.ShloMosaic.Lib.Pipeline.RegionArraysS

@[expose] public section

set_option maxRecDepth 16384

noncomputable section

namespace Cert.KernelIdeal.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ UU ℕ

variable (m : (ℓ : Loc nD τ sig) → Buf (Elt F) ℓ) (hT : ∀ c, (tabs (V1 m c)).Ok)

/-- What the first call leaves in its results. -/
def outs0 : Outs (F := F) := fun j r c =>
  if h : r = main_v18_0 then h ▸ (dat0 (V1 m) hT c).arrAt 11 cfg0.N
  else if h : r = main_v18_1 then h ▸ (dat0 (V1 m) hT c).arrAt 12 cfg0.N
  else if h : r = main_v18_2 then h ▸ (dat0 (V1 m) hT c).arrAt 13 cfg0.N
  else V1 m c r

/-- The buffers' contents when the second call is reached. -/
def W1 (c : Dev nD) : Valuation τ sig (Elt F) := V3 m (outs0 m hT) c

/-- What the two calls leave in their results. -/
def outs : Outs (F := F) := fun j r c =>
  if h : r = main_v25 then h ▸ (dat1 (W1 m hT) c).arrAt 10 cfg1.N
  else outs0 m hT j r c

/-- What the first call leaves in its first result. -/
theorem outs_18_0 (j : ℕ) (c : Dev nD) : outs m hT j main_v18_0 c = (dat0 (V1 m) hT c).arrAt 11 cfg0.N := by
  unfold outs; rw [dif_neg (by decide)]; unfold outs0; rw [dif_pos rfl]

/-- What the first call leaves in its second result. -/
theorem outs_18_1 (j : ℕ) (c : Dev nD) : outs m hT j main_v18_1 c = (dat0 (V1 m) hT c).arrAt 12 cfg0.N := by
  unfold outs; rw [dif_neg (by decide)]; unfold outs0; rw [dif_neg (by decide), dif_pos rfl]

/-- What the first call leaves in its third result. -/
theorem outs_18_2 (j : ℕ) (c : Dev nD) : outs m hT j main_v18_2 c = (dat0 (V1 m) hT c).arrAt 13 cfg0.N := by
  unfold outs; rw [dif_neg (by decide)]; unfold outs0; rw [dif_neg (by decide), dif_neg (by decide), dif_pos rfl]

/-- What the second call leaves in its result. -/
theorem outs_25 (j : ℕ) (c : Dev nD) : outs m hT j main_v25 c = (dat1 (W1 m hT) c).arrAt 10 cfg1.N := by
  unfold outs; rw [dif_pos rfl]

/-- The values after the first call do not depend on the second call's result. -/
theorem V2_outs (c : Dev nD) : V2 m (outs m hT) c = V2 m (outs0 m hT) c := by
  have e : ∀ r, r ≠ main_v25 → outs m hT 2 r c = outs0 m hT 2 r c := fun r h => by unfold outs; rw [dif_neg h]
  show Function.update (Function.update (Function.update _ _ _) _ _) _ _ = Function.update (Function.update (Function.update _ _ _) _ _) _ _
  rw [e main_v18_0 (by decide), e main_v18_1 (by decide), e main_v18_2 (by decide)]

/-- The values the second call starts from. -/
theorem V3_outs (c : Dev nD) : V3 m (outs m hT) c = W1 m hT c := by
  unfold W1
  show StableHlo.after hostOps1 _ = StableHlo.after hostOps1 _
  rw [V2_outs]

/-- The proof data of the two calls, from what the buffers hold when each is reached. -/
def pdats (Wa : Dev nD → Valuation τ sig (Elt F)) (hT : ∀ c, (tabs (Wa c)).Ok) (Wb : Dev nD → Valuation τ sig (Elt F)) :
    (p : Fin 2) → (c : Dev nD) → Dat τ (Elt F) Unit ℕ UU ℕ (cfgs p) c
  | ⟨0, _⟩ => fun c => dat0 Wa hT c
  | ⟨1, _⟩ => fun c => dat1 Wb c

/-- The staging semaphores' levels: all at zero, as no core owes another anything. -/
def L : GSem nD τ sig → Finset Unit := fun g => if g.1.2 = .tc then {()} else ∅
abbrev lv : GSem nD τ sig → Unit → ℕ := fun _ _ => 0
abbrev EP : Emb (URounds (GSem nD τ sig) Unit) 𝕄 := emb₁

/-- The waits of each call all sit at one level. -/
theorem cut (p : Fin 2) : Pipeline.LevelCut (nD := nD) (τ := τ) (pcfgs (F := F)) adm () L lv p (fun _ => 0) (fun _ => 0) where
  hι c w s := by unfold L; rw [if_pos rfl]; exact Finset.mem_singleton_self _
  hιb _ _ _ := le_refl _
  hD _ _ _ h := absurd h (Nat.lt_irrefl 0)

section Gen
variable (Wa : Dev nD → Valuation τ sig (Elt F)) (hT : ∀ c, (tabs (Wa c)).Ok) (Wb : Dev nD → Valuation τ sig (Elt F))

/-- What the first call is given opens its invariant. -/
theorem in0 (c : Dev nD) :
    iprop(Pipeline.scopedRest (Ix := Unit) (Name := ℕ) (U := UU) (Lvl := ℕ) (Val := Elt F) spec0 c ∗ (BI.emp : sProp 𝕄)) ⊢ Inv Wa hT c 0 := by
  rw [scopedRest0_eq]
  unfold Inv others
  iintro ⟨⟨⟨%f, Hs⟩, Ho⟩, -⟩
  isplitl [Hs]
  · iexists f; isplitr; · ipureintro; exact fun h => absurd h (Nat.lt_irrefl 0)
    unfold At; iexists f; isplitr; · ipureintro; rfl
    iexact Hs
  iexact Ho

/-- The invariant of the first call gives back what it was given. -/
theorem out0 (c : Dev nD) (n : ℕ) :
    Inv Wa hT c n ⊢ iprop(Pipeline.scopedRest (Ix := Unit) (Name := ℕ) (U := UU) (Lvl := ℕ) (Val := Elt F) spec0 c ∗ (BI.emp : sProp 𝕄)) := by
  rw [scopedRest0_eq]
  unfold Inv others
  iintro ⟨⟨%s, -, Hs⟩, Ho⟩
  unfold At
  icases Hs with ⟨%f, -, Hs⟩
  isplitl [Hs Ho]
  · isplitl [Hs]; · iexists f; iexact Hs
    iexact Ho
  iempintro

/-- The second call needs nothing beside what it is given. -/
theorem in1 (c : Dev nD) (Φ : sProp 𝕄) : iprop(Φ ∗ (BI.emp : sProp 𝕄)) ⊢ Φ := by
  iintro ⟨H, -⟩; iexact H

/-- The second call gives back what it was given. -/
theorem out1 (c : Dev nD) (Φ : sProp 𝕄) : Φ ⊢ iprop(Φ ∗ (BI.emp : sProp 𝕄)) := by
  iintro H; isplitl [H]; · iexact H
  iempintro

/-- The first call holds each of its windows in full. -/
theorem share0 (c : Dev nD) (w : Fin cfg0.W) : (dat0 Wa hT c).share w = fullShare := (dat0 Wa hT c).share_full (fun _ => rfl) w

/-- The second call holds each of its windows in full. -/
theorem share1 (W : Dev nD → Valuation τ sig (Elt F)) (c : Dev nD) (w : Fin cfg1.W) : (dat1 W c).share w = fullShare := (dat1 W c).share_full (fun _ => rfl) w

set_option backward.isDefEq.respectTransparency.types false in
/-- The first call as a region, from the buffers after the first host stretch. -/
def reg0 : RegionSeg (pcfgs (F := F)) adm (pdats Wa hT Wb) () defs₀ Variants.none L lv 0 :=
  Pipeline.RegionSeg.ofHeldIn (pcfgs (F := F)) adm (pdats Wa hT Wb) () defs₀ Variants.none L lv 0 (fun _ => 0) (Pipeline.ucRefs τ sig)
    (fun _ => BI.emp) (fun _ => BI.emp) launch0.toP rfl (fun c => (obligation0 Wa hT c).loose) (fun _ _ => rfl) (fun _ => rfl)
    (fun c => share0 Wa hT c)
    (fun c => in0 Wa hT c) (fun c => out0 Wa hT c _) (fun _ => 0) (cut 0) (fun _ => BI.emp) Wa (fun c w => rfl)

/-- The second call starts from what it is given. -/
theorem in1' (c : Dev nD) : iprop(Pipeline.scopedRest (Ix := Unit) (Name := ℕ) (U := UU) (Lvl := ℕ) (Val := Elt F) spec1 c ∗ (BI.emp : sProp 𝕄)) ⊢ (dat1 Wb c).Φ 0 :=
  in1 c _

/-- The second call ends with what it was given. -/
theorem out1' (c : Dev nD) : (dat1 Wb c).Φ (Fin.last cfg1.N) ⊢ iprop(Pipeline.scopedRest (Ix := Unit) (Name := ℕ) (U := UU) (Lvl := ℕ) (Val := Elt F) spec1 c ∗ (BI.emp : sProp 𝕄)) :=
  out1 c _

set_option backward.isDefEq.respectTransparency.types false in
/-- The second call as a region, from the buffers after the second host stretch. -/
def reg1 : RegionSeg (pcfgs (F := F)) adm (pdats Wa hT Wb) () defs₀ Variants.none L lv 1 :=
  Pipeline.RegionSeg.ofHeldIn (pcfgs (F := F)) adm (pdats Wa hT Wb) () defs₀ Variants.none L lv 1 (fun _ => 0) (Pipeline.ucRefs τ sig)
    (fun _ => BI.emp) (fun _ => BI.emp) launch1.toP rfl (fun c => (obligation1 Wb c).loose) (fun _ _ => rfl) (fun _ => rfl)
    (fun c => share1 Wb c)
    (fun c => in1' Wb c) (fun c => out1' Wb c) (fun _ => 0) (cut 1) (fun _ => BI.emp) Wb (fun c w => rfl)

/-- The arrays of the first call are among the arrays of the program. -/
theorem arrs0 : Pipeline.arrRefs (τ := τ) (pcfgs (F := F) 0).spec ⊆ Pipeline.ucRefs τ sig := Pipeline.arrRefs_sub_ucRefs spec0 (by decide)

/-- The arrays of the second call are among the arrays of the program. -/
theorem arrs1 : Pipeline.arrRefs (τ := τ) (pcfgs (F := F) 1).spec ⊆ Pipeline.ucRefs τ sig := Pipeline.arrRefs_sub_ucRefs spec1 (by decide)

/-- What rides along between the items: the core owes nothing. -/
abbrev Rst (c : Dev nD) : sProp 𝕄 := iprop((∃ Wd, owes (c : Thread nD τ) (0 : CellTallies nD τ sig Unit) Wd) ∗ (BI.emp : sProp 𝕄) ∗ (BI.emp : sProp 𝕄))

set_option backward.isDefEq.respectTransparency.types false in
/-- Holding the arrays is enough to start the first call, for any values. -/
theorem pre0' (c : Dev nD) : iprop(StableHlo.held (c : Thread nD τ) (Pipeline.ucRefs τ sig) (Wa c) ∗ Rst c) ⊢ (reg0 Wa hT Wb).pre c := by
  unfold reg0
  refine BIBase.Entails.trans ?_ (Pipeline.RegionSeg.ofHeldIn_pre (arrs0 (F := F)) c)
  exact .rfl

set_option backward.isDefEq.respectTransparency.types false in
/-- The first call hands back the arrays with its results in place, for any values. -/
theorem post0' (c : Dev nD) : (reg0 Wa hT Wb).post c ⊢ iprop(StableHlo.held (c : Thread nD τ) (Pipeline.ucRefs τ sig) (Pipeline.afterRegion (dat0 Wa hT c) (Wa c)) ∗ Rst c) := by
  unfold reg0
  exact Pipeline.RegionSeg.ofHeldIn_post (arrs0 (F := F)) c

set_option backward.isDefEq.respectTransparency.types false in
/-- Holding the arrays is enough to start the second call, for any values. -/
theorem pre1' (c : Dev nD) : iprop(StableHlo.held (c : Thread nD τ) (Pipeline.ucRefs τ sig) (Wb c) ∗ Rst c) ⊢ (reg1 Wa hT Wb).pre c := by
  unfold reg1
  refine BIBase.Entails.trans ?_ (Pipeline.RegionSeg.ofHeldIn_pre (arrs1 (F := F)) c)
  exact .rfl

set_option backward.isDefEq.respectTransparency.types false in
/-- The second call hands back the arrays with its result in place, for any values. -/
theorem post1' (c : Dev nD) : (reg1 Wa hT Wb).post c ⊢ iprop(StableHlo.held (c : Thread nD τ) (Pipeline.ucRefs τ sig) (Pipeline.afterRegion (dat1 Wb c) (Wb c)) ∗ Rst c) := by
  unfold reg1
  exact Pipeline.RegionSeg.ofHeldIn_post (arrs1 (F := F)) c

end Gen

/-- What the first call leaves, at each buffer. -/
theorem after0 (c : Dev nD) : ∀ b ∈ Pipeline.ucRefs τ sig, Pipeline.afterRegion (dat0 (V1 m) hT c) (V1 m c) b = V2 m (outs m hT) c b := by
  intro b hb
  by_cases h : ∃ w : Fin 14, b = Proc.devRef .tc (Pipeline.arrRef spec0 w)
  · obtain ⟨w, rfl⟩ := h
    rw [Pipeline.afterRegion_arr (dat0 (V1 m) hT c) (V1 m c) winFacts0.arr_inj w]
    have inp : ∀ w : Fin 14, (cfg0.win w).isOut = false → Pipeline.arrRef spec0 w ∉ ([main_v18_0, main_v18_1, main_v18_2] : List (Ref sig .tc)) := by decide
    by_cases ho : (cfg0.win w).isOut = false
    · rw [(dat0 (V1 m) hT c).arrAt_in w ho, V2_of m _ c _ (inp w ho)]; rfl
    · have hw : ∀ w : Fin 14, ¬ (cfg0.win w).isOut = false → w = 11 ∨ w = 12 ∨ w = 13 := by decide
      rcases hw w ho with rfl | rfl | rfl
      · refine (outs_18_0 m hT 2 c).symm.trans (Eq.symm ?_)
        show Function.update (Function.update (Function.update (V1 m c) main_v18_0 _) main_v18_1 _) main_v18_2 _ (Proc.devRef .tc main_v18_0) = _
        rw [Function.update_of_ne (StableHlo.devRef_ne_of_ne (by decide)), Function.update_of_ne (StableHlo.devRef_ne_of_ne (by decide)), Function.update_self]
      · refine (outs_18_1 m hT 2 c).symm.trans (Eq.symm ?_)
        show Function.update (Function.update (Function.update (V1 m c) main_v18_0 _) main_v18_1 _) main_v18_2 _ (Proc.devRef .tc main_v18_1) = _
        rw [Function.update_of_ne (StableHlo.devRef_ne_of_ne (by decide)), Function.update_self]
      · refine (outs_18_2 m hT 2 c).symm.trans (Eq.symm ?_)
        show Function.update (Function.update (Function.update (V1 m c) main_v18_0 _) main_v18_1 _) main_v18_2 _ (Proc.devRef .tc main_v18_2) = _
        rw [Function.update_self]
  · have e : Pipeline.afterRegion (dat0 (V1 m) hT c) (V1 m c) b = V1 m c b := by unfold Pipeline.afterRegion; exact dif_neg h
    rw [e]
    show _ = Function.update (Function.update (Function.update (V1 m c) main_v18_0 _) main_v18_1 _) main_v18_2 _ b
    rw [Function.update_of_ne (fun e => h ⟨13, e⟩), Function.update_of_ne (fun e => h ⟨12, e⟩), Function.update_of_ne (fun e => h ⟨11, e⟩)]

/-- What the second call leaves, at each buffer. -/
theorem after1 (c : Dev nD) : ∀ b ∈ Pipeline.ucRefs τ sig, Pipeline.afterRegion (dat1 (W1 m hT) c) (W1 m hT c) b = V4 m (outs m hT) c b := by
  intro b hb
  show _ = Function.update (V3 m (outs m hT) c) main_v25 (outs m hT 4 main_v25 c) b
  rw [V3_outs]
  by_cases h : ∃ w : Fin 11, b = Proc.devRef .tc (Pipeline.arrRef spec1 w)
  · obtain ⟨w, rfl⟩ := h
    rw [Pipeline.afterRegion_arr (dat1 (W1 m hT) c) (W1 m hT c) winFacts1.arr_inj w]
    have inp : ∀ w : Fin 11, (cfg1.win w).isOut = false → Pipeline.arrRef spec1 w ≠ main_v25 := by decide
    by_cases ho : (cfg1.win w).isOut = false
    · rw [(dat1 (W1 m hT) c).arrAt_in w ho, Function.update_of_ne (StableHlo.devRef_ne_of_ne (inp w ho))]; rfl
    · have hw : ∀ w : Fin 11, ¬ (cfg1.win w).isOut = false → w = 10 := by decide
      obtain rfl := hw w ho
      refine (outs_25 m hT 4 c).symm.trans (Eq.symm ?_)
      show Function.update (W1 m hT c) main_v25 _ (Proc.devRef .tc main_v25) = _
      rw [Function.update_self]
  · have e : Pipeline.afterRegion (dat1 (W1 m hT) c) (W1 m hT c) b = W1 m hT c b := by unfold Pipeline.afterRegion; exact dif_neg h
    rw [e, Function.update_of_ne (fun e => h ⟨10, e⟩)]

/-- Holding the arrays after the first host stretch is enough to start the first call. -/
theorem pre0 (c : Dev nD) : iprop(StableHlo.held (c : Thread nD τ) (Pipeline.ucRefs τ sig) (V1 m c) ∗ Rst c) ⊢ (reg0 (V1 m) hT (W1 m hT)).pre c :=
  pre0' _ _ _ c

/-- The first call hands back the arrays that the second host stretch starts from. -/
theorem post0 (c : Dev nD) : (reg0 (V1 m) hT (W1 m hT)).post c ⊢ iprop(StableHlo.held (c : Thread nD τ) (Pipeline.ucRefs τ sig) (V2 m (outs m hT) c) ∗ Rst c) := by
  rw [← StableHlo.held_congr (c : Thread nD τ) (after0 m hT c)]
  exact post0' _ _ _ c

/-- Holding the arrays after the second host stretch is enough to start the second call. -/
theorem pre1 (c : Dev nD) : iprop(StableHlo.held (c : Thread nD τ) (Pipeline.ucRefs τ sig) (V3 m (outs m hT) c) ∗ Rst c) ⊢ (reg1 (V1 m) hT (W1 m hT)).pre c := by
  rw [V3_outs]
  exact pre1' _ _ _ c

/-- The second call hands back the arrays with its result in place. -/
theorem post1 (c : Dev nD) : (reg1 (V1 m) hT (W1 m hT)).post c ⊢ iprop(StableHlo.held (c : Thread nD τ) (Pipeline.ucRefs τ sig) (V4 m (outs m hT) c) ∗ Rst c) := by
  rw [← StableHlo.held_congr (c : Thread nD τ) (after1 m hT c)]
  exact post1' _ _ _ c

set_option backward.isDefEq.respectTransparency.types false in
/-- THE RUN. With words that name rows of the tables, every execution ends, every unscoped buffer holds what the four
    items leave in it, and every semaphore counter is zero. -/
theorem run_main (ρ : Dev nD → PrngReg) :
    θ_run defs (onTc (τ := τ) (main (F := F))) ⟨m, fun _ => 0, ρ⟩ (fun r =>
      (∀ c : Dev nD, ∀ b : Ref sig .tc, ¬ (Proc.devRef (τ := τ) .tc b).isScoped → r.2.mem ((c.tc : Thread nD τ).loc b) = V4 m (outs m hT) c b)
      ∧ r.2.sem = fun _ => 0) := by
  refine Pipeline.θ_run_regions_kit_dev_sems (pcfgs (F := F)) adm (pdats (V1 m) hT (W1 m hT)) () cellOf_inj EP defs₀ Variants.none L lv m ρ main
    (segs m (outs m hT) Variants.none L lv (fun _ => Rst) () (pdats (V1 m) hT (W1 m hT)) (reg0 (V1 m) hT (W1 m hT)) (reg1 (V1 m) hT (W1 m hT)))
    (fun c Q => by
      rewrite [main_chain c, Seg.run_eq_chain,
        show (segs m (outs m hT) Variants.none L lv (fun _ => Rst) () (pdats (V1 m) hT (W1 m hT)) (reg0 (V1 m) hT (W1 m hT)) (reg1 (V1 m) hT (W1 m hT)) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide)
    (fun _ => 0) (fun g hg => by unfold L; exact if_neg hg) (fun _ => (BI.emp : sProp 𝕄))
    (initOf (Pipeline.cells cfgs cellOf_inj) (Pipeline.launchToks cfgs cellOf_inj)) ?_
    (T₀ := fun c => iprop(StableHlo.held (c : Thread nD τ) (Pipeline.ucRefs τ sig) (V0 m c) ∗ Rst c))
    (Tₙ := fun c => StableHlo.held (c : Thread nD τ) (Pipeline.ucRefs τ sig) (V4 m (outs m hT) c))
    (hch := fun c => ⟨.rfl, pre0 m hT c, post0 m hT c, pre1 m hT c, (post1 m hT c).trans (sep_mono .rfl ?_)⟩)
    (hinit := ?_)
    (QY := fun c s => ∀ b : Ref sig .tc, ¬ (Proc.devRef (τ := τ) .tc b).isScoped → s.mem ((c.tc : Thread nD τ).loc b) = V4 m (outs m hT) c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (EP (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · iintro ⟨H, -, -⟩; iexact H
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (V4 m (outs m hT) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, hb⟩)
    · iexact HSI

end Cert.KernelIdeal.Scan
-- ==== Proof.Frame.lean ====
module

public import proofs.«01_k».proof.Proof.Run
public import proofs.«01_k».proof.Proof.Words

@[expose] public section

set_option maxRecDepth 16384

/-! The frame: the run leaves every argument as it was and every counter at zero. -/

noncomputable section

namespace Cert.KernelIdeal.Scan

open Cert.KernelIdeal Cert.KernelIdeal.Gen
open Idealize.ShloMosaic
open Idealize.ShloMosaic.TcCoe Idealize.SL.Sem

variable {F : FTy → Type} [FloatOps F] [Named F]

/-- An entry of a vector of 200. -/
abbrev ix1 (r : Fin 200) : S200.Idx := (fun | 0 => r)

/-- The word of an event is the entry of the vector at that event. -/
theorem word_eq (X : S200.Idx → Elt F .i32) (r : Fin 200) : word X r = X (ix1 r) := by
  unfold word
  exact congrArg X (funext fun a => Fin.ext (by
    obtain rfl : a = 0 := Subsingleton.elim _ _
    show r.val + ((Shape.Idx.first (numel1_S1.symm ▸ Nat.one_pos) : S1.Idx) 0).val * 1 = r.val
    have : ((Shape.Idx.first (numel1_S1.symm ▸ Nat.one_pos) : S1.Idx) 0).val < 1 := (Shape.Idx.first _ 0).2
    omega))

/-- Tables whose words are below the sizes of the tables are in order. -/
theorem ok_of (T : Tabs F) (hu : ∀ i, (T.u i).toNat < 10000) (hv : ∀ i, (T.v i).toNat < 10000) (he : ∀ i, (T.e i).toNat < 2) : T.Ok := fun r =>
  ⟨Words.chk1_of _ (by rw [word_eq]; exact hu _), Words.chk2_of _ (by rw [word_eq]; exact hv _), Words.chk3_of _ (by rw [word_eq]; exact he _)⟩

variable (m : (ℓ : Loc nD τ sig) → Buf (Elt F) ℓ)

/-- The three index arrays name rows of the tables. -/
def InRange : Prop := ∀ c : Dev nD, (∀ i, (m ((c.tc : Thread nD τ).loc main_arg0) i : BitVec 32).toNat < 10000)
  ∧ (∀ i, (m ((c.tc : Thread nD τ).loc main_arg1) i : BitVec 32).toNat < 10000) ∧ ∀ i, (m ((c.tc : Thread nD τ).loc main_arg3) i : BitVec 32).toNat < 2

/-- The words the scan reads are in order when the index arrays are. -/
theorem tabs_ok (h : InRange m) (c : Dev nD) : (tabs (V1 m c)).Ok := by
  refine ok_of _ (fun i => ?_) (fun i => ?_) (fun i => ?_)
  · rw [show (tabs (V1 m c)).u = m ((c.tc : Thread nD τ).loc main_arg0) from V1_of m c main_arg0 (by decide)]; exact (h c).1 i
  · rw [show (tabs (V1 m c)).v = m ((c.tc : Thread nD τ).loc main_arg1) from V1_of m c main_arg1 (by decide)]; exact (h c).2.1 i
  · rw [show (tabs (V1 m c)).e = m ((c.tc : Thread nD τ).loc main_arg3) from V1_of m c main_arg3 (by decide)]; exact (h c).2.2 i

/-- THE FRAME: from index arrays in range, every execution ends with each argument as it was and every counter zero. -/
theorem frame (ρ : Dev nD → PrngReg) (h : InRange m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) ∧ r.2.sem = fun _ => 0) :=
  (θ_run defs _ _).mono (fun _ h => ⟨fun c => ⟨(h.1 c main_arg0 (by decide)).trans (V4_main_arg0 m _ c),
    (h.1 c main_arg1 (by decide)).trans (V4_main_arg1 m _ c),
    (h.1 c main_arg2 (by decide)).trans (V4_main_arg2 m _ c),
    (h.1 c main_arg3 (by decide)).trans (V4_main_arg3 m _ c),
    (h.1 c main_arg4 (by decide)).trans (V4_main_arg4 m _ c),
    (h.1 c main_arg5 (by decide)).trans (V4_main_arg5 m _ c),
    (h.1 c main_arg6 (by decide)).trans (V4_main_arg6 m _ c),
    (h.1 c main_arg7 (by decide)).trans (V4_main_arg7 m _ c),
    (h.1 c main_arg8 (by decide)).trans (V4_main_arg8 m _ c),
    (h.1 c main_arg9 (by decide)).trans (V4_main_arg9 m _ c),
    (h.1 c main_arg10 (by decide)).trans (V4_main_arg10 m _ c),
    (h.1 c main_arg11 (by decide)).trans (V4_main_arg11 m _ c),
    (h.1 c main_arg12 (by decide)).trans (V4_main_arg12 m _ c),
    (h.1 c main_arg13 (by decide)).trans (V4_main_arg13 m _ c),
    (h.1 c main_arg14 (by decide)).trans (V4_main_arg14 m _ c),
    (h.1 c main_arg15 (by decide)).trans (V4_main_arg15 m _ c),
    (h.1 c main_arg16 (by decide)).trans (V4_main_arg16 m _ c),
    (h.1 c main_arg17 (by decide)).trans (V4_main_arg17 m _ c)⟩, h.2⟩) (run_main m (tabs_ok m h) ρ)

end Cert.KernelIdeal.Scan
-- ==== Proof.Spec.lean ====
module

public import Idealize.ShloMosaic.PureOps.Ideal
public import Idealize.ShloMosaic.PureOps.Ideal.Laws
public import Idealize.ShloMosaic.Lib.Pointwise

@[expose] public section

/-! The values both programs compute, over plain index sets: the node states after each event, and the intensities. -/

noncomputable section

namespace Cert.Spec

open Idealize.ShloMosaic

/-- The arguments, as numbers: `nd r s` is event `r`'s node on side `s`. -/
structure Args where
  nd : Fin 200 → Fin 2 → Fin 10000
  ty : Fin 200 → Fin 2
  td : Fin 200 → Fin 2 → Fin 4 → EReal
  tb : Fin 200 → Fin 10000 → EReal
  t : Fin 200 → EReal
  z0 : Fin 10000 → Fin 256 → EReal
  wa : Fin 2 → Fin 256 → EReal
  wb : Fin 2 → Fin 256 → EReal
  ob : Fin 2 → EReal
  w : Fin 2 → EReal
  al : Fin 2 → EReal
  ps : Fin 2 → EReal
  Ws : Fin 256 → Fin 256 → EReal
  bs : Fin 256 → EReal
  Wr : Fin 256 → Fin 256 → EReal
  br : Fin 256 → EReal
  Wt : Fin 256 → Fin 4 → EReal
  bt : Fin 256 → EReal
  sd : Fin 4 → EReal

variable (A : Args)

/-- The new state of a node: of the other node's state, its own state and its time differences. -/
def gate (zs zr : Fin 256 → EReal) (τ : Fin 4 → EReal) (h : Fin 256) : EReal :=
  Ideal.logistic (∑ x, zs x * A.Ws h x + ∑ x, zr x * A.Wr h x + ∑ k, τ k * Ideal.div (A.Wt h k) (A.sd k) + (A.bs h + A.br h + A.bt h))

/-- The two new states of event `r` from the states `Z`. -/
def hid (r : Fin 200) (Z : Fin 10000 → Fin 256 → EReal) (s : Fin 2) : Fin 256 → EReal :=
  gate A (Z (A.nd r (1 - s))) (Z (A.nd r s)) (A.td r s)

/-- Event `r`'s change of the node states: the first node's row, then the second's. -/
def next (r : Fin 200) (Z : Fin 10000 → Fin 256 → EReal) : Fin 10000 → Fin 256 → EReal := fun i =>
  if i = A.nd r 1 then hid A r Z 1 else if i = A.nd r 0 then hid A r Z 0 else Z i

/-- The node states before event `n`. -/
def zAt : ℕ → Fin 10000 → Fin 256 → EReal
  | 0 => A.z0
  | n + 1 => if h : n < 200 then next A ⟨n, h⟩ (zAt n) else zAt n

/-- The embedding after an event is the step of the embedding before it. -/
theorem zAt_succ (r : Fin 200) : zAt A (r.val + 1) = next A r (zAt A r.val) := dif_pos r.2

/-- Node `i`'s own score for type `e`. -/
def score (e : Fin 2) (z : Fin 256 → EReal) : EReal := ∑ x, A.wb e x * z x

/-- The intensity of event `r` from its side `s` towards node `i`, as the kernel computes it: the score, the decay in the
    exponent, and the quotient as a product. -/
def lamK (r : Fin 200) (s : Fin 2) (i : Fin 10000) : EReal :=
  A.ps (A.ty r) * Ideal.log1p (Ideal.exp (min (Ideal.ofBits .f32 0x42960000#32) (max (Ideal.ofBits .f32 0xC2960000#32)
    ((∑ x, zAt A r.val (A.nd r s) x * A.wa (A.ty r) x + (score A (A.ty r) (zAt A r.val i) + A.ob (A.ty r))
      + Ideal.exp (A.w (A.ty r) * ((100⁻¹ : ℝ) : EReal) * max (A.tb r (A.nd r s)) (A.tb r i)
          + (Ideal.log (A.al (A.ty r)) - A.w (A.ty r) * ((100⁻¹ : ℝ) : EReal) * A.t r)))
     * Ideal.div 1 (A.ps (A.ty r) + Ideal.ofBits .f32 0x33D6BF95#32)))))

/-- The arguments of the statement, from the programs' argument arrays. -/
def ofArrays (a0 a1 : (⟨1, ![200]⟩ : Shape).Idx → BitVec 32) (a2 : (⟨3, ![200, 2, 4]⟩ : Shape).Idx → EReal) (a3 : (⟨1, ![200]⟩ : Shape).Idx → BitVec 32)
    (a4 : (⟨3, ![200, 10000, 1]⟩ : Shape).Idx → EReal) (a5 : (⟨1, ![200]⟩ : Shape).Idx → EReal) (a6 : (⟨2, ![10000, 256]⟩ : Shape).Idx → EReal)
    (a7 : (⟨3, ![2, 1, 512]⟩ : Shape).Idx → EReal) (a8 : (⟨2, ![2, 1]⟩ : Shape).Idx → EReal) (a9 a10 a11 : (⟨1, ![2]⟩ : Shape).Idx → EReal)
    (a12 : (⟨2, ![256, 256]⟩ : Shape).Idx → EReal) (a13 : (⟨1, ![256]⟩ : Shape).Idx → EReal) (a14 : (⟨2, ![256, 256]⟩ : Shape).Idx → EReal)
    (a15 : (⟨1, ![256]⟩ : Shape).Idx → EReal) (a16 : (⟨2, ![256, 4]⟩ : Shape).Idx → EReal) (a17 : (⟨1, ![256]⟩ : Shape).Idx → EReal)
    (h0 : ∀ i, (a0 i).toNat < 10000) (h1 : ∀ i, (a1 i).toNat < 10000) (h3 : ∀ i, (a3 i).toNat < 2) : Args where
  nd r s := if s = 0 then ⟨(a0 (ix1 r)).toNat, h0 _⟩ else ⟨(a1 (ix1 r)).toNat, h1 _⟩
  ty r := ⟨(a3 (ix1 r)).toNat, h3 _⟩
  td r s k := a2 (ix3 r s k)
  tb r i := a4 (ix3 r i 0)
  t r := a5 (ix1 r)
  z0 i h := a6 (ix2 i h)
  wa e h := a7 (ix3 e 0 (⟨h.val, by omega⟩ : Fin 512))
  wb e h := a7 (ix3 e 0 (⟨256 + h.val, by omega⟩ : Fin 512))
  ob e := a8 (ix2 e 0)
  w e := a9 (ix1 e)
  al e := a10 (ix1 e)
  ps e := a11 (ix1 e)
  Ws h x := a12 (ix2 h x)
  bs h := a13 (ix1 h)
  Wr h x := a14 (ix2 h x)
  br h := a15 (ix1 h)
  Wt h k := a16 (ix2 h k)
  bt h := a17 (ix1 h)
  sd k := Ideal.ofBits .f32 (![0x42480000#32, 0x40E00000#32, 0x41700000#32, 0x41700000#32] k)

end Cert.Spec
-- ==== Proof.Algebra.lean ====
module

public import proofs.«01_k».proof.Proof.Spec
public import Idealize.ShloMosaic.Lib.IdealHost

@[expose] public section

/-! The reference's forms of the new states and of the intensities, and their equality with the kernel's. -/

noncomputable section

namespace Cert.Spec

open Idealize.ShloMosaic

/-- The bit pattern of one hundred. -/
theorem bits_100 : Ideal.ofBits .f32 0x42C80000#32 = ((100 : ℝ) : EReal) := by
  simp [Ideal.ofBits, Ideal.ieee, -EReal.coe_mul]
  norm_num

/-- The bit pattern of fifty reads as fifty. -/
theorem bits_50 : Ideal.ofBits .f32 0x42480000#32 = ((50 : ℝ) : EReal) := by
  simp [Ideal.ofBits, Ideal.ieee, -EReal.coe_mul]
  norm_num

/-- The bit pattern of seven reads as seven. -/
theorem bits_7 : Ideal.ofBits .f32 0x40E00000#32 = ((7 : ℝ) : EReal) := by
  simp [Ideal.ofBits, Ideal.ieee, -EReal.coe_mul]
  norm_num

/-- The bit pattern of fifteen reads as fifteen. -/
theorem bits_15 : Ideal.ofBits .f32 0x41700000#32 = ((15 : ℝ) : EReal) := by
  simp [Ideal.ofBits, Ideal.ieee, -EReal.coe_mul]
  norm_num

/-- No spread of the time differences is zero. -/
theorem sd_ne (k : Fin 4) : Ideal.ofBits .f32 ((![0x42480000#32, 0x40E00000#32, 0x41700000#32, 0x41700000#32] : Fin 4 → BitVec 32) k) ≠ 0 := by
  fin_cases k
  · show Ideal.ofBits .f32 0x42480000#32 ≠ 0
    rw [bits_50]; norm_num
  · show Ideal.ofBits .f32 0x40E00000#32 ≠ 0
    rw [bits_7]; norm_num
  · show Ideal.ofBits .f32 0x41700000#32 ≠ 0
    rw [bits_15]; norm_num
  · show Ideal.ofBits .f32 0x41700000#32 ≠ 0
    rw [bits_15]; norm_num

/-- A quotient times a factor: the divisor may go to the factor. -/
theorem div_mul (x y s : EReal) (hs : s ≠ 0) : Ideal.div x s * y = x * Ideal.div y s := by
  unfold Ideal.div
  rw [if_neg hs, if_neg hs, mul_assoc, mul_comm s⁻¹ y]

/-- The new state of a node as the reference writes it. -/
def gateR (A : Args) (zs zr : Fin 256 → EReal) (τ : Fin 4 → EReal) (h : Fin 256) : EReal :=
  Ideal.div 1 (1 + Ideal.exp (-(∑ x, zs x * A.Ws h x + A.bs h + ∑ x, zr x * A.Wr h x + A.br h + ∑ k, Ideal.div (τ k) (A.sd k) * A.Wt h k + A.bt h)))

/-- The hidden row as the reference writes it is the hidden row as the kernel writes it, when no scale is zero. -/
theorem gateR_eq (A : Args) (hs : ∀ k, A.sd k ≠ 0) (zs zr : Fin 256 → EReal) (τ : Fin 4 → EReal) (h : Fin 256) : gateR A zs zr τ h = gate A zs zr τ h := by
  unfold gateR gate Ideal.logistic
  rw [Finset.sum_congr rfl fun k _ => div_mul (τ k) (A.Wt h k) (A.sd k) (hs k)]
  congr 4
  abel

/-- The decay as a factor is the decay in the exponent, at a real last time. -/
theorem decay_real (a w t M : EReal) (ha : 0 ≤ a) (hw : ∃ r : ℝ, w = r) (ht : ∃ r : ℝ, t = r) (hM : ∃ r : ℝ, M = r) :
    Ideal.exp (w * ((100⁻¹ : ℝ) : EReal) * M + (Ideal.log a - w * ((100⁻¹ : ℝ) : EReal) * t))
      = a * Ideal.exp (-w * Ideal.div (t - M) (Ideal.ofBits .f32 0x42C80000#32)) := by
  obtain ⟨w, rfl⟩ := hw
  obtain ⟨t, rfl⟩ := ht
  obtain ⟨M, rfl⟩ := hM
  have hd : Ideal.div ((t : EReal) - M) (Ideal.ofBits .f32 0x42C80000#32) = (((t - M) * 100⁻¹ : ℝ) : EReal) := by
    rw [bits_100]
    unfold Ideal.div
    rw [if_neg (by norm_num), ← EReal.coe_inv, ← EReal.coe_sub, ← EReal.coe_mul]
  have he : Ideal.exp (-(w : EReal) * (((t - M) * 100⁻¹ : ℝ) : EReal)) = ((Real.exp (-w * ((t - M) * 100⁻¹)) : ℝ) : EReal) := by
    rw [← EReal.coe_neg, ← EReal.coe_mul]; rfl
  rw [hd, he, ← EReal.coe_mul, ← EReal.coe_mul, ← EReal.coe_mul]
  induction a with
  | bot => exact absurd ha (by simp)
  | top =>
    rw [EReal.top_mul_coe_of_pos (Real.exp_pos _)]
    show Ideal.exp (_ + (⊤ - _)) = ⊤
    rw [EReal.top_sub_coe, EReal.coe_add_top]
    rfl
  | coe a =>
    have ha' : 0 ≤ a := by exact_mod_cast ha
    show Ideal.exp (_ + ((if a ≤ 0 then ⊥ else (Real.log a : EReal)) - _)) = _
    by_cases h0 : a ≤ 0
    · have : a = 0 := le_antisymm h0 ha'
      subst this
      rw [if_pos le_rfl, EReal.bot_sub, EReal.add_bot, EReal.coe_zero, zero_mul]
      rfl
    · rw [if_neg h0, ← EReal.coe_sub, ← EReal.coe_add]
      show ((Real.exp _ : ℝ) : EReal) = _
      rw [← EReal.coe_mul]
      congr 1
      rw [show w * 100⁻¹ * M + (Real.log a - w * 100⁻¹ * t) = Real.log a + -w * ((t - M) * 100⁻¹) by ring, Real.exp_add, Real.exp_log (lt_of_not_ge h0)]

/-- The exponential undoes the logarithm of what is not negative. -/
theorem exp_log (a : EReal) (ha : 0 ≤ a) : Ideal.exp (Ideal.log a) = a := by
  induction a with
  | bot => exact absurd ha (by simp)
  | top => rfl
  | coe a =>
    have ha' : 0 ≤ a := by exact_mod_cast ha
    show Ideal.exp (if a ≤ 0 then ⊥ else (Real.log a : EReal)) = _
    by_cases h0 : a ≤ 0
    · rw [if_pos h0, le_antisymm h0 ha']; rfl
    · rw [if_neg h0]
      show ((Real.exp (Real.log a) : ℝ) : EReal) = _
      rw [Real.exp_log (lt_of_not_ge h0)]

/-- Where the exponent is infinite the product is infinite, or zero when the scale is. -/
theorem grow (a : EReal) (ha : 0 ≤ a) (r : ℝ) : Ideal.exp (⊤ + (Ideal.log a - (r : EReal))) = a * ⊤ := by
  induction a with
  | bot => exact absurd ha (by simp)
  | top =>
    show Ideal.exp (⊤ + (⊤ - (r : EReal))) = _
    rw [EReal.top_sub_coe, EReal.top_add_top, EReal.top_mul_top]; rfl
  | coe a =>
    have ha' : 0 ≤ a := by exact_mod_cast ha
    show Ideal.exp (⊤ + ((if a ≤ 0 then ⊥ else (Real.log a : EReal)) - (r : EReal))) = _
    by_cases h0 : a ≤ 0
    · rw [if_pos h0, EReal.bot_sub, EReal.add_bot, le_antisymm h0 ha', EReal.coe_zero, zero_mul]; rfl
    · rw [if_neg h0, ← EReal.coe_sub, EReal.top_add_coe, EReal.coe_mul_top_of_pos (lt_of_not_ge h0)]; rfl

/-- The decay as a factor is the decay in the exponent, at any last time. -/
theorem decay (a w t M : EReal) (ha : 0 ≤ a) (hw : ∃ r : ℝ, w = r) (ht : ∃ r : ℝ, t = r) :
    Ideal.exp (w * ((100⁻¹ : ℝ) : EReal) * M + (Ideal.log a - w * ((100⁻¹ : ℝ) : EReal) * t))
      = a * Ideal.exp (-w * Ideal.div (t - M) (Ideal.ofBits .f32 0x42C80000#32)) := by
  by_cases hM : ∃ r : ℝ, M = r
  · exact decay_real a w t M ha hw ht hM
  obtain ⟨w, rfl⟩ := hw
  obtain ⟨t, rfl⟩ := ht
  have h100 : (0 : ℝ) < 100⁻¹ := by norm_num
  have hd : ∀ x : EReal, Ideal.div x (Ideal.ofBits .f32 0x42C80000#32) = x * ((100⁻¹ : ℝ) : EReal) := fun x => by
    rw [bits_100]
    unfold Ideal.div
    rw [if_neg (by norm_num), ← EReal.coe_inv]
  rw [hd]
  rcases lt_trichotomy w 0 with h | h | h
  · have hn : w * 100⁻¹ < 0 := mul_neg_of_neg_of_pos h h100
    induction M with
    | coe M => exact absurd ⟨M, rfl⟩ hM
    | top =>
      rw [sub_eq_add_neg (t : EReal), EReal.neg_top, EReal.add_bot, EReal.bot_mul_coe_of_pos h100, ← EReal.coe_neg, EReal.coe_mul_bot_of_pos (neg_pos.2 h),
        ← EReal.coe_mul, EReal.coe_mul_top_of_neg hn, EReal.bot_add]
      exact (mul_zero a).symm
    | bot =>
      rw [EReal.coe_sub_bot, EReal.top_mul_coe_of_pos h100, ← EReal.coe_neg, EReal.coe_mul_top_of_pos (neg_pos.2 h),
        ← EReal.coe_mul, EReal.coe_mul_bot_of_neg hn, ← EReal.coe_mul]
      exact grow a ha _
  · subst h
    rw [EReal.coe_zero, zero_mul, zero_mul, zero_mul, neg_zero, zero_mul, zero_add, sub_zero, exp_log a ha]
    show a = a * ((Real.exp 0 : ℝ) : EReal)
    rw [Real.exp_zero, EReal.coe_one, mul_one]
  · have hp : 0 < w * 100⁻¹ := mul_pos h h100
    induction M with
    | coe M => exact absurd ⟨M, rfl⟩ hM
    | top =>
      rw [sub_eq_add_neg (t : EReal), EReal.neg_top, EReal.add_bot, EReal.bot_mul_coe_of_pos h100, ← EReal.coe_neg, EReal.coe_mul_bot_of_neg (neg_neg_of_pos h),
        ← EReal.coe_mul, EReal.coe_mul_top_of_pos hp, ← EReal.coe_mul]
      exact grow a ha _
    | bot =>
      rw [EReal.coe_sub_bot, EReal.top_mul_coe_of_pos h100, ← EReal.coe_neg, EReal.coe_mul_top_of_neg (neg_neg_of_pos h),
        ← EReal.coe_mul, EReal.coe_mul_bot_of_pos hp, EReal.bot_add]
      exact (mul_zero a).symm

/-- The intensity's argument before the clamp, as the reference writes it, from the states `Z`. -/
def gR (A : Args) (r : Fin 200) (Z : Fin 10000 → Fin 256 → EReal) (s : Fin 2) (i : Fin 10000) : EReal :=
  (∑ x, Z (A.nd r s) x * A.wa (A.ty r) x + ∑ x, Z i x * A.wb (A.ty r) x) + A.ob (A.ty r)
    + A.al (A.ty r) * Ideal.exp (-A.w (A.ty r) * Ideal.div (A.t r - max (A.tb r (A.nd r s)) (A.tb r i)) (Ideal.ofBits .f32 0x42C80000#32))

/-- The intensity as the reference writes it, from the states `Z`. -/
def lamR (A : Args) (r : Fin 200) (Z : Fin 10000 → Fin 256 → EReal) (s : Fin 2) (i : Fin 10000) : EReal :=
  A.ps (A.ty r) * Ideal.log1p (Ideal.exp (min (Ideal.ofBits .f32 0x42960000#32) (max (Ideal.ofBits .f32 0xC2960000#32)
    (Ideal.div (gR A r Z s i) (A.ps (A.ty r) + Ideal.ofBits .f32 0x33D6BF95#32)))))

/-- What the rates and times must be for the two forms of the intensity to agree. -/
structure Fine (A : Args) : Prop where
  t : ∀ r, ∃ x : ℝ, A.t r = x
  w : ∀ e, ∃ x : ℝ, A.w e = x
  al : ∀ e, 0 ≤ A.al e
  ps : ∀ e, A.ps e + Ideal.ofBits .f32 0x33D6BF95#32 ≠ 0

/-- The reference's intensity is the kernel's intensity, on fine arguments. -/
theorem lamR_eq (A : Args) (F : Fine A) (r : Fin 200) (s : Fin 2) (i : Fin 10000) : lamR A r (zAt A r.val) s i = lamK A r s i := by
  have hg : gR A r (zAt A r.val) s i = ∑ x, zAt A r.val (A.nd r s) x * A.wa (A.ty r) x + (score A (A.ty r) (zAt A r.val i) + A.ob (A.ty r))
      + Ideal.exp (A.w (A.ty r) * ((100⁻¹ : ℝ) : EReal) * max (A.tb r (A.nd r s)) (A.tb r i)
          + (Ideal.log (A.al (A.ty r)) - A.w (A.ty r) * ((100⁻¹ : ℝ) : EReal) * A.t r)) := by
    rw [decay _ _ _ _ (F.al _) (F.w _) (F.t _)]
    unfold gR score
    rw [add_assoc (∑ x, zAt A r.val (A.nd r s) x * A.wa (A.ty r) x), Finset.sum_congr rfl fun x _ => mul_comm (zAt A r.val i x) (A.wb (A.ty r) x)]
  unfold lamR lamK
  rw [hg]
  unfold Ideal.div
  rw [if_neg (F.ps _), if_neg (F.ps _), one_mul]

end Cert.Spec
-- ==== Proof.Rates.lean ====
module

public import proofs.«01_k».proof.Defs
public import proofs.«01_k».proof.Proof.Words
public import proofs.«01_k».proof.Proof.Algebra

@[expose] public section

set_option maxRecDepth 16384

/-! The precondition of the value claim, decoded at each entry. -/

noncomputable section

namespace Cert.Pre_indices_and_rates

open Idealize.ShloMosaic

/-- The shape facts the precondition's function takes. -/
instance shapes : Cert.Pre_indices_and_rates.Facts where
  bcast_S_S200 := by decide
  bcast_S_S2 := by decide

end Cert.Pre_indices_and_rates

namespace Cert.Words

open Idealize.ShloMosaic

/-- What the second precondition says of the three index arrays. -/
theorem rates_of {F : FTy → Type} [FloatOps F] {a0 a1 a2 a3 a4 a5 a6 a7 a8 a9 a10 a11 a12 a13 a14 a15 a16 a17}
    (h : (Cert.Pre_indices_and_rates.fn (F := F) a0 a1 a2 a3 a4 a5 a6 a7 a8 a9 a10 a11 a12 a13 a14 a15 a16 a17).1 = (fun _ => 1#1)
      ∧ (Cert.Pre_indices_and_rates.fn (F := F) a0 a1 a2 a3 a4 a5 a6 a7 a8 a9 a10 a11 a12 a13 a14 a15 a16 a17).2.1 = (fun _ => 1#1)
      ∧ (Cert.Pre_indices_and_rates.fn (F := F) a0 a1 a2 a3 a4 a5 a6 a7 a8 a9 a10 a11 a12 a13 a14 a15 a16 a17).2.2.1 = (fun _ => 1#1)) :
    (∀ i, (a0 i).toNat < 10000) ∧ (∀ i, (a1 i).toNat < 10000) ∧ ∀ i, (a3 i).toNat < 2 :=
  ⟨fun i => below _ 10000 (by norm_num) (congrFun h.1 i), fun i => below _ 10000 (by norm_num) (congrFun h.2.1 i), fun i => below _ 2 (by norm_num) (congrFun h.2.2 i)⟩

/-- A value whose size is below infinity is a real number. -/
theorem real_of (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have h' : max x (-x) < ⊤ := of_decide_eq_true ((ofBool_eq_one _).1 h)
  induction x with
  | bot => simp at h'
  | top => simp at h'
  | coe r => exact ⟨r, rfl⟩

/-- What the second precondition says of the times and rates, over the extended reals. -/
theorem fine_of {a0 a1 a2 a3 a4 a5 a6 a7 a8 a9 a10 a11 a12 a13 a14 a15 a16 a17}
    (h : (Cert.Pre_indices_and_rates.fn (F := Ideal) a0 a1 a2 a3 a4 a5 a6 a7 a8 a9 a10 a11 a12 a13 a14 a15 a16 a17).2.2.2.1 = (fun _ => 1#1)
      ∧ (Cert.Pre_indices_and_rates.fn (F := Ideal) a0 a1 a2 a3 a4 a5 a6 a7 a8 a9 a10 a11 a12 a13 a14 a15 a16 a17).2.2.2.2.1 = (fun _ => 1#1)
      ∧ (Cert.Pre_indices_and_rates.fn (F := Ideal) a0 a1 a2 a3 a4 a5 a6 a7 a8 a9 a10 a11 a12 a13 a14 a15 a16 a17).2.2.2.2.2.1 = (fun _ => 1#1)
      ∧ (Cert.Pre_indices_and_rates.fn (F := Ideal) a0 a1 a2 a3 a4 a5 a6 a7 a8 a9 a10 a11 a12 a13 a14 a15 a16 a17).2.2.2.2.2.2 = (fun _ => 1#1)) :
    (∀ i, ∃ r : ℝ, a5 i = (r : EReal)) ∧ (∀ i, ∃ r : ℝ, a9 i = (r : EReal)) ∧ (∀ i, (0 : EReal) ≤ a10 i)
      ∧ ∀ i, (a11 i : EReal) + Ideal.ofBits .f32 0x33D6BF95#32 ≠ 0 := by
  obtain ⟨h5, h9, h10, h11⟩ := h
  refine ⟨fun i => real_of _ (congrFun h5 i), fun i => real_of _ (congrFun h9 i), fun i => ?_, fun i => ?_⟩
  · have e : Ideal.cmp .oge (a10 i) (Ideal.ofBits .f32 0x00000000#32) = 1#1 := congrFun h10 i
    rw [Ideal.ofBits_zero_f32] at e
    exact of_decide_eq_true ((ofBool_eq_one _).1 e)
  · have e : Ideal.cmp .une (a11 i + Ideal.ofBits .f32 0x33D6BF95#32) (Ideal.ofBits .f32 0x00000000#32) = 1#1 := congrFun h11 i
    rw [Ideal.ofBits_zero_f32] at e
    exact of_decide_eq_true ((ofBool_eq_one _).1 e)

end Cert.Words
-- ==== Proof.ScanPay.lean ====
module

public import proofs.«01_k».proof.Proof.Frame
public import proofs.«01_k».proof.Proof.Spec
public import Idealize.ShloMosaic.Lib.Pointwise

@[expose] public section

set_option maxRecDepth 16384

/-! The scan's carried state, element by element: the node states are those of the statement, and the score table holds
    every node's own score. -/

noncomputable section

namespace Cert.KernelIdeal.Scan

open Cert.KernelIdeal Cert.KernelIdeal.Gen Cert.Spec
open Idealize.ShloMosaic

/-- The operands of the scan, read as the arguments `A`. -/
structure Reads (T : Tabs Ideal) (Z₀ : S10000x256.Idx → EReal) (A : Args) : Prop where
  u : ∀ r, (word T.u r).toNat = (A.nd r 0).val
  v : ∀ r, (word T.v r).toNat = (A.nd r 1).val
  e : ∀ r, (word T.e r).toNat = (A.ty r).val
  td : ∀ (r : Fin 200) (s : Fin 2) (k : Fin 4), T.td (ix2 r (⟨4 * s.val + k.val, by omega⟩ : Fin 8)) = A.td r s k
  z0 : ∀ i h, Z₀ (ix2 i h) = A.z0 i h
  wa : ∀ e h, T.wa (ix2 e h) = A.wa e h
  wb : ∀ e h, T.wb (ix2 e h) = A.wb e h
  w8 : ∀ x h, T.w8 (ix2 x h) = A.Ws h x
  w9 : ∀ x h, T.w9 (ix2 x h) = A.Wr h x
  w10 : ∀ k h, T.w10 (ix2 k h) = Ideal.div (A.Wt h k) (A.sd k)
  w11 : ∀ h, T.w11 (ix2 0 h) = A.bs h + A.br h + A.bt h

/-- A load of one whole row. -/
theorem ld_row {m n : ℕ} {α : EltTy} (X : (⟨2, ![m, n]⟩ : Shape).Idx → Elt Ideal α) (o : Fin 2 → ℕ) (k : Fin m) (e : o = ![k.val, 0])
    (hi : ∀ a, o a + (⟨2, ![1, n]⟩ : Shape).size a ≤ (⟨2, ![m, n]⟩ : Shape).size a) (x : Fin n) :
    View.ld X (Rect.unit (s := ⟨2, ![m, n]⟩) o (⟨2, ![1, n]⟩ : Shape).size hi) (ix2 (0 : Fin 1) x) = X (ix2 k x) := by
  subst e
  refine congrArg X (funext fun a => Fin.ext ?_)
  revert a
  refine Fin.forall_fin_two.mpr ⟨?_, ?_⟩
  · show k.val + 0 * 1 = k.val; omega
  · show 0 + 1 * x.val = x.val; omega

/-- A load of a whole matrix. -/
theorem ld_all {m n : ℕ} {α : EltTy} (X : (⟨2, ![m, n]⟩ : Shape).Idx → Elt Ideal α)
    (hi : ∀ a, (![0, 0] : Fin 2 → ℕ) a + (⟨2, ![m, n]⟩ : Shape).size a ≤ (⟨2, ![m, n]⟩ : Shape).size a) :
    View.ld X (Rect.unit (s := ⟨2, ![m, n]⟩) ![0, 0] (⟨2, ![m, n]⟩ : Shape).size hi) = X :=
  View.ld_unit_zero (funext fun a => by revert a; exact Fin.forall_fin_two.mpr ⟨rfl, rfl⟩) hi X

/-- The two new rows of an event, entry by entry, before they are split. -/
theorem pay8_apply (a b : S1x256.Idx → EReal) (td : S2x4.Idx → EReal) (w8 w9 : S256x256.Idx → EReal) (w10 : S4x256.Idx → EReal) (w11 : S1x256.Idx → EReal) (e : Fin 2) (h : Fin 256) :
    k0_pay8 (F := Ideal) a b td w8 w9 w10 w11 (ix2 e h)
      = Ideal.logistic (∑ x, (if e.val < 1 then b (ix2 0 x) else a (ix2 0 x)) * w8 (ix2 x h)
        + ∑ x, (if e.val < 1 then a (ix2 0 x) else b (ix2 0 x)) * w9 (ix2 x h)
        + ∑ k, td (ix2 e k) * w10 (ix2 k h) + w11 (ix2 0 h)) := by
  pointwise [k0_pay8]
  fin_cases e <;> rfl

/-- The product of each side's row with a weight row, as a sum. -/
theorem pay6_apply (a b w : S1x256.Idx → EReal) (e : Fin 2) :
    k0_pay6 (F := Ideal) a b w (ix2 0 e) = ∑ x, (if e.val < 1 then a (ix2 0 x) else b (ix2 0 x)) * w (ix2 0 x) := by
  pointwise [k0_pay6, k0_pay4, k0_pay5]
  fin_cases e <;> rfl

/-- The eight time differences of an event, read as two rows of four. -/
theorem pay7_apply (a : S1x8.Idx → EReal) (e : Fin 2) (k : Fin 4) :
    k0_pay7 (F := Ideal) a (ix2 e k) = a (ix2 0 (⟨4 * e.val + k.val, by omega⟩ : Fin 8)) := by
  pointwise [k0_pay7]
  fin_cases e
  · exact congrArg a (congrArg (ix2 _) (Fin.ext (by show k.val = 4 * 0 + k.val; omega)))
  · rfl

/-- The new row of the first node is the first of the two rows. -/
theorem pay9_apply (a b : S1x256.Idx → EReal) (td : S2x4.Idx → EReal) (w8 w9 : S256x256.Idx → EReal) (w10 : S4x256.Idx → EReal) (w11 : S1x256.Idx → EReal) (h : Fin 256) :
    k0_pay9 (F := Ideal) a b td w8 w9 w10 w11 (ix2 0 h) = k0_pay8 (F := Ideal) a b td w8 w9 w10 w11 (ix2 0 h) := by
  pointwise [k0_pay9]

/-- The new row of the second node is the second of the two rows. -/
theorem pay10_apply (a b : S1x256.Idx → EReal) (td : S2x4.Idx → EReal) (w8 w9 : S256x256.Idx → EReal) (w10 : S4x256.Idx → EReal) (w11 : S1x256.Idx → EReal) (h : Fin 256) :
    k0_pay10 (F := Ideal) a b td w8 w9 w10 w11 (ix2 0 h) = k0_pay8 (F := Ideal) a b td w8 w9 w10 w11 (ix2 1 h) := by
  pointwise [k0_pay10]

/-- The scores of the first node's new row, as sums. -/
theorem pay11_apply (a b : S1x256.Idx → EReal) (td : S2x4.Idx → EReal) (w8 w9 : S256x256.Idx → EReal) (w10 : S4x256.Idx → EReal) (w11 : S1x256.Idx → EReal) (wb : S2x256.Idx → EReal) (e : Fin 2) :
    k0_pay11 (F := Ideal) a b td w8 w9 w10 w11 wb (ix2 e 0) = ∑ x, wb (ix2 e x) * k0_pay9 (F := Ideal) a b td w8 w9 w10 w11 (ix2 0 x) := by
  pointwise [k0_pay11]

/-- The scores of the second node's new row, as sums. -/
theorem pay12_apply (a b : S1x256.Idx → EReal) (td : S2x4.Idx → EReal) (w8 w9 : S256x256.Idx → EReal) (w10 : S4x256.Idx → EReal) (w11 : S1x256.Idx → EReal) (wb : S2x256.Idx → EReal) (e : Fin 2) :
    k0_pay12 (F := Ideal) a b td w8 w9 w10 w11 wb (ix2 e 0) = ∑ x, wb (ix2 e x) * k0_pay10 (F := Ideal) a b td w8 w9 w10 w11 (ix2 0 x) := by
  pointwise [k0_pay12]

/-- The first score table: the product of every weight row with every state row, as a sum. -/
theorem pay2_apply (w : S2x256.Idx → EReal) (z : S10000x256.Idx → EReal) (e : Fin 2) (n : Fin 10000) :
    k0_pay2 (F := Ideal) w z (ix2 e n) = ∑ k, w (ix2 e k) * z (ix2 n k) := by
  pointwise [k0_pay2]

/-- The lane test of a column refresh, as the program spells the remainder by 128. -/
def lane (w : BitVec 32) : BitVec 32 :=
  Scalar.select (Scalar.andi (Scalar.xori (Scalar.cmpi .slt (Scalar.remsi w (Scalar.select (Scalar.cmpi .eq 128#32 0#32) 1#32 128#32)) 0#32)
      (Scalar.cmpi .slt (Scalar.select (Scalar.cmpi .eq 128#32 0#32) 1#32 128#32) 0#32))
    (Scalar.cmpi .ne (Scalar.remsi w (Scalar.select (Scalar.cmpi .eq 128#32 0#32) 1#32 128#32)) 0#32))
    (Scalar.addi (Scalar.remsi w (Scalar.select (Scalar.cmpi .eq 128#32 0#32) 1#32 128#32)) (Scalar.select (Scalar.cmpi .eq 128#32 0#32) 1#32 128#32))
    (Scalar.remsi w (Scalar.select (Scalar.cmpi .eq 128#32 0#32) 1#32 128#32))

/-- The lane of a word is its remainder by 128, checked on all words in range. -/
theorem lane_all : ∀ q : Fin 79, ∀ r : Fin 128, lane (BitVec.ofNat 32 (128 * q.val + r.val)) = BitVec.ofNat 32 r.val := by decide +kernel

/-- The lane of a word in range is its remainder by 128. -/
theorem lane_eq (v : BitVec 32) (h : v.toNat < 10000) : lane v = BitVec.ofNat 32 (v.toNat % 128) := by
  have e := lane_all ⟨v.toNat / 128, by omega⟩ ⟨v.toNat % 128, by omega⟩
  have hv : BitVec.ofNat 32 (128 * (v.toNat / 128) + v.toNat % 128) = v := by
    rw [Nat.div_add_mod]; exact BitVec.eq_of_toNat_eq (by rw [BitVec.toNat_ofNat]; omega)
  simp only at e
  rwa [hv] at e

/-- Selecting by the lane test picks the first value exactly in the lane of the word. -/
theorem lane_sel {α : Type} (w : BitVec 32) (k : Fin 128) (hw : w.toNat < 10000) (p q : α) :
    Scalar.select (IntOp.cmpi .eq (BitVec.ofNat 32 k.val) (lane w)) p q = if k.val = w.toNat % 128 then p else q := by
  rw [lane_eq w hw]
  by_cases e : k.val = w.toNat % 128
  · rw [if_pos e, e]
    show (if IntOp.cmpi .eq (BitVec.ofNat 32 (w.toNat % 128)) (BitVec.ofNat 32 (w.toNat % 128)) = 1 then p else q) = p
    refine if_pos ?_
    show BitVec.ofBool (_ == _) = 1
    rw [beq_self_eq_true]; rfl
  · rw [if_neg e]
    refine if_neg ?_
    show ¬ BitVec.ofBool (_ == _) = 1
    have hne : ¬ (BitVec.ofNat 32 k.val = BitVec.ofNat 32 (w.toNat % 128)) := fun h => e (by
      have := congrArg BitVec.toNat h
      rw [BitVec.toNat_ofNat, BitVec.toNat_ofNat] at this
      have := k.2
      omega)
    rw [beq_eq_false_iff_ne.mpr hne]; decide

/-- Refreshing a block of the score table with the first node's scores changes its one lane only. -/
theorem pay13_apply (w : BitVec 32) (hw : w.toNat < 10000) (a : S2x1.Idx → EReal) (b : S2x128.Idx → EReal) (e : Fin 2) (k : Fin 128) :
    k0_pay13 (F := Ideal) w a (iota .tc S1x128 32 [1] iota_S1x128_d1_w32) b (ix2 e k)
      = if k.val = w.toNat % 128 then a (ix2 e 0) else b (ix2 e k) := by
  refine Eq.trans ?_ (lane_sel w k hw _ _)
  pointwise [k0_pay13, k0_pay1]
  rfl

/-- Refreshing a block of the score table with the second node's scores changes its one lane only. -/
theorem pay14_apply (w : BitVec 32) (hw : w.toNat < 10000) (a : S2x1.Idx → EReal) (b : S2x128.Idx → EReal) (e : Fin 2) (k : Fin 128) :
    k0_pay14 (F := Ideal) w a (iota .tc S1x128 32 [1] iota_S1x128_d1_w32) b (ix2 e k)
      = if k.val = w.toNat % 128 then a (ix2 e 0) else b (ix2 e k) := by
  refine Eq.trans ?_ (lane_sel w k hw _ _)
  pointwise [k0_pay14, k0_pay1]
  rfl

/-- Refreshing one column of the score table through its tile of 128 columns: that column, and the others as they were. -/
theorem refresh (S : S2x10240.Idx → Elt Ideal .f32) (w : BitVec 32) (hw : w.toNat < 10000) (a : Fin 2 → Elt Ideal .f32) (o : Fin 2 → ℕ) (ho : o = ![0, 128 * (w.toNat / 128)])
    (hi : ∀ x, o x + S2x128.size x ≤ S2x10240.size x) (P : S2x128.Idx → Elt Ideal .f32)
    (hP : ∀ e k, P (ix2 e k) = if k.val = w.toNat % 128 then a e else View.ld S (Rect.unit (s := S2x10240) o S2x128.size hi) (ix2 e k))
    (h : S2x10240.Slices o S2x128) (e : Fin 2) (i : Fin 10240) :
    updateSlice S P o h (ix2 e i) = if i.val = w.toNat then a e else S (ix2 e i) := by
  subst ho
  by_cases c : 128 * (w.toNat / 128) ≤ i.val ∧ i.val < 128 * (w.toNat / 128) + 128
  · have hin : ∀ x : Fin 2, (![0, 128 * (w.toNat / 128)] : Fin 2 → ℕ) x ≤ ((ix2 e i : S2x10240.Idx) x).val
        ∧ ((ix2 e i : S2x10240.Idx) x).val < (![0, 128 * (w.toNat / 128)] : Fin 2 → ℕ) x + S2x128.size x :=
      Fin.forall_fin_two.mpr ⟨⟨Nat.zero_le _, by show e.val < 0 + 2; omega⟩, ⟨c.1, c.2⟩⟩
    refine (dif_pos hin).trans ((congrArg P (?_ : _ = ix2 e (⟨i.val - 128 * (w.toNat / 128), by omega⟩ : Fin 128))).trans ((hP _ _).trans ?_))
    · refine funext fun x => Fin.ext ?_
      revert x
      exact Fin.forall_fin_two.mpr ⟨rfl, rfl⟩
    · by_cases d : i.val = w.toNat
      · rw [if_pos d]; exact if_pos (by show i.val - _ = _; omega)
      · rw [if_neg d]
        refine (if_neg (by show ¬ (i.val - _ = _); omega)).trans (congrArg S (funext fun x => Fin.ext ?_))
        revert x
        refine Fin.forall_fin_two.mpr ⟨?_, ?_⟩
        · show 0 + 1 * e.val = e.val; omega
        · show 128 * (w.toNat / 128) + 1 * (i.val - 128 * (w.toNat / 128)) = i.val; omega
  · rw [if_neg (by omega)]
    exact dif_neg fun hin => c (hin (1 : Fin 2))

end Cert.KernelIdeal.Scan
-- ==== Proof.ScanValue.lean ====
module

public import proofs.«01_k».proof.Proof.ScanPay

@[expose] public section

set_option maxRecDepth 16384

/-! The scan's carried state and its two result blocks, element by element, in the terms of the statement. -/

noncomputable section

namespace Cert.KernelIdeal.Scan

open Cert.KernelIdeal Cert.KernelIdeal.Gen Cert.Spec
open Idealize.ShloMosaic

variable {T : Tabs Ideal} (hT : T.Ok) {Z₀ : S10000x256.Idx → Elt Ideal .f32} {A : Args} (R : Reads T Z₀ A)

/-- The carried state is the statement's: `Z` node by node, and the score table every node's own score. -/
structure IsSt (A : Args) (σ : St Ideal) (Z : Fin 10000 → Fin 256 → EReal) : Prop where
  z : ∀ i h, σ.z (ix2 i h) = Z i h
  s : ∀ (e : Fin 2) (i : Fin 10240) (hi : i.val < 10000), σ.s (ix2 e i) = score A e (Z ⟨i.val, hi⟩)

include R in
/-- The first word of an event is in range. -/
theorem u_lt (r : Fin 200) : (word T.u r).toNat < 10000 := (R.u r).trans_lt (A.nd r 0).2
include R in
/-- The second word of an event is in range. -/
theorem v_lt (r : Fin 200) : (word T.v r).toNat < 10000 := (R.v r).trans_lt (A.nd r 1).2

include R in
/-- The row loaded for the first node is that node's embedding. -/
theorem rowU_apply {σ : St Ideal} {Z : Fin 10000 → Fin 256 → EReal} (hσ : IsSt A σ Z) (r : Fin 200) (x : Fin 256) : rowU T hT r σ (ix2 0 x) = Z (A.nd r 0) x := by
  refine (ld_row σ.z _ (A.nd r 0) ?_ _ x).trans (hσ.z _ _)
  rw [← R.u r]; rfl

include R in
/-- The row loaded for the second node is that node's embedding. -/
theorem rowV_apply {σ : St Ideal} {Z : Fin 10000 → Fin 256 → EReal} (hσ : IsSt A σ Z) (r : Fin 200) (x : Fin 256) : rowV T hT r σ (ix2 0 x) = Z (A.nd r 1) x := by
  refine (ld_row σ.z _ (A.nd r 1) ?_ _ x).trans (hσ.z _ _)
  rw [← R.v r]; rfl

include R in
/-- The time differences loaded for an event are those of the event. -/
theorem rowT_apply (r : Fin 200) (s : Fin 2) (k : Fin 4) : k0_pay7 (F := Ideal) (rowT T r) (ix2 s k) = A.td r s k := by
  rw [pay7_apply]
  exact (ld_row T.td _ r rfl _ _).trans (R.td r s k)

/-- Reshaping a row to its own shape changes nothing, first node. -/
theorem pay4_eq (x : S1x256.Idx → EReal) : k0_pay4 (F := Ideal) x = x := shapeCast_self _ _

/-- Reshaping a row to its own shape changes nothing, second node. -/
theorem pay5_eq (x : S1x256.Idx → EReal) : k0_pay5 (F := Ideal) x = x := shapeCast_self _ _

include R in
/-- The two new rows, before they are told apart. -/
theorem hid_apply {σ : St Ideal} {Z : Fin 10000 → Fin 256 → EReal} (hσ : IsSt A σ Z) (r : Fin 200) (s : Fin 2) (h : Fin 256) :
    k0_pay8 (F := Ideal) (k0_pay4 (rowU T hT r σ)) (k0_pay5 (rowV T hT r σ)) (k0_pay7 (rowT T r)) (ld8 T) (ld9 T) (ld10 T) (ld11 T) (ix2 s h) = hid A r Z s h := by
  rw [pay8_apply, pay4_eq, pay5_eq]
  unfold ld8 ld9 ld10 ld11
  rw [ld_all T.w8, ld_all T.w9, ld_all T.w10, ld_all T.w11]
  simp only [rowU_apply hT R hσ, rowV_apply hT R hσ, rowT_apply R, R.w8, R.w9, R.w10, R.w11]
  fin_cases s <;> rfl

include R in
/-- The new row of the first node is the event's first hidden row. -/
theorem newU_apply {σ : St Ideal} {Z : Fin 10000 → Fin 256 → EReal} (hσ : IsSt A σ Z) (r : Fin 200) (h : Fin 256) : newU T hT r σ (ix2 0 h) = hid A r Z 0 h :=
  (pay9_apply _ _ _ _ _ _ _ h).trans (hid_apply hT R hσ r 0 h)

include R in
/-- The new row of the second node is the event's second hidden row. -/
theorem newV_apply {σ : St Ideal} {Z : Fin 10000 → Fin 256 → EReal} (hσ : IsSt A σ Z) (r : Fin 200) (h : Fin 256) : newV T hT r σ (ix2 0 h) = hid A r Z 1 h :=
  (pay10_apply _ _ _ _ _ _ _ h).trans (hid_apply hT R hσ r 1 h)

include R in
/-- The refreshed scores of the first node are the scores of its hidden row. -/
theorem valU_apply {σ : St Ideal} {Z : Fin 10000 → Fin 256 → EReal} (hσ : IsSt A σ Z) (r : Fin 200) (e : Fin 2) :
    k0_pay11 (F := Ideal) (k0_pay4 (rowU T hT r σ)) (k0_pay5 (rowV T hT r σ)) (k0_pay7 (rowT T r)) (ld8 T) (ld9 T) (ld10 T) (ld11 T) (ldb T) (ix2 e 0)
      = score A e (hid A r Z 0) := by
  rw [pay11_apply]
  refine Finset.sum_congr rfl fun x _ => ?_
  rw [show ldb T = T.wb from ld_all T.wb _, R.wb]
  exact congrArg _ (newU_apply hT R hσ r x)

include R in
/-- The refreshed scores of the second node are the scores of its hidden row. -/
theorem valV_apply {σ : St Ideal} {Z : Fin 10000 → Fin 256 → EReal} (hσ : IsSt A σ Z) (r : Fin 200) (e : Fin 2) :
    k0_pay12 (F := Ideal) (k0_pay4 (rowU T hT r σ)) (k0_pay5 (rowV T hT r σ)) (k0_pay7 (rowT T r)) (ld8 T) (ld9 T) (ld10 T) (ld11 T) (ldb T) (ix2 e 0)
      = score A e (hid A r Z 1) := by
  rw [pay12_apply]
  refine Finset.sum_congr rfl fun x _ => ?_
  rw [show ldb T = T.wb from ld_all T.wb _, R.wb]
  exact congrArg _ (newV_apply hT R hσ r x)

/-- A row put into a table, read at an entry. -/
theorem put_at {m n : ℕ} (X : (⟨2, ![m, n]⟩ : Shape).Idx → EReal) (w : (⟨2, ![1, n]⟩ : Shape).Idx → EReal) (o : Fin 2 → ℕ) (k : Fin m) (e : o = ![k.val, 0])
    (h : (⟨2, ![m, n]⟩ : Shape).Slices o (⟨2, ![1, n]⟩ : Shape)) (i : Fin m) (x : Fin n) :
    updateSlice X w o h (ix2 i x) = if i = k then w (ix2 0 x) else X (ix2 i x) := by
  subst e
  refine (put_row X w k.val h (ix2 i x)).trans ?_
  by_cases c : i = k
  · rw [if_pos c]
    refine (if_pos (congrArg Fin.val c)).trans (congrArg w (funext fun a => ?_))
    revert a
    exact Fin.forall_fin_two.mpr ⟨rfl, rfl⟩
  · rw [if_neg c]
    exact if_neg fun q => c (Fin.ext q)

include R in
/-- One event keeps the carried state the statement's. -/
theorem step_is {σ : St Ideal} {Z : Fin 10000 → Fin 256 → EReal} (hσ : IsSt A σ Z) (r : Fin 200) : IsSt A (step T hT r σ) (next A r Z) where
  z i h := by
    refine (put_at _ _ _ (A.nd r 1) (by rw [← R.v r]; rfl) ⟨rfl, k0_off8_inb _ (hT r).2.1⟩ i h).trans ?_
    rw [put_at σ.z _ _ (A.nd r 0) (by rw [← R.u r]; rfl) ⟨rfl, k0_off7_inb _ (hT r).1⟩ i h, newU_apply hT R hσ, newV_apply hT R hσ, hσ.z]
    unfold next
    split_ifs <;> rfl
  s e i hi := by
    have hu := u_lt R r
    have hv := v_lt R r
    have hm : midS T hT r σ (ix2 e i) = if i.val = (word T.u r).toNat then score A e (hid A r Z 0) else σ.s (ix2 e i) :=
      refresh σ.s (word T.u r) hu (fun e => score A e (hid A r Z 0)) _ (Words.off9_eq _ hu) _ _
        (fun e k => by rw [pay13_apply _ hu, valU_apply hT R hσ]) _ e i
    have hl : lastS T hT r σ (midS T hT r σ) (ix2 e i) = if i.val = (word T.v r).toNat then score A e (hid A r Z 1) else midS T hT r σ (ix2 e i) :=
      refresh (midS T hT r σ) (word T.v r) hv (fun e => score A e (hid A r Z 1)) _ (Words.off10_eq _ hv) _ _
        (fun e k => by rw [pay14_apply _ hv, valV_apply hT R hσ]) _ e i
    refine hl.trans ?_
    rw [hm, hσ.s e i hi, R.u, R.v]
    unfold next
    by_cases c : i.val = (A.nd r 1).val
    · rw [if_pos c, if_pos (Fin.ext c)]
    · rw [if_neg c, if_neg fun q => c (congrArg Fin.val q)]
      by_cases d : i.val = (A.nd r 0).val
      · rw [if_pos d, if_pos (Fin.ext d)]
      · rw [if_neg d, if_neg fun q => d (congrArg Fin.val q)]

include R in
/-- Before the first event. -/
theorem init_is : IsSt A ⟨Z₀, initS T Z₀⟩ A.z0 where
  z := R.z0
  s e i hi := by
    show initS T Z₀ (ix2 e i) = _
    unfold initS
    have hin : ∀ x : Fin 2, (![0, 0] : Fin 2 → ℕ) x ≤ ((ix2 e i : S2x10240.Idx) x).val
        ∧ ((ix2 e i : S2x10240.Idx) x).val < (![0, 0] : Fin 2 → ℕ) x + S2x10000.size x :=
      Fin.forall_fin_two.mpr ⟨⟨Nat.zero_le _, by show e.val < 0 + 2; omega⟩, ⟨Nat.zero_le _, by show i.val < 0 + 10000; omega⟩⟩
    refine (dif_pos hin).trans ?_
    refine Eq.trans (congrArg _ (?_ : _ = ix2 e (⟨i.val, hi⟩ : Fin 10000))) ?_
    · refine funext fun x => Fin.ext ?_
      revert x
      exact Fin.forall_fin_two.mpr ⟨rfl, rfl⟩
    rw [pay2_apply]
    refine Finset.sum_congr rfl fun x _ => ?_
    rw [show ldb T = T.wb from ld_all T.wb _, ld_all Z₀, R.wb, R.z0]

include R in
/-- The carried state before event `n`. -/
theorem stAt_is : ∀ n, n ≤ 200 → IsSt A (stAt T hT Z₀ n) (zAt A n)
  | 0, _ => init_is R
  | n + 1, h => by
    rw [show zAt A (n + 1) = _ from zAt_succ A ⟨n, h⟩, show stAt T hT Z₀ (n + 1) = _ from stAt_succ T hT Z₀ ⟨n, h⟩]
    exact step_is hT R (stAt_is n (Nat.le_of_succ_le h)) ⟨n, h⟩

include R in
/-- The score row of an event. -/
theorem outL_apply (r : Fin 200) (i : Fin 10000) : outL T hT r (stAt T hT Z₀ r.val) (ix2 0 i) = score A (A.ty r) (zAt A r.val i) := by
  have hσ := stAt_is hT R r.val r.2.le
  refine Eq.trans (congrArg (stAt T hT Z₀ r.val).s (?_ : _ = ix2 (A.ty r) (⟨i.val, by omega⟩ : Fin 10240))) (hσ.s _ _ i.2)
  refine funext fun x => Fin.ext ?_
  revert x
  refine Fin.forall_fin_two.mpr ⟨?_, ?_⟩
  · show (word T.e r).toNat + 1 * 0 = (A.ty r).val; rw [R.e]; rfl
  · show 0 + 1 * i.val = i.val; omega

include R in
/-- The scores of an event's own nodes. -/
theorem outG_apply (r : Fin 200) (s : Fin 2) : outG T hT r (stAt T hT Z₀ r.val) (ix2 0 s) = ∑ x, zAt A r.val (A.nd r s) x * A.wa (A.ty r) x := by
  have hσ := stAt_is hT R r.val r.2.le
  refine (pay6_apply _ _ _ s).trans (Finset.sum_congr rfl fun x _ => ?_)
  rw [rowU_apply hT R hσ, rowV_apply hT R hσ]
  refine congrArg₂ (· * ·) ?_ ((ld_row T.wa _ (A.ty r) (by rw [← R.e r]; rfl) _ x).trans (R.wa _ _))
  fin_cases s <;> rfl

end Cert.KernelIdeal.Scan
-- ==== Proof.LamValue.lean ====
module

public import proofs.«01_k».proof.Proof.ScanValue

@[expose] public section

set_option maxRecDepth 16384

/-! The intensity kernel's block of rows, element by element, in the terms of the statement. -/

noncomputable section

namespace Cert.KernelIdeal.Scan

open Cert.KernelIdeal Cert.KernelIdeal.Gen Cert.Spec
open Idealize.ShloMosaic

/-- The operands of one point of the intensity kernel, read as the arguments `A`: row `k` of the blocks is event `ρ k`'s. -/
structure Rows (A : Args) (ρ : Fin 8 → Fin 200) (wt al ps ob : S2.Idx → Elt Ideal .f32) (uv : S8x2.Idx → Elt Ideal .i32) (et : S8x1.Idx → Elt Ideal .i32)
    (tt : S8x1.Idx → Elt Ideal .f32) (tb : S8x1x10000.Idx → Elt Ideal .f32) (sr : S8x10000.Idx → Elt Ideal .f32) (a2 : S8x2.Idx → Elt Ideal .f32) : Prop where
  wt : ∀ e, sc wt e = A.w e
  al : ∀ e, sc al e = A.al e
  ps : ∀ e, sc ps e = A.ps e
  ob : ∀ e, sc ob e = A.ob e
  uv : ∀ k s, (uv (ix2 k s) : BitVec 32).toNat = (A.nd (ρ k) s).val
  et : ∀ k, (et (ix2 k 0) : BitVec 32).toNat = (A.ty (ρ k)).val
  tt : ∀ k, tt (ix2 k 0) = A.t (ρ k)
  tb : ∀ k i, tb (ix3 k 0 i) = A.tb (ρ k) i
  sr : ∀ k i, sr (ix2 k i) = score A (A.ty (ρ k)) (zAt A (ρ k).val i)
  a2 : ∀ k s, a2 (ix2 k s) = ∑ x, zAt A (ρ k).val (A.nd (ρ k) s) x * A.wa (A.ty (ρ k)) x

/-- Choosing between the two types' entries by the type's word. -/
theorem sel_ty (w : BitVec 32) (e : Fin 2) (h : w.toNat = e.val) (p : Fin 2 → EReal) : Scalar.select (IntOp.cmpi .eq w 0#32) (p 0) (p 1) = p e := by
  obtain rfl : w = BitVec.ofNat 32 e.val := BitVec.eq_of_toNat_eq (by rw [h, BitVec.toNat_ofNat]; omega)
  fin_cases e <;> rfl

/-- A sum masked to one index is the entry there. -/
theorem sum_mask (w : BitVec 32) (n : Fin 10000) (h : w.toNat = n.val) (f : Fin 10000 → EReal) :
    ∑ x : Fin 10000, Scalar.select (IntOp.cmpi .eq (BitVec.ofNat 32 x.val) w) (f x) 0 = f n := by
  have e : ∀ x : Fin 10000, Scalar.select (IntOp.cmpi .eq (BitVec.ofNat 32 x.val) w) (f x) 0 = if n = x then f x else 0 := fun x => by
    obtain rfl : w = BitVec.ofNat 32 n.val := BitVec.eq_of_toNat_eq (by rw [h, BitVec.toNat_ofNat]; omega)
    by_cases c : n = x
    · subst c
      rw [if_pos rfl]
      show (if BitVec.ofBool (_ == _) = 1 then f n else 0) = f n
      rw [beq_self_eq_true]; rfl
    · rw [if_neg c]
      have hne : ¬ (BitVec.ofNat 32 x.val = BitVec.ofNat 32 n.val) := fun q => c (Fin.ext (by
        have := congrArg BitVec.toNat q
        rw [BitVec.toNat_ofNat, BitVec.toNat_ofNat] at this
        omega))
      show (if BitVec.ofBool (_ == _) = 1 then f x else 0) = 0
      rw [beq_eq_false_iff_ne.mpr hne]; rfl
  rw [Finset.sum_congr rfl fun x _ => e x, Finset.sum_ite_eq Finset.univ n f, if_pos (Finset.mem_univ n)]

variable {A : Args} {ρ : Fin 8 → Fin 200} {wt al ps ob : S2.Idx → Elt Ideal .f32} {uv : S8x2.Idx → Elt Ideal .i32} {et : S8x1.Idx → Elt Ideal .i32}
    {tt : S8x1.Idx → Elt Ideal .f32} {tb : S8x1x10000.Idx → Elt Ideal .f32} {sr : S8x10000.Idx → Elt Ideal .f32} {a2 : S8x2.Idx → Elt Ideal .f32}
    (R : Rows A ρ wt al ps ob uv et tt tb sr a2)

/-- The first column of a two-column block. -/
theorem lo_apply {e : EltTy} (X : S8x2.Idx → Elt Ideal e) (k : Fin 8) : lo X (ix2 k 0) = X (ix2 k 0) := by
  refine congrArg X (funext fun a => Fin.ext ?_)
  revert a
  refine Fin.forall_fin_two.mpr ⟨?_, rfl⟩
  show 0 + 1 * k.val = k.val; omega

/-- The second column of a two-column block. -/
theorem hi_apply {e : EltTy} (X : S8x2.Idx → Elt Ideal e) (k : Fin 8) : hi X (ix2 k 0) = X (ix2 k 1) := by
  refine congrArg X (funext fun a => Fin.ext ?_)
  revert a
  refine Fin.forall_fin_two.mpr ⟨?_, rfl⟩
  show 0 + 1 * k.val = k.val; omega

/-- A load of a whole one-column block is the block. -/
theorem one_eq {e : EltTy} (X : S8x1.Idx → Elt Ideal e) : one X = X := ld_all X _

/-- A load of the whole block of last times is the block. -/
theorem tb_eq (X : S8x1x10000.Idx → Elt Ideal .f32) : View.ld X (Rect.unit (s := S8x1x10000) ![0, 0, 0] S8x1x10000.size inb_S8x1x10000_S8x1x10000_0_0_0) = X :=
  View.ld_unit_zero (funext fun a => by fin_cases a <;> rfl) _ X

/-- The named constant is one hundredth. -/
theorem kap : (Named.named κ "inv_td" 1008981770#32 : Ideal .f32) = ((100⁻¹ : ℝ) : EReal) := rfl

include R in
/-- The first node's intensity in a block, entry by entry. -/
theorem lamU_apply (k : Fin 8) (i : Fin 10000) : lamU wt al ps ob uv et tt tb sr a2 (ix2 k i) = lamK A (ρ k) 0 i := by
  unfold lamU
  rw [one_eq et, one_eq tt, tb_eq, ld_all sr]
  pointwise [k1_pay1, k1_pay14, k1_pay3, k1_pay6, k1_pay7, k1_pay8, k1_pay9, k1_pay10, k1_pay11, k1_pay12, k1_pay5]
  rw [lo_apply a2, lo_apply uv, sel_ty _ _ (R.et k) (sc ps), sel_ty _ _ (R.et k) (sc ob), sel_ty _ _ (R.et k) (sc wt), sel_ty _ _ (R.et k) (sc al),
    sum_mask _ _ (R.uv k 0) (fun x => tb (ix3 k 0 x)), R.a2, R.sr, R.tb, R.tb, R.tt, R.wt, R.al, R.ps, R.ob, kap]
  rfl

include R in
/-- The second node's intensity in a block, entry by entry. -/
theorem lamV_apply (k : Fin 8) (i : Fin 10000) : lamV wt al ps ob uv et tt tb sr a2 (ix2 k i) = lamK A (ρ k) 1 i := by
  unfold lamV
  rw [one_eq et, one_eq tt, tb_eq, ld_all sr]
  pointwise [k1_pay2, k1_pay13, k1_pay4, k1_pay6, k1_pay7, k1_pay8, k1_pay9, k1_pay10, k1_pay11, k1_pay12, k1_pay5]
  rw [hi_apply a2, hi_apply uv, sel_ty _ _ (R.et k) (sc ps), sel_ty _ _ (R.et k) (sc ob), sel_ty _ _ (R.et k) (sc wt), sel_ty _ _ (R.et k) (sc al),
    sum_mask _ _ (R.uv k 1) (fun x => tb (ix3 k 0 x)), R.a2, R.sr, R.tb, R.tb, R.tt, R.wt, R.al, R.ps, R.ob, kap]
  rfl

/-- The side and the node of an entry of the result's rows. -/
def side (j : Fin 20000) : Fin 2 := if j.val < 10000 then 0 else 1
def node (j : Fin 20000) : Fin 10000 := if h : j.val < 10000 then ⟨j.val, h⟩ else ⟨j.val - 10000, by omega⟩

include R in
/-- One entry of the block of rows. -/
theorem lamOut_apply (k : Fin 8) (j : Fin 20000) : lamOut wt al ps ob uv et tt tb sr a2 (ix2 k j) = lamK A (ρ k) (side j) (node j) := by
  unfold lamOut side node
  by_cases h : j.val < 10000
  · refine (dif_pos h).trans ?_
    rw [if_pos h, dif_pos h]
    refine Eq.trans (congrArg _ (funext fun a => ?_)) (lamU_apply R k ⟨j.val, h⟩)
    revert a; exact Fin.forall_fin_two.mpr ⟨rfl, rfl⟩
  · refine (dif_neg h).trans ?_
    rw [if_neg h, dif_neg h]
    refine Eq.trans (congrArg _ (funext fun a => ?_)) (lamV_apply R k ⟨j.val - 10000, by omega⟩)
    revert a; exact Fin.forall_fin_two.mpr ⟨rfl, rfl⟩

end Cert.KernelIdeal.Scan
-- ==== Proof.HostValue.lean ====
module

public import proofs.«01_k».proof.Proof.LamValue
public import Idealize.ShloMosaic.Lib.StableHlo.ReadAt

@[expose] public section

set_option maxRecDepth 16384

/-! What the host hands the two calls, element by element. -/

noncomputable section

namespace Cert.KernelIdeal.Scan

open Cert.KernelIdeal Cert.KernelIdeal.Gen Cert.Spec
open Idealize.ShloMosaic
open Idealize.ShloMosaic.TcCoe Idealize.SL.Sem

variable (m : (ℓ : Loc nD τ sig) → Buf (Elt Ideal) ℓ)

/-- The arguments as device `c` holds them. -/
def argsOf (hR : InRange m) (c : Dev nD) : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (hR c).1 (hR c).2.1 (hR c).2.2

/-- The first host segment's buffers, element by element. -/
theorem h_v0 (V : Valuation τ sig (Elt Ideal)) (r : Fin 200) (s : Fin 2) (k : Fin 4) :
    StableHlo.after hostOps0 V (Proc.devRef .tc main_v0) (ix2 r (⟨4 * s.val + k.val, by omega⟩ : Fin 8))
      = V (Proc.devRef .tc main_arg2) (ix3 r s k) := by
  after_reads_at

/-- The first halves of the score weights, as the host cuts them. -/
theorem h_v2 (V : Valuation τ sig (Elt Ideal)) (e : Fin 2) (x : Fin 256) :
    StableHlo.after hostOps0 V (Proc.devRef .tc main_v2) (ix2 e x)
      = V (Proc.devRef .tc main_arg7) (ix3 e 0 (⟨x.val, by omega⟩ : Fin 512)) := by
  after_reads_at

/-- The second halves of the score weights, as the host cuts them. -/
theorem h_v4 (V : Valuation τ sig (Elt Ideal)) (e : Fin 2) (x : Fin 256) :
    StableHlo.after hostOps0 V (Proc.devRef .tc main_v4) (ix2 e x)
      = V (Proc.devRef .tc main_arg7) (ix3 e 0 (⟨256 + x.val, by omega⟩ : Fin 512)) := by
  after_reads_at

/-- The score biases, as the host reshapes them. -/
theorem h_v5 (V : Valuation τ sig (Elt Ideal)) (e : Fin 2) :
    StableHlo.after hostOps0 V (Proc.devRef .tc main_v5) (Idealize.ShloMosaic.ix1 e)
      = V (Proc.devRef .tc main_arg8) (ix2 e 0) := by
  after_reads_at

/-- The sum of the three bias rows, as the host forms it. -/
theorem h_v8 (V : Valuation τ sig (Elt Ideal)) (h : Fin 256) :
    StableHlo.after hostOps0 V (Proc.devRef .tc main_v8) (ix2 0 h)
      = HAdd.hAdd (α := EReal) (HAdd.hAdd (α := EReal) (V (Proc.devRef .tc main_arg13) (Idealize.ShloMosaic.ix1 h))
          (V (Proc.devRef .tc main_arg15) (Idealize.ShloMosaic.ix1 h)))
        (V (Proc.devRef .tc main_arg17) (Idealize.ShloMosaic.ix1 h)) := by
  after_reads_at

/-- The first square weight, transposed by the host. -/
theorem h_v14 (V : Valuation τ sig (Elt Ideal)) (x h : Fin 256) :
    StableHlo.after hostOps0 V (Proc.devRef .tc main_v14) (ix2 x h) = V (Proc.devRef .tc main_arg12) (ix2 h x) := by
  after_reads_at

/-- The second square weight, transposed by the host. -/
theorem h_v16 (V : Valuation τ sig (Elt Ideal)) (x h : Fin 256) :
    StableHlo.after hostOps0 V (Proc.devRef .tc main_v16) (ix2 x h) = V (Proc.devRef .tc main_arg14) (ix2 h x) := by
  after_reads_at

/-- The constant row is the four spreads of the time differences. -/
theorem lit0_at (k : Fin 4) : lit0 (S4.rowMajor (Idealize.ShloMosaic.ix1 k))
    = (![0x42480000#32, 0x40E00000#32, 0x41700000#32, 0x41700000#32] : Fin 4 → BitVec 32) k := by
  revert k; decide +kernel

/-- The time weight, transposed by the host and divided by the scales. -/
theorem h_v17 (V : Valuation τ sig (Elt Ideal)) (k : Fin 4) (h : Fin 256) :
    StableHlo.after hostOps0 V (Proc.devRef .tc main_v17) (ix2 k h)
      = Ideal.div (V (Proc.devRef .tc main_arg16) (ix2 h k))
          (Ideal.ofBits .f32 ((![0x42480000#32, 0x40E00000#32, 0x41700000#32, 0x41700000#32] : Fin 4 → BitVec 32) k)) := by
  after_reads_at
  rw [lit0_at]

/-- The second host segment's buffers, element by element. -/
theorem h_v21 (V : Valuation τ sig (Elt Ideal)) (r : Fin 200) (s : Fin 2) :
    StableHlo.after hostOps1 V (Proc.devRef .tc main_v21) (ix2 r s)
      = (if s = 0 then V (Proc.devRef .tc main_arg0) (Idealize.ShloMosaic.ix1 r)
          else V (Proc.devRef .tc main_arg1) (Idealize.ShloMosaic.ix1 r) : BitVec 32) := by
  after_reads_at
  fin_cases s <;> simp

/-- The first per-event vector given to the second call is its argument as a column. -/
theorem h_v22 (V : Valuation τ sig (Elt Ideal)) (r : Fin 200) :
    StableHlo.after hostOps1 V (Proc.devRef .tc main_v22) (ix2 r 0)
      = V (Proc.devRef .tc main_arg3) (Idealize.ShloMosaic.ix1 r) := by
  after_reads_at

/-- The second per-event vector given to the second call is its argument as a column. -/
theorem h_v23 (V : Valuation τ sig (Elt Ideal)) (r : Fin 200) :
    StableHlo.after hostOps1 V (Proc.devRef .tc main_v23) (ix2 r 0)
      = V (Proc.devRef .tc main_arg5) (Idealize.ShloMosaic.ix1 r) := by
  after_reads_at

/-- The table of last times given to the second call is its argument with two axes exchanged. -/
theorem h_v24 (V : Valuation τ sig (Elt Ideal)) (r : Fin 200) (i : Fin 10000) :
    StableHlo.after hostOps1 V (Proc.devRef .tc main_v24) (ix3 r 0 i)
      = V (Proc.devRef .tc main_arg4) (ix3 r i 0) := by
  after_reads_at

/-- The two spellings of an index of the event vector agree. -/
theorem ix1_eq (r : Fin 200) : ix1 r = Idealize.ShloMosaic.ix1 r := by
  funext a; fin_cases a; rfl

/-- The first node of an event is the word of the first argument. -/
theorem nd_zero (hR : InRange m) (c : Dev nD) (r : Fin 200) : (argsOf m hR c).nd r 0
    = ⟨(m ((c.tc : Thread nD τ).loc main_arg0) (Idealize.ShloMosaic.ix1 r)).toNat, (hR c).1 _⟩ := rfl

/-- The second node of an event is the word of the second argument. -/
theorem nd_one (hR : InRange m) (c : Dev nD) (r : Fin 200) : (argsOf m hR c).nd r 1
    = ⟨(m ((c.tc : Thread nD τ).loc main_arg1) (Idealize.ShloMosaic.ix1 r)).toNat, (hR c).2.1 _⟩ := rfl

/-- The tables the walk reads hold the arguments. -/
theorem reads (hR : InRange m) (c : Dev nD) : Reads (tabs (V1 m c)) (z0 (V1 m c)) (argsOf m hR c) where
  u r := by
    show (word (V1 m c main_arg0) r).toNat = _
    rw [word_eq, ix1_eq]
    rw [V1_of m c _ (by decide), nd_zero]
  v r := by
    show (word (V1 m c main_arg1) r).toNat = _
    rw [word_eq, ix1_eq]
    rw [V1_of m c _ (by decide), nd_one]
  e r := by
    show (word (V1 m c main_arg3) r).toNat = _
    rw [word_eq, ix1_eq, V1_of m c _ (by decide)]; rfl
  td r s k := h_v0 (V0 m c) r s k
  z0 i h := by
    show V1 m c main_arg6 _ = _
    rw [V1_of m c _ (by decide)]; rfl
  wa e x := h_v2 (V0 m c) e x
  wb e x := h_v4 (V0 m c) e x
  w8 x h := h_v14 (V0 m c) x h
  w9 x h := h_v16 (V0 m c) x h
  w10 k h := h_v17 (V0 m c) k h
  w11 h := h_v8 (V0 m c) h

end Cert.KernelIdeal.Scan
-- ==== Proof.KernelValue.lean ====
module

public import proofs.«01_k».proof.Proof.HostValue
public import proofs.«01_k».proof.Proof.Run
public import Idealize.ShloMosaic.Lib.Pipeline.ValueKit.Geometry

@[expose] public section

set_option maxRecDepth 16384

/-! What the two calls leave in the three output arrays of the first and the one of the second. -/

noncomputable section

namespace Cert.KernelIdeal.Scan

open Cert.KernelIdeal Cert.KernelIdeal.Gen Cert.Spec
open Idealize.ShloMosaic
open Idealize.ShloMosaic.Pipeline (Dat)
open Idealize.ShloMosaic.TcCoe Idealize.SL.Sem

variable (m : (ℓ : Loc nD τ sig) → Buf (Elt Ideal) ℓ)

/-- The block of window 11 of the first call at a point is the row of its event. -/
theorem ix11 (t : Fin cfg0.N) : win0_11.index t 0 = (pt t).val ∧ win0_11.index t 1 = 0 :=
  (by decide +kernel : ∀ t : Fin grid0.N, win0_11.index t 0 = (pt t).val ∧ win0_11.index t 1 = 0) t

/-- The block of window 12 of the first call at a point is the row of its event. -/
theorem ix12 (t : Fin cfg0.N) : win0_12.index t 0 = (pt t).val ∧ win0_12.index t 1 = 0 :=
  (by decide +kernel : ∀ t : Fin grid0.N, win0_12.index t 0 = (pt t).val ∧ win0_12.index t 1 = 0) t

/-- The index of a column of a one-row table is the pair of zero and that column. -/
theorem col1_eq {n : ℕ} (j : Fin n) : col1 j = ix2 0 j := by
  funext a; fin_cases a <;> rfl

/-- The score rows after the first call. -/
theorem arr_11 (hR : InRange m) (hT : ∀ c : Dev nD, (tabs (V1 m c)).Ok) (c : Dev nD) :
    (dat0 (V1 m) hT c).arrAt 11 cfg0.N
      = fun j : S200x10000.Idx => score (argsOf m hR c) ((argsOf m hR c).ty (j 0)) (zAt (argsOf m hR c) (j 0).val (j 1)) := by
  refine (dat0 (V1 m) hT c).arrAt_eq_of_covers 11 _ (by decide +kernel) fun t hf y => ?_
  have e0 : (win0_11.blk t).view.emb y 0 = ev (pt t) (y 0) := Fin.ext (by
    have := (ix11 t).1
    blk_simp
    show win0_11.index t 0 * 8 + (y 0).val = 8 * (pt t).val + (y 0).val
    omega)
  have e1 : (win0_11.blk t).view.emb y 1 = (y 1 : Fin 10000) := Fin.ext (by
    have := (ix11 t).2
    blk_simp
    omega)
  show lamBlk (tabs (V1 m c)) (hT c) (z0 (V1 m c)) (pt t) y = score (argsOf m hR c) ((argsOf m hR c).ty ((win0_11.blk t).view.emb y 0))
      (zAt (argsOf m hR c) ((win0_11.blk t).view.emb y 0).val ((win0_11.blk t).view.emb y 1))
  rw [e0, e1]
  unfold lamBlk
  exact (congrArg (outL (tabs (V1 m c)) (hT c) _ _) (col1_eq (n := 10000) (y 1))).trans (outL_apply (hT c) (reads m hR c) _ _)

/-- The own scores after the first call. -/
theorem arr_12 (hR : InRange m) (hT : ∀ c : Dev nD, (tabs (V1 m c)).Ok) (c : Dev nD) :
    (dat0 (V1 m) hT c).arrAt 12 cfg0.N
      = fun j : S200x2.Idx => ∑ x, zAt (argsOf m hR c) (j 0).val ((argsOf m hR c).nd (j 0) (j 1)) x * (argsOf m hR c).wa ((argsOf m hR c).ty (j 0)) x := by
  refine (dat0 (V1 m) hT c).arrAt_eq_of_covers 12 _ (by decide +kernel) fun t hf y => ?_
  have e0 : (win0_12.blk t).view.emb y 0 = ev (pt t) (y 0) := Fin.ext (by
    have := (ix12 t).1
    blk_simp
    show win0_12.index t 0 * 8 + (y 0).val = 8 * (pt t).val + (y 0).val
    omega)
  have e1 : (win0_12.blk t).view.emb y 1 = (y 1 : Fin 2) := Fin.ext (by
    have := (ix12 t).2
    blk_simp
    omega)
  show gBlk (tabs (V1 m c)) (hT c) (z0 (V1 m c)) (pt t) y = ∑ x, zAt (argsOf m hR c) ((win0_12.blk t).view.emb y 0).val
      ((argsOf m hR c).nd ((win0_12.blk t).view.emb y 0) ((win0_12.blk t).view.emb y 1)) x * (argsOf m hR c).wa ((argsOf m hR c).ty ((win0_12.blk t).view.emb y 0)) x
  rw [e0, e1]
  unfold gBlk
  exact (congrArg (outG (tabs (V1 m c)) (hT c) _ _) (col1_eq (n := 2) (y 1))).trans (outG_apply (hT c) (reads m hR c) _ _)

/-- The embedding after the first call. -/
theorem arr_13 (hR : InRange m) (hT : ∀ c : Dev nD, (tabs (V1 m c)).Ok) (c : Dev nD) :
    (dat0 (V1 m) hT c).arrAt 13 cfg0.N = fun j : S10000x256.Idx => zAt (argsOf m hR c) 200 (j 0) (j 1) := by
  refine (dat0 (V1 m) hT c).arrAt_eq_of_after_last 13 ⟨24, by decide +kernel⟩ (by decide +kernel) _ fun j => ?_
  blk_simp
  refine Eq.trans (congrArg (stAt (tabs (V1 m c)) (hT c) (z0 (V1 m c)) 200).z (funext fun a => ?_ : _ = ix2 (j 0) (j 1)))
    ((stAt_is (hT c) (reads m hR c) 200 le_rfl).z _ _)
  revert a; exact Fin.forall_fin_two.mpr ⟨rfl, rfl⟩

variable (hR : InRange m) (hT : ∀ c : Dev nD, (tabs (V1 m c)).Ok)

/-- The second call's operands that the first call left. -/
theorem w_18_0 (c : Dev nD) : W1 m hT c main_v18_0 = (dat0 (V1 m) hT c).arrAt 11 cfg0.N := by
  rw [← V3_outs, V3_of m _ c _ (by decide), ← outs_18_0 m hT 2 c]
  rfl

/-- The second call starts with the first call's second result in place. -/
theorem w_18_1 (c : Dev nD) : W1 m hT c main_v18_1 = (dat0 (V1 m) hT c).arrAt 12 cfg0.N := by
  rw [← V3_outs, V3_of m _ c _ (by decide), ← outs_18_1 m hT 2 c]
  rfl

/-- An argument is as it was when the second call is reached. -/
theorem w_arg (c : Dev nD) (r : Ref sig .tc) (h1 : r ∉ hostOps1_W) (h2 : r ∉ ([main_v18_0, main_v18_1, main_v18_2] : List (Ref sig .tc)))
    (h0 : r ∉ hostOps0_W) : W1 m hT c r = V0 m c r := by
  rw [← V3_outs, V3_of m _ c _ h1, V2_of m _ c _ h2, V1_of m c _ h0]

/-- An argument is as it was after the first call. -/
theorem v2_arg (c : Dev nD) (r : Ref sig .tc) (h2 : r ∉ ([main_v18_0, main_v18_1, main_v18_2] : List (Ref sig .tc)))
    (h0 : r ∉ hostOps0_W) : V2 m (outs m hT) c r = V0 m c r := by
  rw [V2_of m _ c _ h2, V1_of m c _ h0]

/-- The row of event `k` of grid point `t`. -/
def ro (t : Fin cfg1.N) (k : Fin 8) : Fin 200 := ev (t.cast N_1) k

/-- The blocks of the second call's windows: the small tables whole, the others eight rows at a time. -/
theorem jx0 (t : Fin cfg1.N) : win1_0.index t 0 = 0 := (by decide +kernel : ∀ t : Fin grid1.N, win1_0.index t 0 = 0) t

/-- Where the block of window 1 of the second call starts at a grid point. -/
theorem jx1 (t : Fin cfg1.N) : win1_1.index t 0 = 0 := (by decide +kernel : ∀ t : Fin grid1.N, win1_1.index t 0 = 0) t

/-- Where the block of window 2 of the second call starts at a grid point. -/
theorem jx2 (t : Fin cfg1.N) : win1_2.index t 0 = 0 := (by decide +kernel : ∀ t : Fin grid1.N, win1_2.index t 0 = 0) t

/-- Where the block of window 3 of the second call starts at a grid point. -/
theorem jx3 (t : Fin cfg1.N) : win1_3.index t 0 = 0 := (by decide +kernel : ∀ t : Fin grid1.N, win1_3.index t 0 = 0) t

/-- Where the block of window 4 of the second call starts at a grid point. -/
theorem jx4 (t : Fin cfg1.N) : win1_4.index t 0 = t.val ∧ win1_4.index t 1 = 0 :=
  (by decide +kernel : ∀ t : Fin grid1.N, win1_4.index t 0 = t.val ∧ win1_4.index t 1 = 0) t

/-- Where the block of window 5 of the second call starts at a grid point. -/
theorem jx5 (t : Fin cfg1.N) : win1_5.index t 0 = t.val ∧ win1_5.index t 1 = 0 :=
  (by decide +kernel : ∀ t : Fin grid1.N, win1_5.index t 0 = t.val ∧ win1_5.index t 1 = 0) t

/-- Where the block of window 6 of the second call starts at a grid point. -/
theorem jx6 (t : Fin cfg1.N) : win1_6.index t 0 = t.val ∧ win1_6.index t 1 = 0 :=
  (by decide +kernel : ∀ t : Fin grid1.N, win1_6.index t 0 = t.val ∧ win1_6.index t 1 = 0) t

/-- Where the block of window 8 of the second call starts at a grid point. -/
theorem jx8 (t : Fin cfg1.N) : win1_8.index t 0 = t.val ∧ win1_8.index t 1 = 0 :=
  (by decide +kernel : ∀ t : Fin grid1.N, win1_8.index t 0 = t.val ∧ win1_8.index t 1 = 0) t

/-- Where the block of window 9 of the second call starts at a grid point. -/
theorem jx9 (t : Fin cfg1.N) : win1_9.index t 0 = t.val ∧ win1_9.index t 1 = 0 :=
  (by decide +kernel : ∀ t : Fin grid1.N, win1_9.index t 0 = t.val ∧ win1_9.index t 1 = 0) t

/-- Where the block of window 10 of the second call starts at a grid point. -/
theorem jx10 (t : Fin cfg1.N) : win1_10.index t 0 = t.val ∧ win1_10.index t 1 = 0 :=
  (by decide +kernel : ∀ t : Fin grid1.N, win1_10.index t 0 = t.val ∧ win1_10.index t 1 = 0) t

/-- Where the block of window 7 of the second call starts at a grid point. -/
theorem jx7 (t : Fin cfg1.N) : win1_7.index t 0 = t.val ∧ win1_7.index t 1 = 0 ∧ win1_7.index t 2 = 0 :=
  (by decide +kernel : ∀ t : Fin grid1.N, win1_7.index t 0 = t.val ∧ win1_7.index t 1 = 0 ∧ win1_7.index t 2 = 0) t

/-- Where an entry of the block of window 0 of the second call lies in its array. -/
theorem eb0 (t : Fin cfg1.N) (e : Fin 2) : ((win1_0.blk t).view.emb (Idealize.ShloMosaic.ix1 e) : S2.Idx) = Idealize.ShloMosaic.ix1 e := by
  have h := jx0 t
  funext a
  fin_cases a
  refine Fin.ext ?_
  blk_simp
  show win1_0.index t 0 * 2 + e.val = e.val
  omega

/-- Where an entry of the block of window 1 of the second call lies in its array. -/
theorem eb1 (t : Fin cfg1.N) (e : Fin 2) : ((win1_1.blk t).view.emb (Idealize.ShloMosaic.ix1 e) : S2.Idx) = Idealize.ShloMosaic.ix1 e := by
  have h := jx1 t
  funext a
  fin_cases a
  refine Fin.ext ?_
  blk_simp
  show win1_1.index t 0 * 2 + e.val = e.val
  omega

/-- Where an entry of the block of window 2 of the second call lies in its array. -/
theorem eb2 (t : Fin cfg1.N) (e : Fin 2) : ((win1_2.blk t).view.emb (Idealize.ShloMosaic.ix1 e) : S2.Idx) = Idealize.ShloMosaic.ix1 e := by
  have h := jx2 t
  funext a
  fin_cases a
  refine Fin.ext ?_
  blk_simp
  show win1_2.index t 0 * 2 + e.val = e.val
  omega

/-- Where an entry of the block of window 3 of the second call lies in its array. -/
theorem eb3 (t : Fin cfg1.N) (e : Fin 2) : ((win1_3.blk t).view.emb (Idealize.ShloMosaic.ix1 e) : S2.Idx) = Idealize.ShloMosaic.ix1 e := by
  have h := jx3 t
  funext a
  fin_cases a
  refine Fin.ext ?_
  blk_simp
  show win1_3.index t 0 * 2 + e.val = e.val
  omega

/-- Where an entry of the block of window 4 of the second call lies in its array. -/
theorem eb4 (t : Fin cfg1.N) (k : Fin 8) (s : Fin 2) : ((win1_4.blk t).view.emb (ix2 k s) : S200x2.Idx) = ix2 (ro t k) s := by
  have h := jx4 t
  funext a
  fin_cases a <;> refine Fin.ext ?_ <;> blk_simp
  · show win1_4.index t 0 * 8 + k.val = 8 * t.val + k.val
    omega
  · show win1_4.index t 1 * 2 + s.val = s.val
    omega

/-- Where an entry of the block of window 5 of the second call lies in its array. -/
theorem eb5 (t : Fin cfg1.N) (k : Fin 8) (s : Fin 1) : ((win1_5.blk t).view.emb (ix2 k s) : S200x1.Idx) = ix2 (ro t k) s := by
  have h := jx5 t
  funext a
  fin_cases a <;> refine Fin.ext ?_ <;> blk_simp
  · show win1_5.index t 0 * 8 + k.val = 8 * t.val + k.val
    omega
  · exact h.2

/-- Where an entry of the block of window 6 of the second call lies in its array. -/
theorem eb6 (t : Fin cfg1.N) (k : Fin 8) (s : Fin 1) : ((win1_6.blk t).view.emb (ix2 k s) : S200x1.Idx) = ix2 (ro t k) s := by
  have h := jx6 t
  funext a
  fin_cases a <;> refine Fin.ext ?_ <;> blk_simp
  · show win1_6.index t 0 * 8 + k.val = 8 * t.val + k.val
    omega
  · exact h.2

/-- Where an entry of the block of window 8 of the second call lies in its array. -/
theorem eb8 (t : Fin cfg1.N) (k : Fin 8) (s : Fin 10000) : ((win1_8.blk t).view.emb (ix2 k s) : S200x10000.Idx) = ix2 (ro t k) s := by
  have h := jx8 t
  funext a
  fin_cases a <;> refine Fin.ext ?_ <;> blk_simp
  · show win1_8.index t 0 * 8 + k.val = 8 * t.val + k.val
    omega
  · show win1_8.index t 1 * 10000 + s.val = s.val
    omega

/-- Where an entry of the block of window 9 of the second call lies in its array. -/
theorem eb9 (t : Fin cfg1.N) (k : Fin 8) (s : Fin 2) : ((win1_9.blk t).view.emb (ix2 k s) : S200x2.Idx) = ix2 (ro t k) s := by
  have h := jx9 t
  funext a
  fin_cases a <;> refine Fin.ext ?_ <;> blk_simp
  · show win1_9.index t 0 * 8 + k.val = 8 * t.val + k.val
    omega
  · show win1_9.index t 1 * 2 + s.val = s.val
    omega

/-- Where an entry of the block of window 7 of the second call lies in its array. -/
theorem eb7 (t : Fin cfg1.N) (k : Fin 8) (i : Fin 10000) : ((win1_7.blk t).view.emb (ix3 k 0 i) : S200x1x10000.Idx) = ix3 (ro t k) 0 i := by
  have h := jx7 t
  funext a
  fin_cases a <;> refine Fin.ext ?_ <;> blk_simp
  · show win1_7.index t 0 * 8 + k.val = 8 * t.val + k.val
    omega
  · show win1_7.index t 1 * 1 + 0 = 0
    omega
  · show win1_7.index t 2 * 10000 + i.val = i.val
    omega

/-- A scalar of a pair is the entry at its index. -/
theorem sc_ix1 (X : S2.Idx → Elt Ideal .f32) (e : Fin 2) : sc X e = X (Idealize.ShloMosaic.ix1 e) := by
  unfold sc
  refine congrArg X (funext fun a => ?_)
  fin_cases a; rfl

/-- The second call's blocks hold the arguments and the first call's results of the point's eight events. -/
theorem rows (c : Dev nD) (t : Fin cfg1.N) : Rows (argsOf m hR c) (ro t) (rb (W1 m hT c) 0 t) (rb (W1 m hT c) 1 t) (rb (W1 m hT c) 2 t)
    (rb (W1 m hT c) 3 t) (rb (W1 m hT c) 4 t) (rb (W1 m hT c) 5 t) (rb (W1 m hT c) 6 t) (rb (W1 m hT c) 7 t) (rb (W1 m hT c) 8 t) (rb (W1 m hT c) 9 t) where
  wt e := by
    rw [sc_ix1]
    refine (congrArg (W1 m hT c main_arg9) (eb0 t e)).trans ?_
    rw [w_arg m hT c _ (by decide) (by decide) (by decide)]; rfl
  al e := by
    rw [sc_ix1]
    refine (congrArg (W1 m hT c main_arg10) (eb1 t e)).trans ?_
    rw [w_arg m hT c _ (by decide) (by decide) (by decide)]; rfl
  ps e := by
    rw [sc_ix1]
    refine (congrArg (W1 m hT c main_arg11) (eb2 t e)).trans ?_
    rw [w_arg m hT c _ (by decide) (by decide) (by decide)]; rfl
  ob e := by
    rw [sc_ix1]
    refine (congrArg (W1 m hT c main_v5) (eb3 t e)).trans ?_
    rw [← V3_outs, V3_of m _ c _ (by decide), V2_of m _ c _ (by decide)]
    exact h_v5 (V0 m c) e
  uv k s := by
    refine (congrArg (fun j => (W1 m hT c main_v21 j).toNat) (eb4 t k s)).trans ?_
    rw [← V3_outs]
    refine (congrArg BitVec.toNat (h_v21 (V2 m (outs m hT) c) (ro t k) s)).trans ?_
    rw [v2_arg m hT c _ (by decide) (by decide), v2_arg m hT c _ (by decide) (by decide)]
    revert s; exact Fin.forall_fin_two.mpr ⟨rfl, rfl⟩
  et k := by
    refine (congrArg (fun j => (W1 m hT c main_v22 j).toNat) (eb5 t k 0)).trans ?_
    rw [← V3_outs]
    refine (congrArg BitVec.toNat (h_v22 (V2 m (outs m hT) c) (ro t k))).trans ?_
    rw [v2_arg m hT c _ (by decide) (by decide)]; rfl
  tt k := by
    refine (congrArg (W1 m hT c main_v23) (eb6 t k 0)).trans ?_
    rw [← V3_outs]
    refine (h_v23 (V2 m (outs m hT) c) (ro t k)).trans ?_
    rw [v2_arg m hT c _ (by decide) (by decide)]; rfl
  tb k i := by
    refine (congrArg (W1 m hT c main_v24) (eb7 t k i)).trans ?_
    rw [← V3_outs]
    refine (h_v24 (V2 m (outs m hT) c) (ro t k) i).trans ?_
    rw [v2_arg m hT c _ (by decide) (by decide)]; rfl
  sr k i := by
    refine (congrArg (W1 m hT c main_v18_0) (eb8 t k i)).trans ?_
    rw [w_18_0, arr_11 m hR]; rfl
  a2 k s := by
    refine (congrArg (W1 m hT c main_v18_1) (eb9 t k s)).trans ?_
    rw [w_18_1, arr_12 m hR]; rfl

/-- The second call's result. -/
theorem arr_10 (c : Dev nD) : (dat1 (W1 m hT) c).arrAt 10 cfg1.N
    = fun j : S200x20000.Idx => lamK (argsOf m hR c) (j 0) (side (j 1)) (node (j 1)) := by
  refine (dat1 (W1 m hT) c).arrAt_eq_of_covers 10 _ (by decide +kernel) fun t hf y => ?_
  have e0 : (win1_10.blk t).view.emb y 0 = ro t (y 0) := Fin.ext (by
    have := (jx10 t).1
    blk_simp
    show win1_10.index t 0 * 8 + (y 0).val = 8 * t.val + (y 0).val
    omega)
  have e1 : (win1_10.blk t).view.emb y 1 = (y 1 : Fin 20000) := Fin.ext (by
    have := (jx10 t).2
    blk_simp
    omega)
  show lamAt (W1 m hT c) t y = lamK (argsOf m hR c) ((win1_10.blk t).view.emb y 0) (side ((win1_10.blk t).view.emb y 1)) (node ((win1_10.blk t).view.emb y 1))
  rw [e0, e1]
  unfold lamAt
  refine Eq.trans (congrArg _ (funext fun a => ?_ : (y : S8x20000.Idx) = ix2 (y 0) (y 1))) (lamOut_apply (rows m hR hT c t) (y 0) (y 1))
  revert a; exact Fin.forall_fin_two.mpr ⟨rfl, rfl⟩

/-- The two results of the program, and its arguments as they were. -/
theorem value (ρ : Dev nD → PrngReg) :
    θ_run defs (onTc (τ := τ) (main (F := Ideal))) ⟨m, fun _ => 0, ρ⟩ (fun r =>
      (∀ c : Dev nD, r.2.mem ((c.tc : Thread nD τ).loc main_v25)
          = (fun j : S200x20000.Idx => lamK (argsOf m hR c) (j 0) (side (j 1)) (node (j 1)))
        ∧ r.2.mem ((c.tc : Thread nD τ).loc main_v18_2) = (fun j : S10000x256.Idx => zAt (argsOf m hR c) 200 (j 0) (j 1))
        ∧ ∀ b : Ref sig .tc, ¬ (Proc.devRef (τ := τ) .tc b).isScoped → b ∉ ([main_v25] : List (Ref sig .tc)) → b ∉ hostOps1_W
          → b ∉ ([main_v18_0, main_v18_1, main_v18_2] : List (Ref sig .tc)) → b ∉ hostOps0_W
          → r.2.mem ((c.tc : Thread nD τ).loc b) = m ((c.tc : Thread nD τ).loc b))
      ∧ r.2.sem = fun _ => 0) := by
  have hT : ∀ c : Dev nD, (tabs (V1 m c)).Ok := tabs_ok m hR
  refine (θ_run defs _ _).mono (fun r h => ⟨fun c => ⟨?_, ?_, fun b hs h4 h3 h2 h1 => ?_⟩, h.2⟩) (run_main m hT ρ)
  · rw [h.1 c main_v25 (by decide)]
    refine Eq.trans ?_ (arr_10 m hR hT c)
    rw [← outs_25 m hT 4 c]
    exact Function.update_self _ _ _
  · rw [h.1 c main_v18_2 (by decide), V4_of m _ c _ (by decide), V3_of m _ c _ (by decide)]
    refine Eq.trans ?_ (arr_13 m hR hT c)
    rw [← outs_18_2 m hT 2 c]
    exact Function.update_self _ _ _
  · rw [h.1 c b hs, V4_of m _ c _ h4, V3_of m _ c _ h3, V2_of m _ c _ h2, V1_of m c _ h1]

end Cert.KernelIdeal.Scan
-- ==== Proof.RefRow.lean ====
module

public import proofs.«01_k».proof.Proof.Algebra
public import proofs.«01_k».proof.Proof.Gen.ReferenceIdeal.Run
public import Idealize.ShloMosaic.Lib.StableHlo.ReadAt
public import Idealize.ShloMosaic.Lib.DynamicIndex

@[expose] public section

set_option maxRecDepth 16384

/-! One trip of the reference's loop: the event's words and rows, read from the carried buffers. -/

noncomputable section

namespace Cert.ReferenceIdeal.Value

open Cert.ReferenceIdeal Cert.ReferenceIdeal.Gen Cert.Spec
open Idealize.ShloMosaic
open Idealize.ShloMosaic.TcCoe Idealize.SL.Sem

/-- A word below `2 ^ 31` as a signed number. -/
theorem toInt_nat (n : ℕ) (h : n < 2147483648) : (BitVec.ofNat 32 n).toInt = (n : ℤ) := by
  rw [BitVec.toInt_eq_toNat_of_lt (by rw [BitVec.toNat_ofNat]; omega), BitVec.toNat_ofNat]
  omega

/-- An index that is not negative is not wrapped. -/
theorem wrap (n : ℕ) (h : n < 2147483648) (e : BitVec 32) :
    select (cmpi .slt (fun _ : S_.Idx => BitVec.ofNat 32 n) (constantI S_ 32 0#32)) (addi (fun _ => BitVec.ofNat 32 n) (constantI S_ 32 e))
      (fun _ => BitVec.ofNat 32 n) = (fun _ => BitVec.ofNat 32 n : S_.Idx → BitVec 32) :=
  funext fun j => select_slt_zero_of_nonneg _ _ _ j (by show 0 ≤ (BitVec.ofNat 32 n).toInt; rw [toInt_nat n h]; omega)

/-- Wrapping a zero index leaves it zero, whatever the extent. -/
theorem wrap0 (e : BitVec 32) :
    select (cmpi .slt (constantI S_ 32 0#32) (constantI S_ 32 0#32)) (addi (constantI S_ 32 0#32) (constantI S_ 32 e))
      (constantI S_ 32 0#32) = (constantI S_ 32 0#32 : S_.Idx → BitVec 32) := wrap 0 (by decide) e

/-- The carried buffers before trip `k`, with embedding `Z`. -/
structure At (V : Valuation τ sig (Elt Ideal)) (A : Args) (k : Fin 200) (Z : Fin 10000 → Fin 256 → EReal) : Prop where
  i : V (Proc.devRef .tc main_v7_17) = (fun _ => BitVec.ofNat 32 k.val : S_.Idx → BitVec 32)
  u : ∀ r, V (Proc.devRef .tc main_v7_0) (ix1 r) = BitVec.ofNat 32 (A.nd r 0).val
  v : ∀ r, V (Proc.devRef .tc main_v7_1) (ix1 r) = BitVec.ofNat 32 (A.nd r 1).val
  e : ∀ r, V (Proc.devRef .tc main_v7_3) (ix1 r) = BitVec.ofNat 32 (A.ty r).val
  td : ∀ r s x, V (Proc.devRef .tc main_v7_2) (ix3 r s x) = Ideal.div (A.td r s x) (A.sd x)
  tb : ∀ r i, V (Proc.devRef .tc main_v7_4) (ix3 r i 0) = A.tb r i
  t : ∀ r, V (Proc.devRef .tc main_v7_5) (ix1 r) = A.t r
  wa : ∀ e (x : Fin 256), V (Proc.devRef .tc main_v7_6) (ix3 e 0 (⟨x.val, by omega⟩ : Fin 512)) = A.wa e x
  wb : ∀ e (x : Fin 256), V (Proc.devRef .tc main_v7_6) (ix3 e 0 (⟨256 + x.val, by omega⟩ : Fin 512)) = A.wb e x
  ob : ∀ e, V (Proc.devRef .tc main_v7_7) (ix2 e 0) = A.ob e
  al : ∀ e, V (Proc.devRef .tc main_v7_8) (ix1 e) = A.al e
  w : ∀ e, V (Proc.devRef .tc main_v7_9) (ix1 e) = A.w e
  ps : ∀ e, V (Proc.devRef .tc main_v7_10) (ix1 e) = A.ps e
  Ws : ∀ h x, V (Proc.devRef .tc main_v7_11) (ix2 h x) = A.Ws h x
  bs : ∀ h, V (Proc.devRef .tc main_v7_12) (ix1 h) = A.bs h
  Wr : ∀ h x, V (Proc.devRef .tc main_v7_13) (ix2 h x) = A.Wr h x
  br : ∀ h, V (Proc.devRef .tc main_v7_14) (ix1 h) = A.br h
  Wt : ∀ h x, V (Proc.devRef .tc main_v7_15) (ix2 h x) = A.Wt h x
  bt : ∀ h, V (Proc.devRef .tc main_v7_16) (ix1 h) = A.bt h
  z : ∀ i h, V (Proc.devRef .tc main_v7_18) (ix2 i h) = Z i h

/-- A start that fits is not moved by clamping, with an offset added. -/
theorem clamp_add {s t : Shape} (ht : t.rank = s.rank) (start : Fin s.rank → Int) (a : Fin s.rank) (n x : ℕ)
    (hk : start a = n) (hle : n + t.size (a.cast ht.symm) ≤ s.size a) : Host.clampedStart s t ht start a + x = n + x := by
  rw [Host.clampedStart_of_le ht start a n hk hle]

/-- A start that fits is not moved by clamping. -/
theorem clamp_in {s t : Shape} (ht : t.rank = s.rank) (start : Fin s.rank → Int) (a : Fin s.rank) (n N M : ℕ) (hk : start a = n)
    (hN : s.size a = N) (hM : t.size (a.cast ht.symm) = M) (h : n + M ≤ N) : Host.clampedStart s t ht start a = n :=
  Host.clampedStart_of_le ht start a n hk (by rw [hN, hM]; exact h)

/-- One entry of a vector, picked by a word. -/
theorem pick_1 {N : ℕ} {α : Type} (X : (⟨1, ![N]⟩ : Shape).Idx → α) (w : S_.Idx → BitVec 32) (n : Fin N) (hN : N < 2147483648)
    (hw : w = fun _ => BitVec.ofNat 32 n.val) (h : (⟨1, ![N]⟩ : Shape).Slices (fun _ => 0) S1) :
    shapeCast S_ (Host.dynamicSlice S1 X (fun k => ((![w] : Fin 1 → S_.Idx → BitVec 32) k (Shape.Idx.first h_S_)).toInt) h) shapeCasts_S1_S_
      = fun _ => X (ix1 n) := by
  funext j
  subst hw
  pointwise
  refine congrArg X (funext fun a => ?_)
  fin_cases a
  refine Fin.ext ?_
  refine clamp_add _ _ _ n.val 0 ?_ ?_
  · exact toInt_nat _ (by omega)
  · exact n.2

/-- One row of an array of rows, picked by a word. -/
theorem pick_z {α : Type} (X : S10000x256.Idx → α) (w : S_.Idx → BitVec 32) (n : Fin 10000) (hw : w = fun _ => BitVec.ofNat 32 n.val) (x : Fin 256) :
    shapeCast S256 (Host.dynamicSlice S1x256 X (fun k => ((![w, constantI S_ 32 0#32] : Fin 2 → S_.Idx → BitVec 32) k (Shape.Idx.first h_S_)).toInt)
      sliceFits_S10000x256_S1x256) shapeCasts_S1x256_S256 (ix1 x) = X (ix2 n x) := by
  subst hw
  pointwise
  have e0 : Host.clampedStart S10000x256 S1x256 rfl (fun k_1 => BitVec.toInt ((![fun _ => BitVec.ofNat 32 n.val, constantI S_ 32 0#32] : Fin 2 → S_.Idx → BitVec 32) k_1 (Shape.Idx.first h_S_))) 0 = n.val :=
    clamp_in _ _ _ n.val 10000 1 (toInt_nat _ (by omega)) rfl rfl (by omega)
  have e1 : Host.clampedStart S10000x256 S1x256 rfl (fun k_1 => BitVec.toInt ((![fun _ => BitVec.ofNat 32 n.val, constantI S_ 32 0#32] : Fin 2 → S_.Idx → BitVec 32) k_1 (Shape.Idx.first h_S_))) 1 = 0 :=
    clamp_in _ _ _ 0 256 256 (toInt_nat _ (by omega)) rfl rfl (by omega)
  simp only [e0, e1, Nat.zero_add, Fin.eta]

/-- One event's time differences, picked by a word. -/
theorem pick_td {α : Type} (X : S200x2x4.Idx → α) (w : S_.Idx → BitVec 32) (n : Fin 200) (hw : w = fun _ => BitVec.ofNat 32 n.val) (s : Fin 2) (x : Fin 4) :
    shapeCast S2x4 (Host.dynamicSlice S1x2x4 X (fun k => ((![w, constantI S_ 32 0#32, constantI S_ 32 0#32] : Fin 3 → S_.Idx → BitVec 32) k (Shape.Idx.first h_S_)).toInt)
      sliceFits_S200x2x4_S1x2x4) shapeCasts_S1x2x4_S2x4 (ix2 s x) = X (ix3 n s x) := by
  subst hw
  pointwise
  have e0 : Host.clampedStart S200x2x4 S1x2x4 rfl (fun k_1 => BitVec.toInt ((![fun _ => BitVec.ofNat 32 n.val, constantI S_ 32 0#32, constantI S_ 32 0#32] : Fin 3 → S_.Idx → BitVec 32) k_1 (Shape.Idx.first h_S_))) 0 = n.val :=
    clamp_in _ _ _ n.val 200 1 (toInt_nat _ (by omega)) rfl rfl (by omega)
  have e1 : Host.clampedStart S200x2x4 S1x2x4 rfl (fun k_1 => BitVec.toInt ((![fun _ => BitVec.ofNat 32 n.val, constantI S_ 32 0#32, constantI S_ 32 0#32] : Fin 3 → S_.Idx → BitVec 32) k_1 (Shape.Idx.first h_S_))) 1 = 0 :=
    clamp_in _ _ _ 0 2 2 (toInt_nat _ (by omega)) rfl rfl (by omega)
  have e2 : Host.clampedStart S200x2x4 S1x2x4 rfl (fun k_1 => BitVec.toInt ((![fun _ => BitVec.ofNat 32 n.val, constantI S_ 32 0#32, constantI S_ 32 0#32] : Fin 3 → S_.Idx → BitVec 32) k_1 (Shape.Idx.first h_S_))) 2 = 0 :=
    clamp_in _ _ _ 0 4 4 (toInt_nat _ (by omega)) rfl rfl (by omega)
  simp only [e0, e1, e2, Nat.zero_add, Fin.eta]

/-- One event's last times, picked by a word. -/
theorem pick_tb {α : Type} (X : S200x10000x1.Idx → α) (w : S_.Idx → BitVec 32) (n : Fin 200) (hw : w = fun _ => BitVec.ofNat 32 n.val) (i : Fin 10000) :
    shapeCast S10000 (shapeCast S10000x1 (Host.dynamicSlice S1x10000x1 X (fun k => ((![w, constantI S_ 32 0#32, constantI S_ 32 0#32] : Fin 3 → S_.Idx → BitVec 32) k (Shape.Idx.first h_S_)).toInt)
      sliceFits_S200x10000x1_S1x10000x1) shapeCasts_S1x10000x1_S10000x1) shapeCasts_S10000x1_S10000 (ix1 i) = X (ix3 n i 0) := by
  subst hw
  pointwise
  have e0 : Host.clampedStart S200x10000x1 S1x10000x1 rfl (fun k_1 => BitVec.toInt ((![fun _ => BitVec.ofNat 32 n.val, constantI S_ 32 0#32, constantI S_ 32 0#32] : Fin 3 → S_.Idx → BitVec 32) k_1 (Shape.Idx.first h_S_))) 0 = n.val :=
    clamp_in _ _ _ n.val 200 1 (toInt_nat _ (by omega)) rfl rfl (by omega)
  have e1 : Host.clampedStart S200x10000x1 S1x10000x1 rfl (fun k_1 => BitVec.toInt ((![fun _ => BitVec.ofNat 32 n.val, constantI S_ 32 0#32, constantI S_ 32 0#32] : Fin 3 → S_.Idx → BitVec 32) k_1 (Shape.Idx.first h_S_))) 1 = 0 :=
    clamp_in _ _ _ 0 10000 10000 (toInt_nat _ (by omega)) rfl rfl (by omega)
  have e2 : Host.clampedStart S200x10000x1 S1x10000x1 rfl (fun k_1 => BitVec.toInt ((![fun _ => BitVec.ofNat 32 n.val, constantI S_ 32 0#32, constantI S_ 32 0#32] : Fin 3 → S_.Idx → BitVec 32) k_1 (Shape.Idx.first h_S_))) 2 = 0 :=
    clamp_in _ _ _ 0 1 1 (toInt_nat _ (by omega)) rfl rfl (by omega)
  simp only [e0, e1, e2, Nat.zero_add, Fin.eta]
  rfl

/-- One score weight row, picked by a word. -/
theorem pick_w {α : Type} (X : S2x1x512.Idx → α) (w : S_.Idx → BitVec 32) (n : Fin 2) (hw : w = fun _ => BitVec.ofNat 32 n.val) (x : Fin 512) :
    shapeCast S512 (shapeCast S1x512 (Host.dynamicSlice S1x1x512 X (fun k => ((![w, constantI S_ 32 0#32, constantI S_ 32 0#32] : Fin 3 → S_.Idx → BitVec 32) k (Shape.Idx.first h_S_)).toInt)
      sliceFits_S2x1x512_S1x1x512) shapeCasts_S1x1x512_S1x512) shapeCasts_S1x512_S512 (ix1 x) = X (ix3 n 0 x) := by
  subst hw
  pointwise
  have e0 : Host.clampedStart S2x1x512 S1x1x512 rfl (fun k_1 => BitVec.toInt ((![fun _ => BitVec.ofNat 32 n.val, constantI S_ 32 0#32, constantI S_ 32 0#32] : Fin 3 → S_.Idx → BitVec 32) k_1 (Shape.Idx.first h_S_))) 0 = n.val :=
    clamp_in _ _ _ n.val 2 1 (toInt_nat _ (by omega)) rfl rfl (by omega)
  have e1 : Host.clampedStart S2x1x512 S1x1x512 rfl (fun k_1 => BitVec.toInt ((![fun _ => BitVec.ofNat 32 n.val, constantI S_ 32 0#32, constantI S_ 32 0#32] : Fin 3 → S_.Idx → BitVec 32) k_1 (Shape.Idx.first h_S_))) 1 = 0 :=
    clamp_in _ _ _ 0 1 1 (toInt_nat _ (by omega)) rfl rfl (by omega)
  have e2 : Host.clampedStart S2x1x512 S1x1x512 rfl (fun k_1 => BitVec.toInt ((![fun _ => BitVec.ofNat 32 n.val, constantI S_ 32 0#32, constantI S_ 32 0#32] : Fin 3 → S_.Idx → BitVec 32) k_1 (Shape.Idx.first h_S_))) 2 = 0 :=
    clamp_in _ _ _ 0 512 512 (toInt_nat _ (by omega)) rfl rfl (by omega)
  simp only [e0, e1, e2, Nat.zero_add, Fin.eta]
  rfl

/-- One score bias, picked by a word. -/
theorem pick_b {α : Type} (X : S2x1.Idx → α) (w : S_.Idx → BitVec 32) (n : Fin 2) (hw : w = fun _ => BitVec.ofNat 32 n.val) :
    shapeCast S_ (shapeCast S1 (Host.dynamicSlice S1x1 X (fun k => ((![w, constantI S_ 32 0#32] : Fin 2 → S_.Idx → BitVec 32) k (Shape.Idx.first h_S_)).toInt)
      sliceFits_S2x1_S1x1) shapeCasts_S1x1_S1) shapeCasts_S1_S_ = fun _ => X (ix2 n 0) := by
  funext j
  subst hw
  pointwise
  have e0 : Host.clampedStart S2x1 S1x1 rfl (fun k_1 => BitVec.toInt ((![fun _ => BitVec.ofNat 32 n.val, constantI S_ 32 0#32] : Fin 2 → S_.Idx → BitVec 32) k_1 (Shape.Idx.first h_S_))) 0 = n.val :=
    clamp_in _ _ _ n.val 2 1 (toInt_nat _ (by omega)) rfl rfl (by omega)
  have e1 : Host.clampedStart S2x1 S1x1 rfl (fun k_1 => BitVec.toInt ((![fun _ => BitVec.ofNat 32 n.val, constantI S_ 32 0#32] : Fin 2 → S_.Idx → BitVec 32) k_1 (Shape.Idx.first h_S_))) 1 = 0 :=
    clamp_in _ _ _ 0 1 1 (toInt_nat _ (by omega)) rfl rfl (by omega)
  simp only [e0, e1, Nat.zero_add, Fin.eta]
  rfl

variable {k' : Fin 200} {V : Valuation τ sig (Elt Ideal)} {A : Args} {k : Fin 200} {Z : Fin 10000 → Fin 256 → EReal} (H : At V A k Z)

include H

/-- The first node word of a trip. -/
theorem v8_eq : res_main_while0b_v8 V = (fun _ => BitVec.ofNat 32 (A.nd k 0).val : S_.Idx → BitVec 32) := by
  unfold res_main_while0b_v8
  exact (pick_1 _ _ k (by decide) H.i _).trans (funext fun _ => H.u k)

/-- The second node word of a trip. -/
theorem v9_eq : res_main_while0b_v9 V = (fun _ => BitVec.ofNat 32 (A.nd k 1).val : S_.Idx → BitVec 32) := by
  unfold res_main_while0b_v9
  exact (pick_1 _ _ k (by decide) H.i _).trans (funext fun _ => H.v k)

/-- The event type word of a trip. -/
theorem v11_eq : res_main_while0b_v11 V = (fun _ => BitVec.ofNat 32 (A.ty k).val : S_.Idx → BitVec 32) := by
  unfold res_main_while0b_v11
  exact (pick_1 _ _ k (by decide) H.i _).trans (funext fun _ => H.e k)

/-- The psi of the trip's event type. -/
theorem v102_eq : res_main_while0b_v102 V = (fun _ => A.ps (A.ty k) : S_.Idx → EReal) := by
  unfold res_main_while0b_v102
  rw [v11_eq H, wrap _ (by have := (A.ty k).2; omega)]
  exact (pick_1 _ _ (A.ty k) (by decide) rfl _).trans (funext fun _ => H.ps _)

/-- The scaled time differences of a trip. -/
theorem v10_eq (s : Fin 2) (x : Fin 4) : res_main_while0b_v10 V (ix2 s x) = Ideal.div (A.td k s x) (A.sd x) := by
  unfold res_main_while0b_v10
  exact (pick_td _ _ k H.i s x).trans (H.td k s x)

/-- The first node's embedding row in a trip. -/
theorem v21_eq (h : Fin 256) : res_main_while0b_v21 V (ix1 h) = Z (A.nd k 0) h := by
  unfold res_main_while0b_v21
  rw [v8_eq H, wrap _ (by have := (A.nd k 0).2; omega), wrap0]
  exact (pick_z _ _ (A.nd k 0) rfl h).trans (H.z _ h)

/-- The second node's embedding row in a trip. -/
theorem v29_eq (h : Fin 256) : res_main_while0b_v29 V (ix1 h) = Z (A.nd k 1) h := by
  unfold res_main_while0b_v29
  rw [v9_eq H, wrap _ (by have := (A.nd k 1).2; omega), wrap0]
  exact (pick_z _ _ (A.nd k 1) rfl h).trans (H.z _ h)

/-- The last times of a trip. -/
theorem v37_eq (i : Fin 10000) : res_main_while0b_v37 V (ix1 i) = A.tb k i := by
  unfold res_main_while0b_v37
  exact (pick_tb _ _ k H.i i).trans (H.tb k i)

/-- The bias of the event's type. -/
theorem b_row :
    shapeCast S_ (shapeCast S1 (Host.dynamicSlice S1x1 (V (Proc.devRef .tc main_v7_7)) (fun k => (((![(fun _ => BitVec.ofNat 32 (A.ty k').val), constantI S_ 32 0#32] : Fin 2 → (⟨S_, .i32⟩ : BufTy).Contents (Elt Ideal))) k (Shape.Idx.first h_S_)).toInt) sliceFits_S2x1_S1x1) shapeCasts_S1x1_S1) shapeCasts_S1_S_
      = (fun _ => A.ob (A.ty k') : S_.Idx → EReal) := by
  exact (pick_b _ _ (A.ty k') rfl).trans (funext fun _ => H.ob _)

/-- The scale of the event's type. -/
theorem al_row :
    shapeCast S_ (Host.dynamicSlice S1 (V (Proc.devRef .tc main_v7_8)) (fun k => (((![(fun _ => BitVec.ofNat 32 (A.ty k').val)] : Fin 1 → (⟨S_, .i32⟩ : BufTy).Contents (Elt Ideal))) k (Shape.Idx.first h_S_)).toInt) sliceFits_S2_S1) shapeCasts_S1_S_
      = (fun _ => A.al (A.ty k') : S_.Idx → EReal) :=
  (pick_1 _ _ (A.ty k') (by decide) rfl _).trans (funext fun _ => H.al _)

/-- The decay of the event's type. -/
theorem wt_row :
    shapeCast S_ (Host.dynamicSlice S1 (V (Proc.devRef .tc main_v7_9)) (fun k => (((![(fun _ => BitVec.ofNat 32 (A.ty k').val)] : Fin 1 → (⟨S_, .i32⟩ : BufTy).Contents (Elt Ideal))) k (Shape.Idx.first h_S_)).toInt) sliceFits_S2_S1) shapeCasts_S1_S_
      = (fun _ => A.w (A.ty k') : S_.Idx → EReal) :=
  (pick_1 _ _ (A.ty k') (by decide) rfl _).trans (funext fun _ => H.w _)

/-- The event's time. -/
theorem t_row :
    shapeCast S_ (Host.dynamicSlice S1 (V (Proc.devRef .tc main_v7_5)) (fun k => (((![V (Proc.devRef .tc main_v7_17)] : Fin 1 → (⟨S_, .i32⟩ : BufTy).Contents (Elt Ideal))) k (Shape.Idx.first h_S_)).toInt) sliceFits_S200_S1) shapeCasts_S1_S_
      = (fun _ => A.t k : S_.Idx → EReal) :=
  (pick_1 _ _ (k) (by decide) H.i _).trans (funext fun _ => H.t _)

/-- A node's last time. -/
theorem tb_row (n : Fin 10000) :
    shapeCast S_ (Host.dynamicSlice S1 (res_main_while0b_v37 V) (fun k => (((![(fun _ => BitVec.ofNat 32 n.val)] : Fin 1 → (⟨S_, .i32⟩ : BufTy).Contents (Elt Ideal))) k (Shape.Idx.first h_S_)).toInt) sliceFits_S10000_S1) shapeCasts_S1_S_
      = (fun _ => A.tb k n : S_.Idx → EReal) :=
  (pick_1 _ _ (n) (by decide) rfl _).trans (funext fun _ => v37_eq H _)

/-- The intensities' arguments before the clamp: candidate `j` is of side and node. -/
theorem v97_eq (j : Fin 20000) : res_main_while0b_v97 V (ix1 j)
    = gR A k Z (if j.val < 10000 then 0 else 1) (if h : j.val < 10000 then ⟨j.val, h⟩ else ⟨j.val - 10000, by omega⟩) := by
  have h2 := (A.ty k).2
  have h0 := (A.nd k 0).2
  have h1 := (A.nd k 1).2
  unfold res_main_while0b_v97
  rw [v8_eq H, v9_eq H, v11_eq H, wrap _ (by omega), wrap _ (by omega), wrap _ (by omega), wrap0, wrap0, b_row H, al_row H, wt_row H, t_row H, tb_row H, tb_row H]
  have hw : ∀ x : Fin 512, shapeCast S512 (shapeCast S1x512 (Host.dynamicSlice S1x1x512 (V (Proc.devRef .tc main_v7_6)) (fun k_1 => (((![(fun _ => BitVec.ofNat 32 (A.ty k).val), constantI S_ 32 0#32, constantI S_ 32 0#32] : Fin 3 → (⟨S_, .i32⟩ : BufTy).Contents (Elt Ideal))) k_1 (Shape.Idx.first h_S_)).toInt) sliceFits_S2x1x512_S1x1x512) shapeCasts_S1x1x512_S1x512) shapeCasts_S1x512_S512 (ix1 x)
      = V (Proc.devRef .tc main_v7_6) (ix3 (A.ty k) 0 x) := fun x => pick_w _ _ (A.ty k) rfl x
  generalize shapeCast S512 (shapeCast S1x512 (Host.dynamicSlice S1x1x512 (V (Proc.devRef .tc main_v7_6)) (fun k_1 => (((![(fun _ => BitVec.ofNat 32 (A.ty k).val), constantI S_ 32 0#32, constantI S_ 32 0#32] : Fin 3 → (⟨S_, .i32⟩ : BufTy).Contents (Elt Ideal))) k_1 (Shape.Idx.first h_S_)).toInt) sliceFits_S2x1x512_S1x1x512) shapeCasts_S1x1x512_S1x512) shapeCasts_S1x512_S512 = WR at hw ⊢
  pointwise
  simp only [hw, v37_eq H, H.z, v21_eq H, v29_eq H, H.wa, H.wb]
  unfold gR
  by_cases hj : j.val < 10000
  · simp only [dif_pos hj, if_pos hj]
  · simp only [dif_neg hj, if_neg hj]

end Cert.ReferenceIdeal.Value
-- ==== Proof.RefStep.lean ====
module

public import proofs.«01_k».proof.Proof.RefRow
public import Idealize.ShloMosaic.Lib.Routing.OpsSet
public import Idealize.ShloMosaic.Lib.Routing.OpsPair

@[expose] public section

set_option maxRecDepth 16384

/-! One trip of the reference's loop: what it writes. -/

noncomputable section

namespace Cert.ReferenceIdeal.Value

open Cert.ReferenceIdeal Cert.ReferenceIdeal.Gen Cert.Spec
open Idealize.ShloMosaic
open Idealize.ShloMosaic.TcCoe Idealize.SL.Sem

/-- Where an update of a whole row lands: in the row its word names. -/
theorem lands (n : ℕ) (hn : n < 2147483648) (x h : Fin 256) (i : Fin 10000) :
    scatter_S10000x256_S1_S256_0_0_0_0.resultIdx? (ix1 x) (broadcastInDim S1 ![] bcast_S_S1 (fun _ : S_.Idx => BitVec.ofNat 32 n)) = some (ix2 i h)
      ↔ i.val = n ∧ x = h := by
  have s0 : scatter_S10000x256_S1_S256_0_0_0_0.start (ix1 x) (broadcastInDim S1 ![] bcast_S_S1 (fun _ : S_.Idx => BitVec.ofNat 32 n)) 0 = (n : ℤ) := by
    rw [← toInt_nat n hn]; rfl
  have s1 : scatter_S10000x256_S1_S256_0_0_0_0.start (ix1 x) (broadcastInDim S1 ![] bcast_S_S1 (fun _ : S_.Idx => BitVec.ofNat 32 n)) 1 = 0 := rfl
  have w0 : scatter_S10000x256_S1_S256_0_0_0_0.window (ix1 x) 0 = 0 := rfl
  have w1 : scatter_S10000x256_S1_S256_0_0_0_0.window (ix1 x) 1 = x.val := rfl
  refine (Routing.resultIdx?_ix2 scatter_S10000x256_S1_S256_0_0_0_0 (ix1 x) _ i h).trans ?_
  rw [s0, s1, w0, w1, Fin.ext_iff]
  omega

/-- A scatter of one row: that row is the update, the others stay. -/
theorem scatter_row {α : Type} (X : S10000x256.Idx → α) (U : S256.Idx → α) (n : ℕ) (hn : n < 2147483648) (i : Fin 10000) (h : Fin 256) :
    Host.scatter scatter_S10000x256_S1_S256_0_0_0_0 (fun _ b => b) X (broadcastInDim S1 ![] bcast_S_S1 (fun _ : S_.Idx => BitVec.ofNat 32 n)) U (ix2 i h)
      = if i.val = n then U (ix1 h) else X (ix2 i h) := by
  have hx : ∀ k : S256.Idx, k = ix1 (k 0) := fun k => funext fun a => by
    match a with
    | ⟨0, _⟩ => rfl
  by_cases hi : i.val = n
  · rw [if_pos hi]
    refine Routing.scatter_set_hit _ X _ U (ix2 i h) (U (ix1 h)) (fun k hk => ?_) (ix1 h) ((lands n hn h h i).2 ⟨hi, rfl⟩)
    rw [hx k] at hk
    rw [hx k, ((lands n hn (k 0) h i).1 hk).2]
    rfl
  · rw [if_neg hi]
    refine Routing.scatter_set_miss _ X _ U (ix2 i h) fun k hk => hi ?_
    rw [hx k] at hk
    exact ((lands n hn (k 0) h i).1 hk).1

/-- One row of the intensities written: that row is the update, the others stay. -/
theorem write_row {α : Type} (X : S200x20000.Idx → α) (U : S20000.Idx → α) (w : S_.Idx → BitVec 32) (n : Fin 200) (hw : w = fun _ => BitVec.ofNat 32 n.val) (r : Fin 200) (j : Fin 20000) :
    Host.dynamicUpdateSlice X (broadcastInDim S1x20000 ![1] bcast_S20000_S1x20000_1 U)
      (fun k => ((![w, constantI S_ 32 0#32] : Fin 2 → S_.Idx → BitVec 32) k (Shape.Idx.first h_S_)).toInt) updateFits_S200x20000_S1x20000 (ix2 r j)
      = if r = n then U (ix1 j) else X (ix2 r j) := by
  subst hw
  have hn := n.2
  have e0 : Host.clampedStart S200x20000 S1x20000 rfl (fun k => ((![(fun _ => BitVec.ofNat 32 n.val), constantI S_ 32 0#32] : Fin 2 → S_.Idx → BitVec 32) k (Shape.Idx.first h_S_)).toInt) 0 = n.val :=
    clamp_in _ _ _ n.val 200 1 (toInt_nat _ (by omega)) rfl rfl (by omega)
  have e1 : Host.clampedStart S200x20000 S1x20000 rfl (fun k => ((![(fun _ => BitVec.ofNat 32 n.val), constantI S_ 32 0#32] : Fin 2 → S_.Idx → BitVec 32) k (Shape.Idx.first h_S_)).toInt) 1 = 0 :=
    clamp_in _ _ _ 0 20000 20000 rfl rfl rfl (by omega)
  have adj : ∀ a : Fin 2, Host.clampedStart S200x20000 S1x20000 rfl (fun k => ((![(fun _ => BitVec.ofNat 32 n.val), constantI S_ 32 0#32] : Fin 2 → S_.Idx → BitVec 32) k (Shape.Idx.first h_S_)).toInt) a = (![n.val, 0] : Fin 2 → ℕ) a := fun a => by
    match a with
    | ⟨0, _⟩ => exact e0
    | ⟨1, _⟩ => exact e1
  have fits : S200x20000.Slices (![n.val, 0] : Fin 2 → ℕ) S1x20000 := ⟨rfl, fun a => by
    match a with
    | ⟨0, _⟩ => exact (show n.val + 1 ≤ 200 by omega)
    | ⟨1, _⟩ => exact (show 0 + 20000 ≤ 20000 by omega)⟩
  refine (congrFun (Host.dynamicUpdateSlice_eq_updateSlice X _ _ updateFits_S200x20000_S1x20000 ![n.val, 0] adj fits) (ix2 r j)).trans ?_
  unfold updateSlice
  by_cases h : r = n
  · subst h
    rw [if_pos rfl, dif_pos (fun a => ?_)]
    · pointwise
    · match a with
      | ⟨0, _⟩ => exact ⟨le_rfl, Nat.lt_succ_self r.val⟩
      | ⟨1, _⟩ => exact ⟨Nat.zero_le _, by show j.val < 0 + 20000; omega⟩
  · rw [if_neg h, dif_neg fun hin => h (Fin.ext ?_)]
    have h0 : n.val ≤ r.val ∧ r.val < n.val + 1 := hin 0
    omega

/-- A node's new state. -/
def newRow (zs zr : FVec Ideal S256 .f32) (W1 : FVec Ideal S256x256 .f32) (b1 : FVec Ideal S256 .f32) (W2 : FVec Ideal S256x256 .f32) (b2 : FVec Ideal S256 .f32) (τ : FVec Ideal S4 .f32) (W3 : FVec Ideal S256x4 .f32) (b3 : FVec Ideal S256 .f32) : FVec Ideal S256 .f32 :=
  Host.divf (broadcastInDim S256 ![] bcast_S_S256 (constant S_ .f32 0x3F800000#32)) (addf (broadcastInDim S256 ![] bcast_S_S256 (constant S_ .f32 0x3F800000#32)) (Host.exp (Host.negf (addf (addf (addf (addf (addf (Host.dotGeneral dot_S256_S256x256_S256_0_0_n_1_n_n none zs (transpose S256x256 [1, 0] W1 transposes_S256x256_S256x256_1_0)) b1) (Host.dotGeneral dot_S256_S256x256_S256_0_0_n_1_n_n none zr (transpose S256x256 [1, 0] W2 transposes_S256x256_S256x256_1_0))) b2) (Host.dotGeneral dot_S4_S4x256_S256_0_0_n_1_n_n none τ (transpose S4x256 [1, 0] W3 transposes_S256x4_S4x256_1_0))) b3))))

/-- A node's new state, at one entry. -/
theorem newRow_eq (zs zr : FVec Ideal S256 .f32) (W1 : FVec Ideal S256x256 .f32) (b1 : FVec Ideal S256 .f32) (W2 : FVec Ideal S256x256 .f32) (b2 : FVec Ideal S256 .f32) (τ : FVec Ideal S4 .f32) (W3 : FVec Ideal S256x4 .f32) (b3 : FVec Ideal S256 .f32) (h : Fin 256) :
    newRow zs zr W1 b1 W2 b2 τ W3 b3 (ix1 h)
      = Ideal.div 1 (1 + Ideal.exp (-(∑ x, zs (ix1 x) * W1 (ix2 h x) + b1 (ix1 h) + ∑ x, zr (ix1 x) * W2 (ix2 h x) + b2 (ix1 h) + ∑ k, τ (ix1 k) * W3 (ix2 h k) + b3 (ix1 h)))) := by
  unfold newRow
  pointwise

/-- Two rows written, the second over the first. -/
theorem scatter_rows {α : Type} (X : S10000x256.Idx → α) (U U' : S256.Idx → α) (n n' : ℕ) (hn : n < 2147483648) (hn' : n' < 2147483648) (i : Fin 10000) (h : Fin 256) :
    Host.scatter scatter_S10000x256_S1_S256_0_0_0_0 (fun _ b => b)
      (Host.scatter scatter_S10000x256_S1_S256_0_0_0_0 (fun _ b => b) X (broadcastInDim S1 ![] bcast_S_S1 (fun _ : S_.Idx => BitVec.ofNat 32 n)) U)
      (broadcastInDim S1 ![] bcast_S_S1 (fun _ : S_.Idx => BitVec.ofNat 32 n')) U' (ix2 i h)
      = if i.val = n' then U' (ix1 h) else if i.val = n then U (ix1 h) else X (ix2 i h) := by
  rw [scatter_row _ _ n' hn', scatter_row _ _ n hn]

/-- One row of the two sides' time differences. -/
theorem row_s (X : S2x4.Idx → EReal) (x : Fin 4) : shapeCast S4 (extractStridedSlice S1x4 ![0, 0] X slices_S2x4_S1x4_0_0) shapeCasts_S1x4_S4 (ix1 x) = X (ix2 0 x) := by
  pointwise

/-- The other side's row. -/
theorem row_r (X : S2x4.Idx → EReal) (x : Fin 4) : shapeCast S4 (extractStridedSlice S1x4 ![1, 0] X slices_S2x4_S1x4_1_0) shapeCasts_S1x4_S4 (ix1 x) = X (ix2 1 x) := by
  pointwise

variable {V : Valuation τ sig (Elt Ideal)} {A : Args} {k : Fin 200} {Z : Fin 10000 → Fin 256 → EReal} (H : At V A k Z)
include H

/-- The states after the trip, as two rows written. -/
theorem step18_form : step_main_v7_18 V = Host.scatter scatter_S10000x256_S1_S256_0_0_0_0 (fun _ b => b)
      (Host.scatter scatter_S10000x256_S1_S256_0_0_0_0 (fun _ b => b) (V (Proc.devRef .tc main_v7_18)) (broadcastInDim S1 ![] bcast_S_S1 (fun _ : S_.Idx => BitVec.ofNat 32 (A.nd k 0).val))
        (newRow (res_main_while0b_v29 V) (res_main_while0b_v21 V) (V (Proc.devRef .tc main_v7_11)) (V (Proc.devRef .tc main_v7_12)) (V (Proc.devRef .tc main_v7_13)) (V (Proc.devRef .tc main_v7_14)) (shapeCast S4 (extractStridedSlice S1x4 ![0, 0] (res_main_while0b_v10 V) slices_S2x4_S1x4_0_0) shapeCasts_S1x4_S4) (V (Proc.devRef .tc main_v7_15)) (V (Proc.devRef .tc main_v7_16))))
      (broadcastInDim S1 ![] bcast_S_S1 (fun _ : S_.Idx => BitVec.ofNat 32 (A.nd k 1).val))
      (newRow (res_main_while0b_v21 V) (res_main_while0b_v29 V) (V (Proc.devRef .tc main_v7_11)) (V (Proc.devRef .tc main_v7_12)) (V (Proc.devRef .tc main_v7_13)) (V (Proc.devRef .tc main_v7_14)) (shapeCast S4 (extractStridedSlice S1x4 ![1, 0] (res_main_while0b_v10 V) slices_S2x4_S1x4_1_0) shapeCasts_S1x4_S4) (V (Proc.devRef .tc main_v7_15)) (V (Proc.devRef .tc main_v7_16))) := by
  have h0 := (A.nd k 0).2
  have h1 := (A.nd k 1).2
  unfold step_main_v7_18 newRow
  rw [v8_eq H, v9_eq H, wrap _ (by omega), wrap _ (by omega)]
  rw [id_eq]

/-- The first node's new state. -/
theorem new_0 (h : Fin 256) : (newRow (res_main_while0b_v29 V) (res_main_while0b_v21 V) (V (Proc.devRef .tc main_v7_11)) (V (Proc.devRef .tc main_v7_12)) (V (Proc.devRef .tc main_v7_13)) (V (Proc.devRef .tc main_v7_14)) (shapeCast S4 (extractStridedSlice S1x4 ![0, 0] (res_main_while0b_v10 V) slices_S2x4_S1x4_0_0) shapeCasts_S1x4_S4) (V (Proc.devRef .tc main_v7_15)) (V (Proc.devRef .tc main_v7_16))) (ix1 h) = gateR A (Z (A.nd k 1)) (Z (A.nd k 0)) (A.td k 0) h := by
  rw [newRow_eq]
  simp only [row_s, v10_eq H, v21_eq H, v29_eq H, H.Ws, H.Wr, H.Wt, H.bs, H.br, H.bt]
  rfl

/-- The second node's new state. -/
theorem new_1 (h : Fin 256) : (newRow (res_main_while0b_v21 V) (res_main_while0b_v29 V) (V (Proc.devRef .tc main_v7_11)) (V (Proc.devRef .tc main_v7_12)) (V (Proc.devRef .tc main_v7_13)) (V (Proc.devRef .tc main_v7_14)) (shapeCast S4 (extractStridedSlice S1x4 ![1, 0] (res_main_while0b_v10 V) slices_S2x4_S1x4_1_0) shapeCasts_S1x4_S4) (V (Proc.devRef .tc main_v7_15)) (V (Proc.devRef .tc main_v7_16))) (ix1 h) = gateR A (Z (A.nd k 0)) (Z (A.nd k 1)) (A.td k 1) h := by
  rw [newRow_eq]
  simp only [row_r, v10_eq H, v21_eq H, v29_eq H, H.Ws, H.Wr, H.Wt, H.bs, H.br, H.bt]
  rfl

/-- The states after the trip. -/
theorem step18 (hs : ∀ x, A.sd x ≠ 0) (i : Fin 10000) (h : Fin 256) : step_main_v7_18 V (ix2 i h) = next A k Z i h := by
  have h0 := (A.nd k 0).2
  have h1 := (A.nd k 1).2
  rw [step18_form H]
  refine (scatter_rows _ _ _ (A.nd k 0).val (A.nd k 1).val (by omega) (by omega) i h).trans ?_
  rw [new_0 H, new_1 H, gateR_eq A hs, gateR_eq A hs, H.z]
  unfold next hid
  by_cases c1 : i.val = (A.nd k 1).val
  · rw [if_pos c1, if_pos (Fin.ext c1)]
    rfl
  · rw [if_neg c1, if_neg fun q => c1 (congrArg Fin.val q)]
    by_cases c0 : i.val = (A.nd k 0).val
    · rw [if_pos c0, if_pos (Fin.ext c0)]
      rfl
    · rw [if_neg c0, if_neg fun q => c0 (congrArg Fin.val q)]

/-- The intensities after the trip: row `k` is written. -/
theorem step19 (r : Fin 200) (j : Fin 20000) : step_main_v7_19 V (ix2 r j)
    = if r = k then lamR A k Z (if j.val < 10000 then 0 else 1) (if h : j.val < 10000 then ⟨j.val, h⟩ else ⟨j.val - 10000, by omega⟩)
      else V (Proc.devRef .tc main_v7_19) (ix2 r j) := by
  unfold step_main_v7_19
  rw [v102_eq H]
  refine (write_row _ _ _ k H.i r j).trans ?_
  by_cases hr : r = k
  · rw [if_pos hr, if_pos hr]
    unfold lamR
    rw [← v97_eq H]
    simp only [id]
    pointwise
  · rw [if_neg hr, if_neg hr]

/-- The trip's counter after it. -/
theorem step17 : step_main_v7_17 V = (fun _ => BitVec.ofNat 32 (k.val + 1) : S_.Idx → BitVec 32) := by
  unfold step_main_v7_17
  rw [H.i]
  funext j
  show BitVec.ofNat 32 k.val + 1#32 = _
  rw [BitVec.ofNat_add]

end Cert.ReferenceIdeal.Value
-- ==== Proof.RefValue.lean ====
module

public import proofs.«01_k».proof.Proof.RefStep

@[expose] public section

set_option maxRecDepth 16384

/-! The reference's two results, over all two hundred trips. -/

noncomputable section

namespace Cert.ReferenceIdeal.Value

open Cert.ReferenceIdeal Cert.ReferenceIdeal.Gen Cert.Spec
open Idealize.ShloMosaic
open Idealize.ShloMosaic.TcCoe Idealize.ShloMosaic.StableHlo Idealize.SL.Sem

/-- The reference's constant row is the four spreads of the time differences. -/
theorem lit_at (k : Fin 4) : lit0 (S4.rowMajor (Idealize.ShloMosaic.ix1 k))
    = (![0x42480000#32, 0x40E00000#32, 0x41700000#32, 0x41700000#32] : Fin 4 → BitVec 32) k := by
  revert k; decide +kernel

/-- The standardised time differences the loop is entered with. -/
theorem e_td (V : Valuation τ sig (Elt Ideal)) (r : Fin 200) (s : Fin 2) (k : Fin 4) :
    StableHlo.after hostOps0 V (Proc.devRef .tc main_v7_2) (ix3 r s k)
      = Ideal.div (V (Proc.devRef .tc main_arg2) (ix3 r s k))
          (Ideal.ofBits .f32 ((![0x42480000#32, 0x40E00000#32, 0x41700000#32, 0x41700000#32] : Fin 4 → BitVec 32) k)) := by
  after_reads_at
  show Ideal.div (HSub.hSub (α := EReal) (V (Proc.devRef .tc main_arg2) (ix3 r s k)) (Ideal.ofBits .f32 0x00000000#32)) (Ideal.ofBits .f32 (lit0 (S4.rowMajor (Idealize.ShloMosaic.ix1 k)))) = _
  rw [lit_at, Ideal.ofBits_zero_f32, sub_zero]

variable {A : Args}

/-- One trip takes the buffers before trip `k` to those before trip `k + 1`. -/
theorem At.step {V : Valuation τ sig (Elt Ideal)} {k : Fin 200} (H : At V A k (zAt A k.val)) (hs : ∀ x, A.sd x ≠ 0) (hk : k.val + 1 < 200) :
    At (STEP V) A ⟨k.val + 1, hk⟩ (zAt A (k.val + 1)) where
  i := by rw [STEP_main_v7_17, step17 H]
  u r := by rw [STEP_main_v7_0]; exact H.u r
  v r := by rw [STEP_main_v7_1]; exact H.v r
  e r := by rw [STEP_main_v7_3]; exact H.e r
  td r s x := by rw [STEP_main_v7_2]; exact H.td r s x
  tb r i := by rw [STEP_main_v7_4]; exact H.tb r i
  t r := by rw [STEP_main_v7_5]; exact H.t r
  wa e x := by rw [STEP_main_v7_6]; exact H.wa e x
  wb e x := by rw [STEP_main_v7_6]; exact H.wb e x
  ob e := by rw [STEP_main_v7_7]; exact H.ob e
  al e := by rw [STEP_main_v7_8]; exact H.al e
  w e := by rw [STEP_main_v7_9]; exact H.w e
  ps e := by rw [STEP_main_v7_10]; exact H.ps e
  Ws h x := by rw [STEP_main_v7_11]; exact H.Ws h x
  bs h := by rw [STEP_main_v7_12]; exact H.bs h
  Wr h x := by rw [STEP_main_v7_13]; exact H.Wr h x
  br h := by rw [STEP_main_v7_14]; exact H.br h
  Wt h x := by rw [STEP_main_v7_15]; exact H.Wt h x
  bt h := by rw [STEP_main_v7_16]; exact H.bt h
  z i h := by rw [STEP_main_v7_18, step18 H hs, zAt_succ]

section
variable {V0 : Valuation τ sig (Elt Ideal)} (H0 : At V0 A 0 (zAt A 0)) (hs : ∀ x, A.sd x ≠ 0)
include H0 hs

/-- The buffers before every trip. -/
theorem at_trip : ∀ (n : ℕ) (h : n < 200), At (STEP^[n] V0) A ⟨n, h⟩ (zAt A n)
  | 0, _ => H0
  | n + 1, h => by
    rw [Function.iterate_succ_apply']
    exact (at_trip n (by omega)).step hs h

/-- The states at the end. -/
theorem states (i : Fin 10000) (h : Fin 256) : (STEP^[200] V0) (Proc.devRef .tc main_v7_18) (ix2 i h) = zAt A 200 i h := by
  rw [Function.iterate_succ_apply' STEP 199 V0, STEP_main_v7_18, step18 (at_trip H0 hs 199 (by omega)) hs]
  exact (congrFun (congrFun (zAt_succ A ⟨199, by omega⟩) i) h).symm

/-- The intensities' rows once written. -/
theorem intensities : ∀ (n : ℕ) (_ : n ≤ 200) (r : Fin 200) (_ : r.val < n) (j : Fin 20000), (STEP^[n] V0) (Proc.devRef .tc main_v7_19) (ix2 r j)
    = lamR A r (zAt A r.val) (if j.val < 10000 then 0 else 1) (if h : j.val < 10000 then ⟨j.val, h⟩ else ⟨j.val - 10000, by omega⟩)
  | 0, _, r, hr, _ => absurd hr (Nat.not_lt_zero _)
  | n + 1, hn, r, hr, j => by
    rw [Function.iterate_succ_apply', STEP_main_v7_19, step19 (at_trip H0 hs n (by omega))]
    by_cases h : r = ⟨n, by omega⟩
    · rw [if_pos h, h]
    · rw [if_neg h]
      exact intensities n (by omega) r (by have : r.val ≠ n := fun q => h (Fin.ext q); omega) j

end

/-- The memory holds these eighteen arguments on device `c`. -/
structure Holds (m : (ℓ : Loc nD τ sig) → Buf (Elt Ideal) ℓ) (c : Dev nD)
    (a0 a1 : (⟨1, ![200]⟩ : Shape).Idx → BitVec 32) (a2 : (⟨3, ![200, 2, 4]⟩ : Shape).Idx → EReal) (a3 : (⟨1, ![200]⟩ : Shape).Idx → BitVec 32)
    (a4 : (⟨3, ![200, 10000, 1]⟩ : Shape).Idx → EReal) (a5 : (⟨1, ![200]⟩ : Shape).Idx → EReal) (a6 : (⟨2, ![10000, 256]⟩ : Shape).Idx → EReal)
    (a7 : (⟨3, ![2, 1, 512]⟩ : Shape).Idx → EReal) (a8 : (⟨2, ![2, 1]⟩ : Shape).Idx → EReal) (a9 a10 a11 : (⟨1, ![2]⟩ : Shape).Idx → EReal)
    (a12 : (⟨2, ![256, 256]⟩ : Shape).Idx → EReal) (a13 : (⟨1, ![256]⟩ : Shape).Idx → EReal) (a14 : (⟨2, ![256, 256]⟩ : Shape).Idx → EReal)
    (a15 : (⟨1, ![256]⟩ : Shape).Idx → EReal) (a16 : (⟨2, ![256, 4]⟩ : Shape).Idx → EReal) (a17 : (⟨1, ![256]⟩ : Shape).Idx → EReal) : Prop where
  g0 : m ((c.tc : Thread nD τ).loc main_arg0) = a0
  g1 : m ((c.tc : Thread nD τ).loc main_arg1) = a1
  g2 : m ((c.tc : Thread nD τ).loc main_arg2) = a2
  g3 : m ((c.tc : Thread nD τ).loc main_arg3) = a3
  g4 : m ((c.tc : Thread nD τ).loc main_arg4) = a4
  g5 : m ((c.tc : Thread nD τ).loc main_arg5) = a5
  g6 : m ((c.tc : Thread nD τ).loc main_arg6) = a6
  g7 : m ((c.tc : Thread nD τ).loc main_arg7) = a7
  g8 : m ((c.tc : Thread nD τ).loc main_arg8) = a8
  g9 : m ((c.tc : Thread nD τ).loc main_arg9) = a9
  g10 : m ((c.tc : Thread nD τ).loc main_arg10) = a10
  g11 : m ((c.tc : Thread nD τ).loc main_arg11) = a11
  g12 : m ((c.tc : Thread nD τ).loc main_arg12) = a12
  g13 : m ((c.tc : Thread nD τ).loc main_arg13) = a13
  g14 : m ((c.tc : Thread nD τ).loc main_arg14) = a14
  g15 : m ((c.tc : Thread nD τ).loc main_arg15) = a15
  g16 : m ((c.tc : Thread nD τ).loc main_arg16) = a16
  g17 : m ((c.tc : Thread nD τ).loc main_arg17) = a17

/-- A word is the word of its own value. -/
theorem word_of (w : BitVec 32) : w = BitVec.ofNat 32 w.toNat := by
  rw [BitVec.ofNat_toNat, BitVec.setWidth_eq]

section
variable {m : (ℓ : Loc nD τ sig) → Buf (Elt Ideal) ℓ} {c : Dev nD}
  {a0 a1 : (⟨1, ![200]⟩ : Shape).Idx → BitVec 32} {a2 : (⟨3, ![200, 2, 4]⟩ : Shape).Idx → EReal} {a3 : (⟨1, ![200]⟩ : Shape).Idx → BitVec 32}
  {a4 : (⟨3, ![200, 10000, 1]⟩ : Shape).Idx → EReal} {a5 : (⟨1, ![200]⟩ : Shape).Idx → EReal} {a6 : (⟨2, ![10000, 256]⟩ : Shape).Idx → EReal}
  {a7 : (⟨3, ![2, 1, 512]⟩ : Shape).Idx → EReal} {a8 : (⟨2, ![2, 1]⟩ : Shape).Idx → EReal} {a9 a10 a11 : (⟨1, ![2]⟩ : Shape).Idx → EReal}
  {a12 : (⟨2, ![256, 256]⟩ : Shape).Idx → EReal} {a13 : (⟨1, ![256]⟩ : Shape).Idx → EReal} {a14 : (⟨2, ![256, 256]⟩ : Shape).Idx → EReal}
  {a15 : (⟨1, ![256]⟩ : Shape).Idx → EReal} {a16 : (⟨2, ![256, 4]⟩ : Shape).Idx → EReal} {a17 : (⟨1, ![256]⟩ : Shape).Idx → EReal}

/-- The buffers the loop is entered with. -/
theorem entry (G : Holds m c a0 a1 a2 a3 a4 a5 a6 a7 a8 a9 a10 a11 a12 a13 a14 a15 a16 a17)
    (h0 : ∀ i, (a0 i).toNat < 10000) (h1 : ∀ i, (a1 i).toNat < 10000) (h3 : ∀ i, (a3 i).toNat < 2) :
    At (entryContents preI m c) (ofArrays a0 a1 a2 a3 a4 a5 a6 a7 a8 a9 a10 a11 a12 a13 a14 a15 a16 a17 h0 h1 h3) 0
      (zAt (ofArrays a0 a1 a2 a3 a4 a5 a6 a7 a8 a9 a10 a11 a12 a13 a14 a15 a16 a17 h0 h1 h3) 0) where
  i := by rw [ctr_entry]; rfl
  u r := by
    simp only [entryContents, afterL_cons, afterL_nil]
    after_reads_at
    exact (congrFun G.g0 _).trans (word_of _)
  v r := by
    simp only [entryContents, afterL_cons, afterL_nil]
    after_reads_at
    exact (congrFun G.g1 _).trans (word_of _)
  e r := by
    simp only [entryContents, afterL_cons, afterL_nil]
    after_reads_at
    exact (congrFun G.g3 _).trans (word_of _)
  td r s x := by
    simp only [entryContents, afterL_cons, afterL_nil]
    exact (e_td _ r s x).trans (congrArg (fun y => Ideal.div y _) (congrFun G.g2 _))
  tb r i := by
    simp only [entryContents, afterL_cons, afterL_nil]
    after_reads_at
    exact congrFun G.g4 _
  t r := by
    simp only [entryContents, afterL_cons, afterL_nil]
    after_reads_at
    exact congrFun G.g5 _
  wa e x := by
    simp only [entryContents, afterL_cons, afterL_nil]
    after_reads_at
    exact congrFun G.g7 _
  wb e x := by
    simp only [entryContents, afterL_cons, afterL_nil]
    after_reads_at
    exact congrFun G.g7 _
  ob e := by
    simp only [entryContents, afterL_cons, afterL_nil]
    after_reads_at
    exact congrFun G.g8 _
  al e := by
    simp only [entryContents, afterL_cons, afterL_nil]
    after_reads_at
    exact congrFun G.g10 _
  w e := by
    simp only [entryContents, afterL_cons, afterL_nil]
    after_reads_at
    exact congrFun G.g9 _
  ps e := by
    simp only [entryContents, afterL_cons, afterL_nil]
    after_reads_at
    exact congrFun G.g11 _
  Ws h x := by
    simp only [entryContents, afterL_cons, afterL_nil]
    after_reads_at
    exact congrFun G.g12 _
  bs h := by
    simp only [entryContents, afterL_cons, afterL_nil]
    after_reads_at
    exact congrFun G.g13 _
  Wr h x := by
    simp only [entryContents, afterL_cons, afterL_nil]
    after_reads_at
    exact congrFun G.g14 _
  br h := by
    simp only [entryContents, afterL_cons, afterL_nil]
    after_reads_at
    exact congrFun G.g15 _
  Wt h x := by
    simp only [entryContents, afterL_cons, afterL_nil]
    after_reads_at
    exact congrFun G.g16 _
  bt h := by
    simp only [entryContents, afterL_cons, afterL_nil]
    after_reads_at
    exact congrFun G.g17 _
  z i h := by
    simp only [entryContents, afterL_cons, afterL_nil]
    after_reads_at
    exact congrFun G.g6 _

/-- The reference's first result: the intensities, as the kernel writes them. -/
theorem ref_lam (G : Holds m c a0 a1 a2 a3 a4 a5 a6 a7 a8 a9 a10 a11 a12 a13 a14 a15 a16 a17)
    (h0 : ∀ i, (a0 i).toNat < 10000) (h1 : ∀ i, (a1 i).toNat < 10000) (h3 : ∀ i, (a3 i).toNat < 2)
    (F : Fine (ofArrays a0 a1 a2 a3 a4 a5 a6 a7 a8 a9 a10 a11 a12 a13 a14 a15 a16 a17 h0 h1 h3)) (r : Fin 200) (j : Fin 20000) :
    (STEP^[200] (entryContents preI m c)) (Proc.devRef .tc main_v7_19) (ix2 r j)
      = lamK (ofArrays a0 a1 a2 a3 a4 a5 a6 a7 a8 a9 a10 a11 a12 a13 a14 a15 a16 a17 h0 h1 h3) r
          (if j.val < 10000 then 0 else 1) (if h : j.val < 10000 then ⟨j.val, h⟩ else ⟨j.val - 10000, by omega⟩) := by
  rw [intensities (entry G h0 h1 h3) sd_ne 200 le_rfl r r.2 j, lamR_eq _ F]

/-- The reference's second result: the states after the last event. -/
theorem ref_z (G : Holds m c a0 a1 a2 a3 a4 a5 a6 a7 a8 a9 a10 a11 a12 a13 a14 a15 a16 a17)
    (h0 : ∀ i, (a0 i).toNat < 10000) (h1 : ∀ i, (a1 i).toNat < 10000) (h3 : ∀ i, (a3 i).toNat < 2) (i : Fin 10000) (h : Fin 256) :
    (STEP^[200] (entryContents preI m c)) (Proc.devRef .tc main_v7_18) (ix2 i h)
      = zAt (ofArrays a0 a1 a2 a3 a4 a5 a6 a7 a8 a9 a10 a11 a12 a13 a14 a15 a16 a17 h0 h1 h3) 200 i h :=
  states (entry G h0 h1 h3) sd_ne i h

end

end Cert.ReferenceIdeal.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_indices_in_range
public import proofs.«01_k».proof.Proof.Words
public import proofs.«01_k».proof.Proof.Frame
public import proofs.«01_k».proof.Proof.Bits.Frame
public import proofs.«01_k».proof.Proof.Rates
public import proofs.«01_k».proof.Proof.KernelValue
public import proofs.«01_k».proof.Proof.RefValue

@[expose] public section

noncomputable section

namespace Cert.Proof

open Idealize.ShloMosaic Idealize.SL.Sem

/-- The frame of the kernel as printed: indices in range are all it needs. -/
theorem frameP : Cert.quiescent_Kernel := fun m g h => Cert.Kernel.Scan.frame (F := Bits) m g fun c => Cert.Words.range_of (h c)

/-- The frame of the kernel over the extended reals. -/
theorem framePI : Cert.quiescent_KernelIdeal := fun m g h => Cert.KernelIdeal.Scan.frame (F := Ideal) m g fun c => Cert.Words.range_of (h c)

/-- The frame of the reference: its generated run keeps the arguments, and it declares no semaphore. -/
theorem frameRI : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The kernel over the extended reals is the printed one with the reciprocal of one hundred named. -/
theorem preservesP : Cert.preserves_Kernel_KernelIdeal := IdealRules.named_const.statement Cert.KernelIdeal.κ "inv_td" .f32 0x3C23D70A#32 ((100⁻¹ : ℝ) : EReal) rfl

/-- The words of the second precondition are in range. -/
theorem inRange (m : (ℓ : Loc Cert.KernelIdeal.nD Cert.KernelIdeal.τ Cert.KernelIdeal.sig) → Buf (Elt Ideal) ℓ) (h : Cert.Pre_KernelIdeal_indices_and_rates m) :
    Cert.KernelIdeal.Scan.InRange m := fun c => Cert.Words.rates_of ⟨(h c).1, (h c).2.1, (h c).2.2.1⟩

/-- The frame of the kernel over the extended reals under the value claim's precondition. -/
theorem framePI_rates : Cert.quiescent_KernelIdeal_pre_indices_and_rates := fun m g h => Cert.KernelIdeal.Scan.frame (F := Ideal) m g (inRange m h)

/-- The frame of the reference under the value claim's precondition. -/
theorem frameRI_rates : Cert.quiescent_ReferenceIdeal_pre_indices_and_rates := fun m g _ => frameRI m g trivial

/-- The times and rates of the second precondition are such that the two forms of the intensity agree. -/
theorem fine (m : (ℓ : Loc Cert.KernelIdeal.nD Cert.KernelIdeal.τ Cert.KernelIdeal.sig) → Buf (Elt Ideal) ℓ) (h : Cert.Pre_KernelIdeal_indices_and_rates m)
    (c : Dev Cert.KernelIdeal.nD) : Cert.Spec.Fine (Cert.KernelIdeal.Scan.argsOf m (inRange m h) c) :=
  have q := Cert.Words.fine_of (h c).2.2.2
  { t := fun _ => q.1 _
    w := fun _ => q.2.1 _
    al := fun _ => q.2.2.1 _
    ps := fun _ => q.2.2.2 _ }

/-- The kernel over the extended reals and the reference end with the same two results. -/
theorem algebraicP : Cert.algebraic_KernelIdeal_ReferenceIdeal_pre_indices_and_rates := fun m g m' g' h hm => by
  have hx : ∀ {R C : ℕ} (j : (⟨2, ![R, C]⟩ : Shape).Idx), j = ix2 (j 0) (j 1) := fun j => funext fun a => by
    match a with
    | ⟨0, _⟩ => rfl
    | ⟨1, _⟩ => rfl
  refine ⟨fun c => (fun j => Cert.Spec.lamK (Cert.KernelIdeal.Scan.argsOf m (inRange m h) c) (j 0) (Cert.KernelIdeal.Scan.side (j 1)) (Cert.KernelIdeal.Scan.node (j 1)) : Cert.KernelIdeal.S200x20000.Idx → EReal),
    fun c => (fun j => Cert.Spec.zAt (Cert.KernelIdeal.Scan.argsOf m (inRange m h) c) 200 (j 0) (j 1) : Cert.KernelIdeal.S10000x256.Idx → EReal), ?_, ?_⟩
  · exact (θ_run Cert.KernelIdeal.defs _ _).mono (fun r hr c => ⟨(hr.1 c).1, (hr.1 c).2.1,
      (hr.1 c).2.2 Cert.KernelIdeal.main_arg0 (by decide) (by decide) (by decide) (by decide) (by decide),
      (hr.1 c).2.2 Cert.KernelIdeal.main_arg1 (by decide) (by decide) (by decide) (by decide) (by decide),
      (hr.1 c).2.2 Cert.KernelIdeal.main_arg2 (by decide) (by decide) (by decide) (by decide) (by decide),
      (hr.1 c).2.2 Cert.KernelIdeal.main_arg3 (by decide) (by decide) (by decide) (by decide) (by decide),
      (hr.1 c).2.2 Cert.KernelIdeal.main_arg4 (by decide) (by decide) (by decide) (by decide) (by decide),
      (hr.1 c).2.2 Cert.KernelIdeal.main_arg5 (by decide) (by decide) (by decide) (by decide) (by decide),
      (hr.1 c).2.2 Cert.KernelIdeal.main_arg6 (by decide) (by decide) (by decide) (by decide) (by decide),
      (hr.1 c).2.2 Cert.KernelIdeal.main_arg7 (by decide) (by decide) (by decide) (by decide) (by decide),
      (hr.1 c).2.2 Cert.KernelIdeal.main_arg8 (by decide) (by decide) (by decide) (by decide) (by decide),
      (hr.1 c).2.2 Cert.KernelIdeal.main_arg9 (by decide) (by decide) (by decide) (by decide) (by decide),
      (hr.1 c).2.2 Cert.KernelIdeal.main_arg10 (by decide) (by decide) (by decide) (by decide) (by decide),
      (hr.1 c).2.2 Cert.KernelIdeal.main_arg11 (by decide) (by decide) (by decide) (by decide) (by decide),
      (hr.1 c).2.2 Cert.KernelIdeal.main_arg12 (by decide) (by decide) (by decide) (by decide) (by decide),
      (hr.1 c).2.2 Cert.KernelIdeal.main_arg13 (by decide) (by decide) (by decide) (by decide) (by decide),
      (hr.1 c).2.2 Cert.KernelIdeal.main_arg14 (by decide) (by decide) (by decide) (by decide) (by decide),
      (hr.1 c).2.2 Cert.KernelIdeal.main_arg15 (by decide) (by decide) (by decide) (by decide) (by decide),
      (hr.1 c).2.2 Cert.KernelIdeal.main_arg16 (by decide) (by decide) (by decide) (by decide) (by decide),
      (hr.1 c).2.2 Cert.KernelIdeal.main_arg17 (by decide) (by decide) (by decide) (by decide) (by decide)⟩)
      (Cert.KernelIdeal.Scan.value m (inRange m h) g)
  · have G := fun c : Dev Cert.KernelIdeal.nD => (⟨(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2.1, (hm c).2.2.2.2.2.2.2.2.2.2.2.2.2.1, (hm c).2.2.2.2.2.2.2.2.2.2.2.2.2.2.1, (hm c).2.2.2.2.2.2.2.2.2.2.2.2.2.2.2.1, (hm c).2.2.2.2.2.2.2.2.2.2.2.2.2.2.2.2.1, (hm c).2.2.2.2.2.2.2.2.2.2.2.2.2.2.2.2.2⟩ :
      Cert.ReferenceIdeal.Value.Holds m' c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
    refine (θ_run Cert.ReferenceIdeal.defs _ _).mono (fun r hr c => ⟨(hr c).1.trans (funext fun j => ?_), (hr c).2.1.trans (funext fun j => ?_), (hr c).2.2⟩)
      (Cert.ReferenceIdeal.Value.run (F := Ideal) m' g')
    · exact (congrArg _ (hx j)).trans (Cert.ReferenceIdeal.Value.ref_lam (G c) (inRange m h c).1 (inRange m h c).2.1 (inRange m h c).2.2 (fine m h c) (j 0) (j 1))
    · exact (congrArg _ (hx j)).trans (Cert.ReferenceIdeal.Value.ref_z (G c) (inRange m h c).1 (inRange m h c).2.1 (inRange m h c).2.2 (j 0) (j 1))

/-- The whole claim: the three frames, that the kernel keeps its ideal form, and that the ideal kernel and the ideal reference agree. -/
theorem claim : Cert.Claim := ⟨Cert.Kernel.Gen.facts, Cert.KernelIdeal.Gen.facts, Cert.ReferenceIdeal.Gen.facts,
  Cert.Pre_indices_in_range.Gen.facts, Cert.Pre_indices_and_rates.shapes, frameP, framePI, framePI_rates, frameRI, frameRI_rates, preservesP, algebraicP⟩

end Cert.Proof

end
